-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "twentieth" .f32 0x3D4CCCCD#32 ((20⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x64x128x128 : Shape := ⟨4, ![16, 64, 128, 128]⟩
abbrev S_ : Shape := ⟨0, ![]⟩

class Facts : Prop where
  bcast_S_S16x64x128x128 : S_.BroadcastsInDim S16x64x128x128 (![] : Fin 0 → Fin S16x64x128x128.rank)
  reducesTo_S16x64x128x128_S_d0_1_2_3 : S16x64x128x128.ReducesTo [0, 1, 2, 3] S_
  h_S_ : 0 < S_.numel

variable [Facts]

def fn {F : FTy → Type} [FloatOps F] (main_arg0 : FVec F S16x64x128x128 .f32) (main_arg1 : IVec S_ 32) : IVec S_ 1 :=
  let main_v0 : FVec F S16x64x128x128 .f32 := Host.absf main_arg0
  let main_cst : FVec F S_ .f32 := constant S_ .f32 0x7F800000#32
  let main_v1 : FVec F S16x64x128x128 .f32 := broadcastInDim S16x64x128x128 ![] bcast_S_S16x64x128x128 main_cst
  let main_v2 : IVec S16x64x128x128 1 := cmpf .olt main_v0 main_v1
  let main_c : IVec S_ 1 := constantI S_ 1 1#1
  let main_v3 : IVec S_ 1 := (fun x v => Host.reduce IntOp.andi x v reducesTo_S16x64x128x128_S_d0_1_2_3 h_S_) main_v2 main_c
  main_v3
-- ==== Kernel.lean ====
abbrev S16x64x128x128 : Shape := ⟨4, ![16, 64, 128, 128]⟩
abbrev S_ : Shape := ⟨0, ![]⟩
abbrev S16x64x16384 : Shape := ⟨3, ![16, 64, 16384]⟩
abbrev S1 : Shape := ⟨1, ![1]⟩
abbrev S2 : Shape := ⟨1, ![2]⟩
abbrev S1x1 : Shape := ⟨2, ![1, 1]⟩
abbrev S16x16384 : Shape := ⟨2, ![16, 16384]⟩
abbrev S16x1x16384 : Shape := ⟨3, ![16, 1, 16384]⟩
abbrev S16x1x128x128 : Shape := ⟨4, ![16, 1, 128, 128]⟩
abbrev S16x8x64 : Shape := ⟨3, ![16, 8, 64]⟩
abbrev S16x8x16384 : Shape := ⟨3, ![16, 8, 16384]⟩
abbrev S2x64x16384 : Shape := ⟨3, ![2, 64, 16384]⟩
abbrev S2x1x16384 : Shape := ⟨3, ![2, 1, 16384]⟩
abbrev S2x8x64 : Shape := ⟨3, ![2, 8, 64]⟩
abbrev S2x8x16384 : Shape := ⟨3, ![2, 8, 16384]⟩
abbrev S1x16384 : Shape := ⟨2, ![1, 16384]⟩
abbrev S1x64x16384 : Shape := ⟨3, ![1, 64, 16384]⟩
abbrev S64x16384 : Shape := ⟨2, ![64, 16384]⟩
abbrev S16384 : Shape := ⟨1, ![16384]⟩
abbrev S1x1x16384 : Shape := ⟨3, ![1, 1, 16384]⟩
abbrev S1x1x1 : Shape := ⟨3, ![1, 1, 1]⟩
abbrev S64x1 : Shape := ⟨2, ![64, 1]⟩
abbrev S1x64x1 : Shape := ⟨3, ![1, 64, 1]⟩
abbrev S1x64 : Shape := ⟨2, ![1, 64]⟩
abbrev S64 : Shape := ⟨1, ![64]⟩
abbrev S1x1x64 : Shape := ⟨3, ![1, 1, 64]⟩

abbrev nBuf : Space → Nat
  | .hbm => 282
  | .vmem => 8
  | .smem => 0
  | _ => 0

abbrev hbmTy0_0 (i : Nat) : BufTy := match i % 128 with
  | 0 => ⟨S16x64x128x128, .f32⟩
  | 1 => ⟨S_, .i32⟩
  | 2 => ⟨S16x64x16384, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S_, .f32⟩
  | 14 => ⟨S_, .f32⟩
  | 15 => ⟨S_, .f32⟩
  | 16 => ⟨S_, .f32⟩
  | 17 => ⟨S1x1, .f32⟩
  | 18 => ⟨S1x1, .f32⟩
  | 19 => ⟨S1, .i32⟩
  | 20 => ⟨S_, .i32⟩
  | 21 => ⟨S1, .i32⟩
  | 22 => ⟨S_, .i32⟩
  | 23 => ⟨S16x16384, .i64⟩
  | 24 => ⟨S16x16384, .i64⟩
  | 25 => ⟨S_, .i64⟩
  | 26 => ⟨S16x16384, .i64⟩
  | 27 => ⟨S16x16384, .i64⟩
  | 28 => ⟨S_, .i64⟩
  | 29 => ⟨S16x16384, .i64⟩
  | 30 => ⟨S16x16384, .i64⟩
  | 31 => ⟨S16x16384, .i64⟩
  | 32 => ⟨S_, .i64⟩
  | 33 => ⟨S16x16384, .i64⟩
  | 34 => ⟨S16x16384, .i64⟩
  | 35 => ⟨S16x16384, .i32⟩
  | 36 => ⟨S16x16384, .i32⟩
  | 37 => ⟨S_, .i32⟩
  | 38 => ⟨S_, .i32⟩
  | 39 => ⟨S_, .i32⟩
  | 40 => ⟨S16x16384, .i32⟩
  | 41 => ⟨S16x16384, .i32⟩
  | 42 => ⟨S16x16384, .i32⟩
  | 43 => ⟨S16x16384, .i32⟩
  | 44 => ⟨S16x16384, .i32⟩
  | 45 => ⟨S_, .i32⟩
  | 46 => ⟨S16x16384, .i32⟩
  | 47 => ⟨S16x16384, .i32⟩
  | 48 => ⟨S_, .i32⟩
  | 49 => ⟨S16x16384, .i32⟩
  | 50 => ⟨S16x16384, .i32⟩
  | 51 => ⟨S16x16384, .i32⟩
  | 52 => ⟨S16x16384, .i32⟩
  | 53 => ⟨S16x16384, .i32⟩
  | 54 => ⟨S_, .i32⟩
  | 55 => ⟨S16x16384, .i32⟩
  | 56 => ⟨S16x16384, .i32⟩
  | 57 => ⟨S_, .i32⟩
  | 58 => ⟨S16x16384, .i32⟩
  | 59 => ⟨S16x16384, .i32⟩
  | 60 => ⟨S16x16384, .i32⟩
  | 61 => ⟨S16x16384, .i32⟩
  | 62 => ⟨S16x16384, .i32⟩
  | 63 => ⟨S_, .i32⟩
  | 64 => ⟨S16x16384, .i32⟩
  | 65 => ⟨S16x16384, .i32⟩
  | 66 => ⟨S_, .i32⟩
  | 67 => ⟨S16x16384, .i32⟩
  | 68 => ⟨S16x16384, .i32⟩
  | 69 => ⟨S16x16384, .i32⟩
  | 70 => ⟨S16x16384, .i32⟩
  | 71 => ⟨S16x16384, .i32⟩
  | 72 => ⟨S_, .i32⟩
  | 73 => ⟨S16x16384, .i32⟩
  | 74 => ⟨S16x16384, .i32⟩
  | 75 => ⟨S_, .i32⟩
  | 76 => ⟨S16x16384, .i32⟩
  | 77 => ⟨S16x16384, .i32⟩
  | 78 => ⟨S16x16384, .i32⟩
  | 79 => ⟨S16x16384, .i32⟩
  | 80 => ⟨S16x16384, .i32⟩
  | 81 => ⟨S16x16384, .i32⟩
  | 82 => ⟨S16x16384, .i32⟩
  | 83 => ⟨S16x16384, .i32⟩
  | 84 => ⟨S_, .i32⟩
  | 85 => ⟨S16x16384, .i32⟩
  | 86 => ⟨S16x16384, .i32⟩
  | 87 => ⟨S16x16384, .i32⟩
  | 88 => ⟨S_, .i32⟩
  | 89 => ⟨S16x16384, .i32⟩
  | 90 => ⟨S16x16384, .i32⟩
  | 91 => ⟨S_, .i32⟩
  | 92 => ⟨S16x16384, .i32⟩
  | 93 => ⟨S16x16384, .i32⟩
  | 94 => ⟨S16x16384, .i32⟩
  | 95 => ⟨S16x16384, .i32⟩
  | 96 => ⟨S16x16384, .i32⟩
  | 97 => ⟨S_, .i32⟩
  | 98 => ⟨S16x16384, .i32⟩
  | 99 => ⟨S16x16384, .i32⟩
  | 100 => ⟨S_, .i32⟩
  | 101 => ⟨S16x16384, .i32⟩
  | 102 => ⟨S16x16384, .i32⟩
  | 103 => ⟨S16x16384, .i32⟩
  | 104 => ⟨S16x16384, .i32⟩
  | 105 => ⟨S16x16384, .i32⟩
  | 106 => ⟨S_, .i32⟩
  | 107 => ⟨S16x16384, .i32⟩
  | 108 => ⟨S16x16384, .i32⟩
  | 109 => ⟨S_, .i32⟩
  | 110 => ⟨S16x16384, .i32⟩
  | 111 => ⟨S16x16384, .i32⟩
  | 112 => ⟨S16x16384, .i32⟩
  | 113 => ⟨S16x16384, .i32⟩
  | 114 => ⟨S16x16384, .i32⟩
  | 115 => ⟨S_, .i32⟩
  | 116 => ⟨S16x16384, .i32⟩
  | 117 => ⟨S16x16384, .i32⟩
  | 118 => ⟨S_, .i32⟩
  | 119 => ⟨S16x16384, .i32⟩
  | 120 => ⟨S16x16384, .i32⟩
  | 121 => ⟨S16x16384, .i32⟩
  | 122 => ⟨S16x16384, .i32⟩
  | 123 => ⟨S16x16384, .i32⟩
  | 124 => ⟨S16x16384, .i32⟩
  | 125 => ⟨S16x16384, .i32⟩
  | 126 => ⟨S16x16384, .i32⟩
  | 127 => ⟨S_, .i32⟩
  | _ => ⟨S16x64x128x128, .f32⟩

abbrev hbmTy0_1 (i : Nat) : BufTy := match i % 128 with
  | 0 => ⟨S16x16384, .i32⟩
  | 1 => ⟨S16x16384, .i32⟩
  | 2 => ⟨S16x16384, .i32⟩
  | 3 => ⟨S_, .i32⟩
  | 4 => ⟨S16x16384, .i32⟩
  | 5 => ⟨S16x16384, .i32⟩
  | 6 => ⟨S_, .i32⟩
  | 7 => ⟨S16x16384, .i32⟩
  | 8 => ⟨S16x16384, .i32⟩
  | 9 => ⟨S16x16384, .i32⟩
  | 10 => ⟨S16x16384, .i32⟩
  | 11 => ⟨S16x16384, .i32⟩
  | 12 => ⟨S_, .i32⟩
  | 13 => ⟨S16x16384, .i32⟩
  | 14 => ⟨S16x16384, .i32⟩
  | 15 => ⟨S_, .i32⟩
  | 16 => ⟨S16x16384, .i32⟩
  | 17 => ⟨S16x16384, .i32⟩
  | 18 => ⟨S16x16384, .i32⟩
  | 19 => ⟨S16x16384, .i32⟩
  | 20 => ⟨S16x16384, .i32⟩
  | 21 => ⟨S_, .i32⟩
  | 22 => ⟨S16x16384, .i32⟩
  | 23 => ⟨S16x16384, .i32⟩
  | 24 => ⟨S_, .i32⟩
  | 25 => ⟨S16x16384, .i32⟩
  | 26 => ⟨S16x16384, .i32⟩
  | 27 => ⟨S16x16384, .i32⟩
  | 28 => ⟨S16x16384, .i32⟩
  | 29 => ⟨S16x16384, .i32⟩
  | 30 => ⟨S_, .i32⟩
  | 31 => ⟨S16x16384, .i32⟩
  | 32 => ⟨S16x16384, .i32⟩
  | 33 => ⟨S_, .i32⟩
  | 34 => ⟨S16x16384, .i32⟩
  | 35 => ⟨S16x16384, .i32⟩
  | 36 => ⟨S16x16384, .i32⟩
  | 37 => ⟨S16x16384, .i32⟩
  | 38 => ⟨S16x16384, .i32⟩
  | 39 => ⟨S16x16384, .i32⟩
  | 40 => ⟨S16x16384, .i32⟩
  | 41 => ⟨S16x16384, .i32⟩
  | 42 => ⟨S_, .i32⟩
  | 43 => ⟨S16x16384, .i32⟩
  | 44 => ⟨S16x16384, .i32⟩
  | 45 => ⟨S16x16384, .i32⟩
  | 46 => ⟨S_, .i32⟩
  | 47 => ⟨S16x16384, .i32⟩
  | 48 => ⟨S16x16384, .i32⟩
  | 49 => ⟨S_, .i32⟩
  | 50 => ⟨S16x16384, .i32⟩
  | 51 => ⟨S16x16384, .i32⟩
  | 52 => ⟨S16x16384, .i32⟩
  | 53 => ⟨S16x16384, .i32⟩
  | 54 => ⟨S16x16384, .i32⟩
  | 55 => ⟨S_, .i32⟩
  | 56 => ⟨S16x16384, .i32⟩
  | 57 => ⟨S16x16384, .i32⟩
  | 58 => ⟨S_, .i32⟩
  | 59 => ⟨S16x16384, .i32⟩
  | 60 => ⟨S16x16384, .i32⟩
  | 61 => ⟨S16x16384, .i32⟩
  | 62 => ⟨S16x16384, .i32⟩
  | 63 => ⟨S16x16384, .i32⟩
  | 64 => ⟨S_, .i32⟩
  | 65 => ⟨S16x16384, .i32⟩
  | 66 => ⟨S16x16384, .i32⟩
  | 67 => ⟨S_, .i32⟩
  | 68 => ⟨S16x16384, .i32⟩
  | 69 => ⟨S16x16384, .i32⟩
  | 70 => ⟨S16x16384, .i32⟩
  | 71 => ⟨S16x16384, .i32⟩
  | 72 => ⟨S16x16384, .i32⟩
  | 73 => ⟨S_, .i32⟩
  | 74 => ⟨S16x16384, .i32⟩
  | 75 => ⟨S16x16384, .i32⟩
  | 76 => ⟨S_, .i32⟩
  | 77 => ⟨S16x16384, .i32⟩
  | 78 => ⟨S16x16384, .i32⟩
  | 79 => ⟨S16x16384, .i32⟩
  | 80 => ⟨S16x16384, .i32⟩
  | 81 => ⟨S16x16384, .i32⟩
  | 82 => ⟨S16x16384, .i32⟩
  | 83 => ⟨S16x16384, .i32⟩
  | 84 => ⟨S16x16384, .i32⟩
  | 85 => ⟨S_, .i32⟩
  | 86 => ⟨S16x16384, .i32⟩
  | 87 => ⟨S16x16384, .i32⟩
  | 88 => ⟨S16x16384, .i32⟩
  | 89 => ⟨S_, .i32⟩
  | 90 => ⟨S16x16384, .i32⟩
  | 91 => ⟨S16x16384, .i32⟩
  | 92 => ⟨S_, .i32⟩
  | 93 => ⟨S16x16384, .i32⟩
  | 94 => ⟨S16x16384, .i32⟩
  | 95 => ⟨S16x16384, .i32⟩
  | 96 => ⟨S16x16384, .i32⟩
  | 97 => ⟨S16x16384, .i32⟩
  | 98 => ⟨S_, .i32⟩
  | 99 => ⟨S16x16384, .i32⟩
  | 100 => ⟨S16x16384, .i32⟩
  | 101 => ⟨S_, .i32⟩
  | 102 => ⟨S16x16384, .i32⟩
  | 103 => ⟨S16x16384, .i32⟩
  | 104 => ⟨S16x16384, .i32⟩
  | 105 => ⟨S16x16384, .i32⟩
  | 106 => ⟨S16x16384, .i32⟩
  | 107 => ⟨S_, .i32⟩
  | 108 => ⟨S16x16384, .i32⟩
  | 109 => ⟨S16x16384, .i32⟩
  | 110 => ⟨S_, .i32⟩
  | 111 => ⟨S16x16384, .i32⟩
  | 112 => ⟨S16x16384, .i32⟩
  | 113 => ⟨S16x16384, .i32⟩
  | 114 => ⟨S16x16384, .i32⟩
  | 115 => ⟨S16x16384, .i32⟩
  | 116 => ⟨S_, .i32⟩
  | 117 => ⟨S16x16384, .i32⟩
  | 118 => ⟨S16x16384, .i32⟩
  | 119 => ⟨S_, .i32⟩
  | 120 => ⟨S16x16384, .i32⟩
  | 121 => ⟨S16x16384, .i32⟩
  | 122 => ⟨S16x16384, .i32⟩
  | 123 => ⟨S16x16384, .i32⟩
  | 124 => ⟨S16x16384, .i32⟩
  | 125 => ⟨S16x16384, .i32⟩
  | 126 => ⟨S16x16384, .i32⟩
  | 127 => ⟨S16x16384, .i32⟩
  | _ => ⟨S16x64x128x128, .f32⟩

abbrev hbmTy0_2 (i : Nat) : BufTy := match i % 128 with
  | 0 => ⟨S_, .i32⟩
  | 1 => ⟨S16x16384, .i32⟩
  | 2 => ⟨S16x16384, .i32⟩
  | 3 => ⟨S16x16384, .i32⟩
  | 4 => ⟨S_, .i32⟩
  | 5 => ⟨S16x16384, .i32⟩
  | 6 => ⟨S16x16384, .i32⟩
  | 7 => ⟨S_, .i32⟩
  | 8 => ⟨S16x16384, .i32⟩
  | 9 => ⟨S16x16384, .i32⟩
  | 10 => ⟨S16x16384, .f32⟩
  | 11 => ⟨S_, .f32⟩
  | 12 => ⟨S16x16384, .f32⟩
  | 13 => ⟨S16x16384, .f32⟩
  | 14 => ⟨S1x1, .f32⟩
  | 15 => ⟨S16x16384, .f32⟩
  | 16 => ⟨S16x16384, .f32⟩
  | 17 => ⟨S16x16384, .f32⟩
  | 18 => ⟨S16x16384, .f32⟩
  | 19 => ⟨S16x16384, .f32⟩
  | 20 => ⟨S16x16384, .f32⟩
  | 21 => ⟨S16x1x16384, .f32⟩
  | 22 => ⟨S_, .f32⟩
  | 23 => ⟨S16x1x128x128, .f32⟩
  | 24 => ⟨S16x8x64, .f32⟩
  | 25 => ⟨S16x8x16384, .f32⟩
  | _ => ⟨S16x64x128x128, .f32⟩

abbrev hbmTy (i : Nat) : BufTy := match i / 128 with
  | 0 => hbmTy0_0 i
  | 1 => hbmTy0_1 i
  | 2 => hbmTy0_2 i
  | _ => ⟨S16x64x128x128, .f32⟩

abbrev bufTy : (tb : Table) → Fin (tcTables nBuf tb) → BufTy
  | .hbm, ⟨i, _⟩ => hbmTy i
  | .local _ .vmem, ⟨0, _⟩ => ⟨S2x64x16384, .f32⟩
  | .local _ .vmem, ⟨1, _⟩ => ⟨S2x64x16384, .f32⟩
  | .local _ .vmem, ⟨2, _⟩ => ⟨S2x1x16384, .f32⟩
  | .local _ .vmem, ⟨3, _⟩ => ⟨S2x1x16384, .f32⟩
  | .local _ .vmem, ⟨4, _⟩ => ⟨S2x8x64, .f32⟩
  | .local _ .vmem, ⟨5, _⟩ => ⟨S2x8x64, .f32⟩
  | .local _ .vmem, ⟨6, _⟩ => ⟨S2x8x16384, .f32⟩
  | .local _ .vmem, ⟨7, _⟩ => ⟨S2x8x16384, .f32⟩
  | _, _ => ⟨S16x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_c : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_c_1 : Ref sig .tc := ⟨.hbm, 32, rfl⟩
abbrev main_call0_v15 : Ref sig .tc := ⟨.hbm, 33, rfl⟩
abbrev main_call0_v16 : Ref sig .tc := ⟨.hbm, 34, rfl⟩
abbrev main_call0_v17 : Ref sig .tc := ⟨.hbm, 35, rfl⟩
abbrev main_call0_v18 : Ref sig .tc := ⟨.hbm, 36, rfl⟩
abbrev main_call0_call0_v0 : Ref sig .tc := ⟨.hbm, 37, rfl⟩
abbrev main_call0_call0_c : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_c_0 : Ref sig .tc := ⟨.hbm, 45, rfl⟩
abbrev main_call0_call0_v7 : Ref sig .tc := ⟨.hbm, 46, rfl⟩
abbrev main_call0_call0_v8 : Ref sig .tc := ⟨.hbm, 47, rfl⟩
abbrev main_call0_call0_c_1 : Ref sig .tc := ⟨.hbm, 48, rfl⟩
abbrev main_call0_call0_v9 : Ref sig .tc := ⟨.hbm, 49, rfl⟩
abbrev main_call0_call0_v10 : Ref sig .tc := ⟨.hbm, 50, rfl⟩
abbrev main_call0_call0_v11 : Ref sig .tc := ⟨.hbm, 51, rfl⟩
abbrev main_call0_call0_v12 : Ref sig .tc := ⟨.hbm, 52, rfl⟩
abbrev main_call0_call0_v13 : Ref sig .tc := ⟨.hbm, 53, rfl⟩
abbrev main_call0_call0_c_2 : Ref sig .tc := ⟨.hbm, 54, rfl⟩
abbrev main_call0_call0_v14 : Ref sig .tc := ⟨.hbm, 55, rfl⟩
abbrev main_call0_call0_v15 : Ref sig .tc := ⟨.hbm, 56, rfl⟩
abbrev main_call0_call0_c_3 : Ref sig .tc := ⟨.hbm, 57, rfl⟩
abbrev main_call0_call0_v16 : Ref sig .tc := ⟨.hbm, 58, rfl⟩
abbrev main_call0_call0_v17 : Ref sig .tc := ⟨.hbm, 59, rfl⟩
abbrev main_call0_call0_v18 : Ref sig .tc := ⟨.hbm, 60, rfl⟩
abbrev main_call0_call0_v19 : Ref sig .tc := ⟨.hbm, 61, rfl⟩
abbrev main_call0_call0_v20 : Ref sig .tc := ⟨.hbm, 62, rfl⟩
abbrev main_call0_call0_c_4 : Ref sig .tc := ⟨.hbm, 63, rfl⟩
abbrev main_call0_call0_v21 : Ref sig .tc := ⟨.hbm, 64, rfl⟩
abbrev main_call0_call0_v22 : Ref sig .tc := ⟨.hbm, 65, rfl⟩
abbrev main_call0_call0_c_5 : Ref sig .tc := ⟨.hbm, 66, rfl⟩
abbrev main_call0_call0_v23 : Ref sig .tc := ⟨.hbm, 67, rfl⟩
abbrev main_call0_call0_v24 : Ref sig .tc := ⟨.hbm, 68, rfl⟩
abbrev main_call0_call0_v25 : Ref sig .tc := ⟨.hbm, 69, rfl⟩
abbrev main_call0_call0_v26 : Ref sig .tc := ⟨.hbm, 70, rfl⟩
abbrev main_call0_call0_v27 : Ref sig .tc := ⟨.hbm, 71, rfl⟩
abbrev main_call0_call0_c_6 : Ref sig .tc := ⟨.hbm, 72, rfl⟩
abbrev main_call0_call0_v28 : Ref sig .tc := ⟨.hbm, 73, rfl⟩
abbrev main_call0_call0_v29 : Ref sig .tc := ⟨.hbm, 74, rfl⟩
abbrev main_call0_call0_c_7 : Ref sig .tc := ⟨.hbm, 75, rfl⟩
abbrev main_call0_call0_v30 : Ref sig .tc := ⟨.hbm, 76, rfl⟩
abbrev main_call0_call0_v31 : Ref sig .tc := ⟨.hbm, 77, rfl⟩
abbrev main_call0_call0_v32 : Ref sig .tc := ⟨.hbm, 78, rfl⟩
abbrev main_call0_call0_v33 : Ref sig .tc := ⟨.hbm, 79, rfl⟩
abbrev main_call0_call0_v34 : Ref sig .tc := ⟨.hbm, 80, rfl⟩
abbrev main_call0_call0_v35 : Ref sig .tc := ⟨.hbm, 81, rfl⟩
abbrev main_call0_call0_v36 : Ref sig .tc := ⟨.hbm, 82, rfl⟩
abbrev main_call0_call0_v37 : Ref sig .tc := ⟨.hbm, 83, rfl⟩
abbrev main_call0_call0_c_8 : Ref sig .tc := ⟨.hbm, 84, rfl⟩
abbrev main_call0_call0_v38 : Ref sig .tc := ⟨.hbm, 85, rfl⟩
abbrev main_call0_call0_v39 : Ref sig .tc := ⟨.hbm, 86, rfl⟩
abbrev main_call0_call0_v40 : Ref sig .tc := ⟨.hbm, 87, rfl⟩
abbrev main_call0_call0_c_9 : Ref sig .tc := ⟨.hbm, 88, rfl⟩
abbrev main_call0_call0_v41 : Ref sig .tc := ⟨.hbm, 89, rfl⟩
abbrev main_call0_call0_v42 : Ref sig .tc := ⟨.hbm, 90, rfl⟩
abbrev main_call0_call0_c_10 : Ref sig .tc := ⟨.hbm, 91, rfl⟩
abbrev main_call0_call0_v43 : Ref sig .tc := ⟨.hbm, 92, rfl⟩
abbrev main_call0_call0_v44 : Ref sig .tc := ⟨.hbm, 93, rfl⟩
abbrev main_call0_call0_v45 : Ref sig .tc := ⟨.hbm, 94, rfl⟩
abbrev main_call0_call0_v46 : Ref sig .tc := ⟨.hbm, 95, rfl⟩
abbrev main_call0_call0_v47 : Ref sig .tc := ⟨.hbm, 96, rfl⟩
abbrev main_call0_call0_c_11 : Ref sig .tc := ⟨.hbm, 97, rfl⟩
abbrev main_call0_call0_v48 : Ref sig .tc := ⟨.hbm, 98, rfl⟩
abbrev main_call0_call0_v49 : Ref sig .tc := ⟨.hbm, 99, rfl⟩
abbrev main_call0_call0_c_12 : Ref sig .tc := ⟨.hbm, 100, rfl⟩
abbrev main_call0_call0_v50 : Ref sig .tc := ⟨.hbm, 101, rfl⟩
abbrev main_call0_call0_v51 : Ref sig .tc := ⟨.hbm, 102, rfl⟩
abbrev main_call0_call0_v52 : Ref sig .tc := ⟨.hbm, 103, rfl⟩
abbrev main_call0_call0_v53 : Ref sig .tc := ⟨.hbm, 104, rfl⟩
abbrev main_call0_call0_v54 : Ref sig .tc := ⟨.hbm, 105, rfl⟩
abbrev main_call0_call0_c_13 : Ref sig .tc := ⟨.hbm, 106, rfl⟩
abbrev main_call0_call0_v55 : Ref sig .tc := ⟨.hbm, 107, rfl⟩
abbrev main_call0_call0_v56 : Ref sig .tc := ⟨.hbm, 108, rfl⟩
abbrev main_call0_call0_c_14 : Ref sig .tc := ⟨.hbm, 109, rfl⟩
abbrev main_call0_call0_v57 : Ref sig .tc := ⟨.hbm, 110, rfl⟩
abbrev main_call0_call0_v58 : Ref sig .tc := ⟨.hbm, 111, rfl⟩
abbrev main_call0_call0_v59 : Ref sig .tc := ⟨.hbm, 112, rfl⟩
abbrev main_call0_call0_v60 : Ref sig .tc := ⟨.hbm, 113, rfl⟩
abbrev main_call0_call0_v61 : Ref sig .tc := ⟨.hbm, 114, rfl⟩
abbrev main_call0_call0_c_15 : Ref sig .tc := ⟨.hbm, 115, rfl⟩
abbrev main_call0_call0_v62 : Ref sig .tc := ⟨.hbm, 116, rfl⟩
abbrev main_call0_call0_v63 : Ref sig .tc := ⟨.hbm, 117, rfl⟩
abbrev main_call0_call0_c_16 : Ref sig .tc := ⟨.hbm, 118, rfl⟩
abbrev main_call0_call0_v64 : Ref sig .tc := ⟨.hbm, 119, rfl⟩
abbrev main_call0_call0_v65 : Ref sig .tc := ⟨.hbm, 120, rfl⟩
abbrev main_call0_call0_v66 : Ref sig .tc := ⟨.hbm, 121, rfl⟩
abbrev main_call0_call0_v67 : Ref sig .tc := ⟨.hbm, 122, rfl⟩
abbrev main_call0_call0_v68 : Ref sig .tc := ⟨.hbm, 123, rfl⟩
abbrev main_call0_call0_v69 : Ref sig .tc := ⟨.hbm, 124, rfl⟩
abbrev main_call0_call0_v70 : Ref sig .tc := ⟨.hbm, 125, rfl⟩
abbrev main_call0_call0_v71 : Ref sig .tc := ⟨.hbm, 126, rfl⟩
abbrev main_call0_call0_c_17 : Ref sig .tc := ⟨.hbm, 127, rfl⟩
abbrev main_call0_call0_v72 : Ref sig .tc := ⟨.hbm, 128, rfl⟩
abbrev main_call0_call0_v73 : Ref sig .tc := ⟨.hbm, 129, rfl⟩
abbrev main_call0_call0_v74 : Ref sig .tc := ⟨.hbm, 130, rfl⟩
abbrev main_call0_call0_c_18 : Ref sig .tc := ⟨.hbm, 131, rfl⟩
abbrev main_call0_call0_v75 : Ref sig .tc := ⟨.hbm, 132, rfl⟩
abbrev main_call0_call0_v76 : Ref sig .tc := ⟨.hbm, 133, rfl⟩
abbrev main_call0_call0_c_19 : Ref sig .tc := ⟨.hbm, 134, rfl⟩
abbrev main_call0_call0_v77 : Ref sig .tc := ⟨.hbm, 135, rfl⟩
abbrev main_call0_call0_v78 : Ref sig .tc := ⟨.hbm, 136, rfl⟩
abbrev main_call0_call0_v79 : Ref sig .tc := ⟨.hbm, 137, rfl⟩
abbrev main_call0_call0_v80 : Ref sig .tc := ⟨.hbm, 138, rfl⟩
abbrev main_call0_call0_v81 : Ref sig .tc := ⟨.hbm, 139, rfl⟩
abbrev main_call0_call0_c_20 : Ref sig .tc := ⟨.hbm, 140, rfl⟩
abbrev main_call0_call0_v82 : Ref sig .tc := ⟨.hbm, 141, rfl⟩
abbrev main_call0_call0_v83 : Ref sig .tc := ⟨.hbm, 142, rfl⟩
abbrev main_call0_call0_c_21 : Ref sig .tc := ⟨.hbm, 143, rfl⟩
abbrev main_call0_call0_v84 : Ref sig .tc := ⟨.hbm, 144, rfl⟩
abbrev main_call0_call0_v85 : Ref sig .tc := ⟨.hbm, 145, rfl⟩
abbrev main_call0_call0_v86 : Ref sig .tc := ⟨.hbm, 146, rfl⟩
abbrev main_call0_call0_v87 : Ref sig .tc := ⟨.hbm, 147, rfl⟩
abbrev main_call0_call0_v88 : Ref sig .tc := ⟨.hbm, 148, rfl⟩
abbrev main_call0_call0_c_22 : Ref sig .tc := ⟨.hbm, 149, rfl⟩
abbrev main_call0_call0_v89 : Ref sig .tc := ⟨.hbm, 150, rfl⟩
abbrev main_call0_call0_v90 : Ref sig .tc := ⟨.hbm, 151, rfl⟩
abbrev main_call0_call0_c_23 : Ref sig .tc := ⟨.hbm, 152, rfl⟩
abbrev main_call0_call0_v91 : Ref sig .tc := ⟨.hbm, 153, rfl⟩
abbrev main_call0_call0_v92 : Ref sig .tc := ⟨.hbm, 154, rfl⟩
abbrev main_call0_call0_v93 : Ref sig .tc := ⟨.hbm, 155, rfl⟩
abbrev main_call0_call0_v94 : Ref sig .tc := ⟨.hbm, 156, rfl⟩
abbrev main_call0_call0_v95 : Ref sig .tc := ⟨.hbm, 157, rfl⟩
abbrev main_call0_call0_c_24 : Ref sig .tc := ⟨.hbm, 158, rfl⟩
abbrev main_call0_call0_v96 : Ref sig .tc := ⟨.hbm, 159, rfl⟩
abbrev main_call0_call0_v97 : Ref sig .tc := ⟨.hbm, 160, rfl⟩
abbrev main_call0_call0_c_25 : Ref sig .tc := ⟨.hbm, 161, rfl⟩
abbrev main_call0_call0_v98 : Ref sig .tc := ⟨.hbm, 162, rfl⟩
abbrev main_call0_call0_v99 : Ref sig .tc := ⟨.hbm, 163, rfl⟩
abbrev main_call0_call0_v100 : Ref sig .tc := ⟨.hbm, 164, rfl⟩
abbrev main_call0_call0_v101 : Ref sig .tc := ⟨.hbm, 165, rfl⟩
abbrev main_call0_call0_v102 : Ref sig .tc := ⟨.hbm, 166, rfl⟩
abbrev main_call0_call0_v103 : Ref sig .tc := ⟨.hbm, 167, rfl⟩
abbrev main_call0_call0_v104 : Ref sig .tc := ⟨.hbm, 168, rfl⟩
abbrev main_call0_call0_v105 : Ref sig .tc := ⟨.hbm, 169, rfl⟩
abbrev main_call0_call0_c_26 : Ref sig .tc := ⟨.hbm, 170, rfl⟩
abbrev main_call0_call0_v106 : Ref sig .tc := ⟨.hbm, 171, rfl⟩
abbrev main_call0_call0_v107 : Ref sig .tc := ⟨.hbm, 172, rfl⟩
abbrev main_call0_call0_v108 : Ref sig .tc := ⟨.hbm, 173, rfl⟩
abbrev main_call0_call0_c_27 : Ref sig .tc := ⟨.hbm, 174, rfl⟩
abbrev main_call0_call0_v109 : Ref sig .tc := ⟨.hbm, 175, rfl⟩
abbrev main_call0_call0_v110 : Ref sig .tc := ⟨.hbm, 176, rfl⟩
abbrev main_call0_call0_c_28 : Ref sig .tc := ⟨.hbm, 177, rfl⟩
abbrev main_call0_call0_v111 : Ref sig .tc := ⟨.hbm, 178, rfl⟩
abbrev main_call0_call0_v112 : Ref sig .tc := ⟨.hbm, 179, rfl⟩
abbrev main_call0_call0_v113 : Ref sig .tc := ⟨.hbm, 180, rfl⟩
abbrev main_call0_call0_v114 : Ref sig .tc := ⟨.hbm, 181, rfl⟩
abbrev main_call0_call0_v115 : Ref sig .tc := ⟨.hbm, 182, rfl⟩
abbrev main_call0_call0_c_29 : Ref sig .tc := ⟨.hbm, 183, rfl⟩
abbrev main_call0_call0_v116 : Ref sig .tc := ⟨.hbm, 184, rfl⟩
abbrev main_call0_call0_v117 : Ref sig .tc := ⟨.hbm, 185, rfl⟩
abbrev main_call0_call0_c_30 : Ref sig .tc := ⟨.hbm, 186, rfl⟩
abbrev main_call0_call0_v118 : Ref sig .tc := ⟨.hbm, 187, rfl⟩
abbrev main_call0_call0_v119 : Ref sig .tc := ⟨.hbm, 188, rfl⟩
abbrev main_call0_call0_v120 : Ref sig .tc := ⟨.hbm, 189, rfl⟩
abbrev main_call0_call0_v121 : Ref sig .tc := ⟨.hbm, 190, rfl⟩
abbrev main_call0_call0_v122 : Ref sig .tc := ⟨.hbm, 191, rfl⟩
abbrev main_call0_call0_c_31 : Ref sig .tc := ⟨.hbm, 192, rfl⟩
abbrev main_call0_call0_v123 : Ref sig .tc := ⟨.hbm, 193, rfl⟩
abbrev main_call0_call0_v124 : Ref sig .tc := ⟨.hbm, 194, rfl⟩
abbrev main_call0_call0_c_32 : Ref sig .tc := ⟨.hbm, 195, rfl⟩
abbrev main_call0_call0_v125 : Ref sig .tc := ⟨.hbm, 196, rfl⟩
abbrev main_call0_call0_v126 : Ref sig .tc := ⟨.hbm, 197, rfl⟩
abbrev main_call0_call0_v127 : Ref sig .tc := ⟨.hbm, 198, rfl⟩
abbrev main_call0_call0_v128 : Ref sig .tc := ⟨.hbm, 199, rfl⟩
abbrev main_call0_call0_v129 : Ref sig .tc := ⟨.hbm, 200, rfl⟩
abbrev main_call0_call0_c_33 : Ref sig .tc := ⟨.hbm, 201, rfl⟩
abbrev main_call0_call0_v130 : Ref sig .tc := ⟨.hbm, 202, rfl⟩
abbrev main_call0_call0_v131 : Ref sig .tc := ⟨.hbm, 203, rfl⟩
abbrev main_call0_call0_c_34 : Ref sig .tc := ⟨.hbm, 204, rfl⟩
abbrev main_call0_call0_v132 : Ref sig .tc := ⟨.hbm, 205, rfl⟩
abbrev main_call0_call0_v133 : Ref sig .tc := ⟨.hbm, 206, rfl⟩
abbrev main_call0_call0_v134 : Ref sig .tc := ⟨.hbm, 207, rfl⟩
abbrev main_call0_call0_v135 : Ref sig .tc := ⟨.hbm, 208, rfl⟩
abbrev main_call0_call0_v136 : Ref sig .tc := ⟨.hbm, 209, rfl⟩
abbrev main_call0_call0_v137 : Ref sig .tc := ⟨.hbm, 210, rfl⟩
abbrev main_call0_call0_v138 : Ref sig .tc := ⟨.hbm, 211, rfl⟩
abbrev main_call0_call0_v139 : Ref sig .tc := ⟨.hbm, 212, rfl⟩
abbrev main_call0_call0_c_35 : Ref sig .tc := ⟨.hbm, 213, rfl⟩
abbrev main_call0_call0_v140 : Ref sig .tc := ⟨.hbm, 214, rfl⟩
abbrev main_call0_call0_v141 : Ref sig .tc := ⟨.hbm, 215, rfl⟩
abbrev main_call0_call0_v142 : Ref sig .tc := ⟨.hbm, 216, rfl⟩
abbrev main_call0_call0_c_36 : Ref sig .tc := ⟨.hbm, 217, rfl⟩
abbrev main_call0_call0_v143 : Ref sig .tc := ⟨.hbm, 218, rfl⟩
abbrev main_call0_call0_v144 : Ref sig .tc := ⟨.hbm, 219, rfl⟩
abbrev main_call0_call0_c_37 : Ref sig .tc := ⟨.hbm, 220, rfl⟩
abbrev main_call0_call0_v145 : Ref sig .tc := ⟨.hbm, 221, rfl⟩
abbrev main_call0_call0_v146 : Ref sig .tc := ⟨.hbm, 222, rfl⟩
abbrev main_call0_call0_v147 : Ref sig .tc := ⟨.hbm, 223, rfl⟩
abbrev main_call0_call0_v148 : Ref sig .tc := ⟨.hbm, 224, rfl⟩
abbrev main_call0_call0_v149 : Ref sig .tc := ⟨.hbm, 225, rfl⟩
abbrev main_call0_call0_c_38 : Ref sig .tc := ⟨.hbm, 226, rfl⟩
abbrev main_call0_call0_v150 : Ref sig .tc := ⟨.hbm, 227, rfl⟩
abbrev main_call0_call0_v151 : Ref sig .tc := ⟨.hbm, 228, rfl⟩
abbrev main_call0_call0_c_39 : Ref sig .tc := ⟨.hbm, 229, rfl⟩
abbrev main_call0_call0_v152 : Ref sig .tc := ⟨.hbm, 230, rfl⟩
abbrev main_call0_call0_v153 : Ref sig .tc := ⟨.hbm, 231, rfl⟩
abbrev main_call0_call0_v154 : Ref sig .tc := ⟨.hbm, 232, rfl⟩
abbrev main_call0_call0_v155 : Ref sig .tc := ⟨.hbm, 233, rfl⟩
abbrev main_call0_call0_v156 : Ref sig .tc := ⟨.hbm, 234, rfl⟩
abbrev main_call0_call0_c_40 : Ref sig .tc := ⟨.hbm, 235, rfl⟩
abbrev main_call0_call0_v157 : Ref sig .tc := ⟨.hbm, 236, rfl⟩
abbrev main_call0_call0_v158 : Ref sig .tc := ⟨.hbm, 237, rfl⟩
abbrev main_call0_call0_c_41 : Ref sig .tc := ⟨.hbm, 238, rfl⟩
abbrev main_call0_call0_v159 : Ref sig .tc := ⟨.hbm, 239, rfl⟩
abbrev main_call0_call0_v160 : Ref sig .tc := ⟨.hbm, 240, rfl⟩
abbrev main_call0_call0_v161 : Ref sig .tc := ⟨.hbm, 241, rfl⟩
abbrev main_call0_call0_v162 : Ref sig .tc := ⟨.hbm, 242, rfl⟩
abbrev main_call0_call0_v163 : Ref sig .tc := ⟨.hbm, 243, rfl⟩
abbrev main_call0_call0_c_42 : Ref sig .tc := ⟨.hbm, 244, rfl⟩
abbrev main_call0_call0_v164 : Ref sig .tc := ⟨.hbm, 245, rfl⟩
abbrev main_call0_call0_v165 : Ref sig .tc := ⟨.hbm, 246, rfl⟩
abbrev main_call0_call0_c_43 : Ref sig .tc := ⟨.hbm, 247, rfl⟩
abbrev main_call0_call0_v166 : Ref sig .tc := ⟨.hbm, 248, rfl⟩
abbrev main_call0_call0_v167 : Ref sig .tc := ⟨.hbm, 249, rfl⟩
abbrev main_call0_call0_v168 : Ref sig .tc := ⟨.hbm, 250, rfl⟩
abbrev main_call0_call0_v169 : Ref sig .tc := ⟨.hbm, 251, rfl⟩
abbrev main_call0_call0_v170 : Ref sig .tc := ⟨.hbm, 252, rfl⟩
abbrev main_call0_v19_0 : Ref sig .tc := ⟨.hbm, 253, rfl⟩
abbrev main_call0_call0_v172 : Ref sig .tc := ⟨.hbm, 254, rfl⟩
abbrev main_call0_call0_v173 : Ref sig .tc := ⟨.hbm, 255, rfl⟩
abbrev main_call0_call0_c_44 : Ref sig .tc := ⟨.hbm, 256, rfl⟩
abbrev main_call0_call0_v174 : Ref sig .tc := ⟨.hbm, 257, rfl⟩
abbrev main_call0_v19_1 : Ref sig .tc := ⟨.hbm, 258, rfl⟩
abbrev main_call0_v20 : Ref sig .tc := ⟨.hbm, 259, rfl⟩
abbrev main_call0_c_2 : Ref sig .tc := ⟨.hbm, 260, rfl⟩
abbrev main_call0_v21 : Ref sig .tc := ⟨.hbm, 261, rfl⟩
abbrev main_call0_v22 : Ref sig .tc := ⟨.hbm, 262, rfl⟩
abbrev main_call0_c_3 : Ref sig .tc := ⟨.hbm, 263, rfl⟩
abbrev main_call0_v23 : Ref sig .tc := ⟨.hbm, 264, rfl⟩
abbrev main_call0_v24 : Ref sig .tc := ⟨.hbm, 265, rfl⟩
abbrev main_call0_v25 : Ref sig .tc := ⟨.hbm, 266, rfl⟩
abbrev main_call0_cst : Ref sig .tc := ⟨.hbm, 267, rfl⟩
abbrev main_call0_v26 : Ref sig .tc := ⟨.hbm, 268, rfl⟩
abbrev main_call0_v27 : Ref sig .tc := ⟨.hbm, 269, rfl⟩
abbrev main_call0_v28 : Ref sig .tc := ⟨.hbm, 270, rfl⟩
abbrev main_call0_v29 : Ref sig .tc := ⟨.hbm, 271, rfl⟩
abbrev main_call0_v30 : Ref sig .tc := ⟨.hbm, 272, rfl⟩
abbrev main_call0_v31 : Ref sig .tc := ⟨.hbm, 273, rfl⟩
abbrev main_call0_v32 : Ref sig .tc := ⟨.hbm, 274, rfl⟩
abbrev main_call0_v33 : Ref sig .tc := ⟨.hbm, 275, rfl⟩
abbrev main_v8 : Ref sig .tc := ⟨.hbm, 276, rfl⟩
abbrev main_v9 : Ref sig .tc := ⟨.hbm, 277, rfl⟩
abbrev main_cst_3 : Ref sig .tc := ⟨.hbm, 278, rfl⟩
abbrev main_v10 : Ref sig .tc := ⟨.hbm, 279, rfl⟩
abbrev main_v11_0 : Ref sig .tc := ⟨.hbm, 280, rfl⟩
abbrev main_v11_1 : Ref sig .tc := ⟨.hbm, 281, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v15 : BitVec 32 := Scalar.addi c0_i32 c8_i32
  let c1_i32 : BitVec 32 := 1#32
  ⟨c0_i32, v15, c1_i32⟩
def k0_off1 (k0_t1 : Fin k0_t1_loop.trips) : Fin 3 → Nat :=
  let c0_24 : Index := 0#32
  let c0_i32 : BitVec 32 := 0#32
  let c1_i32 : BitVec 32 := 1#32
  let arg5 : BitVec 32 := Scf.iv c0_i32 c1_i32 k0_t1
  let v67 : Index := Scalar.indexCast arg5
  let c0_25 : Index := 0#32
  ![0, v67.toNat, 0]
def k0_off2 (k0_t1 : Fin k0_t1_loop.trips) : Fin 3 → Nat :=
  let c0_26 : Index := 0#32
  let c0_i32 : BitVec 32 := 0#32
  let c1_i32 : BitVec 32 := 1#32
  let arg5 : BitVec 32 := Scf.iv c0_i32 c1_i32 k0_t1
  let v71 : Index := Scalar.indexCast arg5
  let c0_27 : Index := 0#32
  ![0, v71.toNat, 0]
def k0_off3 (k0_t1 : Fin k0_t1_loop.trips) : Fin 3 → Nat :=
  let c1_42 : Index := 1#32
  let c0_i32 : BitVec 32 := 0#32
  let c1_i32 : BitVec 32 := 1#32
  let arg5 : BitVec 32 := Scf.iv c0_i32 c1_i32 k0_t1
  let v128 : Index := Scalar.indexCast arg5
  let c0_43 : Index := 0#32
  ![1, v128.toNat, 0]
def k0_off4 (k0_t1 : Fin k0_t1_loop.trips) : Fin 3 → Nat :=
  let c1_44 : Index := 1#32
  let c0_i32 : BitVec 32 := 0#32
  let c1_i32 : BitVec 32 := 1#32
  let arg5 : BitVec 32 := Scf.iv c0_i32 c1_i32 k0_t1
  let v132 : Index := Scalar.indexCast arg5
  let c0_45 : Index := 0#32
  ![1, v132.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x8x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "twentieth" => some ((20⁻¹ : ℝ) : EReal)
  | _ => none
-- ==== ReferenceIdeal.lean ====
abbrev S16x64x128x128 : Shape := ⟨4, ![16, 64, 128, 128]⟩
abbrev S_ : Shape := ⟨0, ![]⟩
abbrev S16x128x128x64 : Shape := ⟨4, ![16, 128, 128, 64]⟩
abbrev S16x16384x64 : Shape := ⟨3, ![16, 16384, 64]⟩
abbrev S1 : Shape := ⟨1, ![1]⟩
abbrev S2 : Shape := ⟨1, ![2]⟩
abbrev S1x1 : Shape := ⟨2, ![1, 1]⟩
abbrev S16x16384 : Shape := ⟨2, ![16, 16384]⟩
abbrev S8x16x64 : Shape := ⟨3, ![8, 16, 64]⟩
abbrev S8x16x16384 : Shape := ⟨3, ![8, 16, 16384]⟩
abbrev S16 : Shape := ⟨1, ![16]⟩
abbrev S16x1 : Shape := ⟨2, ![16, 1]⟩
abbrev S16x1x1 : Shape := ⟨3, ![16, 1, 1]⟩
abbrev S1x1x1 : Shape := ⟨3, ![1, 1, 1]⟩
abbrev S16x1x64 : Shape := ⟨3, ![16, 1, 64]⟩
abbrev S16x16384x1 : Shape := ⟨3, ![16, 16384, 1]⟩
abbrev S16x64 : Shape := ⟨2, ![16, 64]⟩
abbrev S1x16x64 : Shape := ⟨3, ![1, 16, 64]⟩
abbrev S1x16x16384 : Shape := ⟨3, ![1, 16, 16384]⟩
abbrev S16x8x64 : Shape := ⟨3, ![16, 8, 64]⟩
abbrev S16x8x16384 : Shape := ⟨3, ![16, 8, 16384]⟩
abbrev S16x1x128x128 : Shape := ⟨4, ![16, 1, 128, 128]⟩

abbrev nBuf : Space → Nat
  | .hbm => 359
  | .vmem => 0
  | .smem => 0
  | _ => 0

abbrev hbmTy0_0 (i : Nat) : BufTy := match i % 128 with
  | 0 => ⟨S16x64x128x128, .f32⟩
  | 1 => ⟨S_, .i32⟩
  | 2 => ⟨S16x128x128x64, .f32⟩
  | 3 => ⟨S16x16384x64, .f32⟩
  | 4 => ⟨S_, .i32⟩
  | 5 => ⟨S_, .i32⟩
  | 6 => ⟨S_, .i32⟩
  | 7 => ⟨S_, .i32⟩
  | 8 => ⟨S1, .i32⟩
  | 9 => ⟨S_, .i32⟩
  | 10 => ⟨S_, .i32⟩
  | 11 => ⟨S_, .i32⟩
  | 12 => ⟨S1, .i32⟩
  | 13 => ⟨S2, .i32⟩
  | 14 => ⟨S_, .f32⟩
  | 15 => ⟨S_, .f32⟩
  | 16 => ⟨S_, .f32⟩
  | 17 => ⟨S_, .f32⟩
  | 18 => ⟨S1x1, .f32⟩
  | 19 => ⟨S1x1, .f32⟩
  | 20 => ⟨S1, .i32⟩
  | 21 => ⟨S_, .i32⟩
  | 22 => ⟨S1, .i32⟩
  | 23 => ⟨S_, .i32⟩
  | 24 => ⟨S16x16384, .i64⟩
  | 25 => ⟨S16x16384, .i64⟩
  | 26 => ⟨S_, .i64⟩
  | 27 => ⟨S16x16384, .i64⟩
  | 28 => ⟨S16x16384, .i64⟩
  | 29 => ⟨S_, .i64⟩
  | 30 => ⟨S16x16384, .i64⟩
  | 31 => ⟨S16x16384, .i64⟩
  | 32 => ⟨S16x16384, .i64⟩
  | 33 => ⟨S_, .i64⟩
  | 34 => ⟨S16x16384, .i64⟩
  | 35 => ⟨S16x16384, .i64⟩
  | 36 => ⟨S16x16384, .i32⟩
  | 37 => ⟨S16x16384, .i32⟩
  | 38 => ⟨S_, .i32⟩
  | 39 => ⟨S_, .i32⟩
  | 40 => ⟨S_, .i32⟩
  | 41 => ⟨S16x16384, .i32⟩
  | 42 => ⟨S16x16384, .i32⟩
  | 43 => ⟨S16x16384, .i32⟩
  | 44 => ⟨S16x16384, .i32⟩
  | 45 => ⟨S16x16384, .i32⟩
  | 46 => ⟨S_, .i32⟩
  | 47 => ⟨S16x16384, .i32⟩
  | 48 => ⟨S16x16384, .i32⟩
  | 49 => ⟨S_, .i32⟩
  | 50 => ⟨S16x16384, .i32⟩
  | 51 => ⟨S16x16384, .i32⟩
  | 52 => ⟨S16x16384, .i32⟩
  | 53 => ⟨S16x16384, .i32⟩
  | 54 => ⟨S16x16384, .i32⟩
  | 55 => ⟨S_, .i32⟩
  | 56 => ⟨S16x16384, .i32⟩
  | 57 => ⟨S16x16384, .i32⟩
  | 58 => ⟨S_, .i32⟩
  | 59 => ⟨S16x16384, .i32⟩
  | 60 => ⟨S16x16384, .i32⟩
  | 61 => ⟨S16x16384, .i32⟩
  | 62 => ⟨S16x16384, .i32⟩
  | 63 => ⟨S16x16384, .i32⟩
  | 64 => ⟨S_, .i32⟩
  | 65 => ⟨S16x16384, .i32⟩
  | 66 => ⟨S16x16384, .i32⟩
  | 67 => ⟨S_, .i32⟩
  | 68 => ⟨S16x16384, .i32⟩
  | 69 => ⟨S16x16384, .i32⟩
  | 70 => ⟨S16x16384, .i32⟩
  | 71 => ⟨S16x16384, .i32⟩
  | 72 => ⟨S16x16384, .i32⟩
  | 73 => ⟨S_, .i32⟩
  | 74 => ⟨S16x16384, .i32⟩
  | 75 => ⟨S16x16384, .i32⟩
  | 76 => ⟨S_, .i32⟩
  | 77 => ⟨S16x16384, .i32⟩
  | 78 => ⟨S16x16384, .i32⟩
  | 79 => ⟨S16x16384, .i32⟩
  | 80 => ⟨S16x16384, .i32⟩
  | 81 => ⟨S16x16384, .i32⟩
  | 82 => ⟨S16x16384, .i32⟩
  | 83 => ⟨S16x16384, .i32⟩
  | 84 => ⟨S16x16384, .i32⟩
  | 85 => ⟨S_, .i32⟩
  | 86 => ⟨S16x16384, .i32⟩
  | 87 => ⟨S16x16384, .i32⟩
  | 88 => ⟨S16x16384, .i32⟩
  | 89 => ⟨S_, .i32⟩
  | 90 => ⟨S16x16384, .i32⟩
  | 91 => ⟨S16x16384, .i32⟩
  | 92 => ⟨S_, .i32⟩
  | 93 => ⟨S16x16384, .i32⟩
  | 94 => ⟨S16x16384, .i32⟩
  | 95 => ⟨S16x16384, .i32⟩
  | 96 => ⟨S16x16384, .i32⟩
  | 97 => ⟨S16x16384, .i32⟩
  | 98 => ⟨S_, .i32⟩
  | 99 => ⟨S16x16384, .i32⟩
  | 100 => ⟨S16x16384, .i32⟩
  | 101 => ⟨S_, .i32⟩
  | 102 => ⟨S16x16384, .i32⟩
  | 103 => ⟨S16x16384, .i32⟩
  | 104 => ⟨S16x16384, .i32⟩
  | 105 => ⟨S16x16384, .i32⟩
  | 106 => ⟨S16x16384, .i32⟩
  | 107 => ⟨S_, .i32⟩
  | 108 => ⟨S16x16384, .i32⟩
  | 109 => ⟨S16x16384, .i32⟩
  | 110 => ⟨S_, .i32⟩
  | 111 => ⟨S16x16384, .i32⟩
  | 112 => ⟨S16x16384, .i32⟩
  | 113 => ⟨S16x16384, .i32⟩
  | 114 => ⟨S16x16384, .i32⟩
  | 115 => ⟨S16x16384, .i32⟩
  | 116 => ⟨S_, .i32⟩
  | 117 => ⟨S16x16384, .i32⟩
  | 118 => ⟨S16x16384, .i32⟩
  | 119 => ⟨S_, .i32⟩
  | 120 => ⟨S16x16384, .i32⟩
  | 121 => ⟨S16x16384, .i32⟩
  | 122 => ⟨S16x16384, .i32⟩
  | 123 => ⟨S16x16384, .i32⟩
  | 124 => ⟨S16x16384, .i32⟩
  | 125 => ⟨S16x16384, .i32⟩
  | 126 => ⟨S16x16384, .i32⟩
  | 127 => ⟨S16x16384, .i32⟩
  | _ => ⟨S16x64x128x128, .f32⟩

abbrev hbmTy0_1 (i : Nat) : BufTy := match i % 128 with
  | 0 => ⟨S_, .i32⟩
  | 1 => ⟨S16x16384, .i32⟩
  | 2 => ⟨S16x16384, .i32⟩
  | 3 => ⟨S16x16384, .i32⟩
  | 4 => ⟨S_, .i32⟩
  | 5 => ⟨S16x16384, .i32⟩
  | 6 => ⟨S16x16384, .i32⟩
  | 7 => ⟨S_, .i32⟩
  | 8 => ⟨S16x16384, .i32⟩
  | 9 => ⟨S16x16384, .i32⟩
  | 10 => ⟨S16x16384, .i32⟩
  | 11 => ⟨S16x16384, .i32⟩
  | 12 => ⟨S16x16384, .i32⟩
  | 13 => ⟨S_, .i32⟩
  | 14 => ⟨S16x16384, .i32⟩
  | 15 => ⟨S16x16384, .i32⟩
  | 16 => ⟨S_, .i32⟩
  | 17 => ⟨S16x16384, .i32⟩
  | 18 => ⟨S16x16384, .i32⟩
  | 19 => ⟨S16x16384, .i32⟩
  | 20 => ⟨S16x16384, .i32⟩
  | 21 => ⟨S16x16384, .i32⟩
  | 22 => ⟨S_, .i32⟩
  | 23 => ⟨S16x16384, .i32⟩
  | 24 => ⟨S16x16384, .i32⟩
  | 25 => ⟨S_, .i32⟩
  | 26 => ⟨S16x16384, .i32⟩
  | 27 => ⟨S16x16384, .i32⟩
  | 28 => ⟨S16x16384, .i32⟩
  | 29 => ⟨S16x16384, .i32⟩
  | 30 => ⟨S16x16384, .i32⟩
  | 31 => ⟨S_, .i32⟩
  | 32 => ⟨S16x16384, .i32⟩
  | 33 => ⟨S16x16384, .i32⟩
  | 34 => ⟨S_, .i32⟩
  | 35 => ⟨S16x16384, .i32⟩
  | 36 => ⟨S16x16384, .i32⟩
  | 37 => ⟨S16x16384, .i32⟩
  | 38 => ⟨S16x16384, .i32⟩
  | 39 => ⟨S16x16384, .i32⟩
  | 40 => ⟨S16x16384, .i32⟩
  | 41 => ⟨S16x16384, .i32⟩
  | 42 => ⟨S16x16384, .i32⟩
  | 43 => ⟨S_, .i32⟩
  | 44 => ⟨S16x16384, .i32⟩
  | 45 => ⟨S16x16384, .i32⟩
  | 46 => ⟨S16x16384, .i32⟩
  | 47 => ⟨S_, .i32⟩
  | 48 => ⟨S16x16384, .i32⟩
  | 49 => ⟨S16x16384, .i32⟩
  | 50 => ⟨S_, .i32⟩
  | 51 => ⟨S16x16384, .i32⟩
  | 52 => ⟨S16x16384, .i32⟩
  | 53 => ⟨S16x16384, .i32⟩
  | 54 => ⟨S16x16384, .i32⟩
  | 55 => ⟨S16x16384, .i32⟩
  | 56 => ⟨S_, .i32⟩
  | 57 => ⟨S16x16384, .i32⟩
  | 58 => ⟨S16x16384, .i32⟩
  | 59 => ⟨S_, .i32⟩
  | 60 => ⟨S16x16384, .i32⟩
  | 61 => ⟨S16x16384, .i32⟩
  | 62 => ⟨S16x16384, .i32⟩
  | 63 => ⟨S16x16384, .i32⟩
  | 64 => ⟨S16x16384, .i32⟩
  | 65 => ⟨S_, .i32⟩
  | 66 => ⟨S16x16384, .i32⟩
  | 67 => ⟨S16x16384, .i32⟩
  | 68 => ⟨S_, .i32⟩
  | 69 => ⟨S16x16384, .i32⟩
  | 70 => ⟨S16x16384, .i32⟩
  | 71 => ⟨S16x16384, .i32⟩
  | 72 => ⟨S16x16384, .i32⟩
  | 73 => ⟨S16x16384, .i32⟩
  | 74 => ⟨S_, .i32⟩
  | 75 => ⟨S16x16384, .i32⟩
  | 76 => ⟨S16x16384, .i32⟩
  | 77 => ⟨S_, .i32⟩
  | 78 => ⟨S16x16384, .i32⟩
  | 79 => ⟨S16x16384, .i32⟩
  | 80 => ⟨S16x16384, .i32⟩
  | 81 => ⟨S16x16384, .i32⟩
  | 82 => ⟨S16x16384, .i32⟩
  | 83 => ⟨S16x16384, .i32⟩
  | 84 => ⟨S16x16384, .i32⟩
  | 85 => ⟨S16x16384, .i32⟩
  | 86 => ⟨S_, .i32⟩
  | 87 => ⟨S16x16384, .i32⟩
  | 88 => ⟨S16x16384, .i32⟩
  | 89 => ⟨S16x16384, .i32⟩
  | 90 => ⟨S_, .i32⟩
  | 91 => ⟨S16x16384, .i32⟩
  | 92 => ⟨S16x16384, .i32⟩
  | 93 => ⟨S_, .i32⟩
  | 94 => ⟨S16x16384, .i32⟩
  | 95 => ⟨S16x16384, .i32⟩
  | 96 => ⟨S16x16384, .i32⟩
  | 97 => ⟨S16x16384, .i32⟩
  | 98 => ⟨S16x16384, .i32⟩
  | 99 => ⟨S_, .i32⟩
  | 100 => ⟨S16x16384, .i32⟩
  | 101 => ⟨S16x16384, .i32⟩
  | 102 => ⟨S_, .i32⟩
  | 103 => ⟨S16x16384, .i32⟩
  | 104 => ⟨S16x16384, .i32⟩
  | 105 => ⟨S16x16384, .i32⟩
  | 106 => ⟨S16x16384, .i32⟩
  | 107 => ⟨S16x16384, .i32⟩
  | 108 => ⟨S_, .i32⟩
  | 109 => ⟨S16x16384, .i32⟩
  | 110 => ⟨S16x16384, .i32⟩
  | 111 => ⟨S_, .i32⟩
  | 112 => ⟨S16x16384, .i32⟩
  | 113 => ⟨S16x16384, .i32⟩
  | 114 => ⟨S16x16384, .i32⟩
  | 115 => ⟨S16x16384, .i32⟩
  | 116 => ⟨S16x16384, .i32⟩
  | 117 => ⟨S_, .i32⟩
  | 118 => ⟨S16x16384, .i32⟩
  | 119 => ⟨S16x16384, .i32⟩
  | 120 => ⟨S_, .i32⟩
  | 121 => ⟨S16x16384, .i32⟩
  | 122 => ⟨S16x16384, .i32⟩
  | 123 => ⟨S16x16384, .i32⟩
  | 124 => ⟨S16x16384, .i32⟩
  | 125 => ⟨S16x16384, .i32⟩
  | 126 => ⟨S16x16384, .i32⟩
  | 127 => ⟨S16x16384, .i32⟩
  | _ => ⟨S16x64x128x128, .f32⟩

abbrev hbmTy0_2 (i : Nat) : BufTy := match i % 128 with
  | 0 => ⟨S16x16384, .i32⟩
  | 1 => ⟨S_, .i32⟩
  | 2 => ⟨S16x16384, .i32⟩
  | 3 => ⟨S16x16384, .i32⟩
  | 4 => ⟨S16x16384, .i32⟩
  | 5 => ⟨S_, .i32⟩
  | 6 => ⟨S16x16384, .i32⟩
  | 7 => ⟨S16x16384, .i32⟩
  | 8 => ⟨S_, .i32⟩
  | 9 => ⟨S16x16384, .i32⟩
  | 10 => ⟨S16x16384, .i32⟩
  | 11 => ⟨S16x16384, .f32⟩
  | 12 => ⟨S_, .f32⟩
  | 13 => ⟨S16x16384, .f32⟩
  | 14 => ⟨S16x16384, .f32⟩
  | 15 => ⟨S1x1, .f32⟩
  | 16 => ⟨S16x16384, .f32⟩
  | 17 => ⟨S16x16384, .f32⟩
  | 18 => ⟨S16x16384, .f32⟩
  | 19 => ⟨S16x16384, .f32⟩
  | 20 => ⟨S16x16384, .f32⟩
  | 21 => ⟨S16x16384, .f32⟩
  | 22 => ⟨S_, .f32⟩
  | 23 => ⟨S8x16x64, .f32⟩
  | 24 => ⟨S_, .f32⟩
  | 25 => ⟨S8x16x16384, .f32⟩
  | 26 => ⟨S_, .i32⟩
  | 27 => ⟨S16x16384x64, .f32⟩
  | 28 => ⟨S_, .i32⟩
  | 29 => ⟨S16x16384, .f32⟩
  | 30 => ⟨S8x16x64, .f32⟩
  | 31 => ⟨S8x16x16384, .f32⟩
  | 32 => ⟨S_, .i32⟩
  | 33 => ⟨S_, .i1⟩
  | 34 => ⟨S16x16384, .i32⟩
  | 35 => ⟨S_, .f32⟩
  | 36 => ⟨S_, .i32⟩
  | 37 => ⟨S16, .f32⟩
  | 38 => ⟨S16, .i32⟩
  | 39 => ⟨S16x1, .i32⟩
  | 40 => ⟨S16x1x1, .i32⟩
  | 41 => ⟨S_, .i32⟩
  | 42 => ⟨S16x1x1, .i32⟩
  | 43 => ⟨S16x1x1, .i1⟩
  | 44 => ⟨S_, .i32⟩
  | 45 => ⟨S16x1x1, .i32⟩
  | 46 => ⟨S16x1x1, .i32⟩
  | 47 => ⟨S16x1x1, .i32⟩
  | 48 => ⟨S1, .i32⟩
  | 49 => ⟨S_, .i32⟩
  | 50 => ⟨S16x1x1, .i32⟩
  | 51 => ⟨S16x1x1, .i1⟩
  | 52 => ⟨S1x1x1, .i32⟩
  | 53 => ⟨S16x1x1, .i32⟩
  | 54 => ⟨S16x1x1, .i1⟩
  | 55 => ⟨S16x1x1, .i1⟩
  | 56 => ⟨S_, .i1⟩
  | 57 => ⟨S16x1, .i1⟩
  | 58 => ⟨S16x1x64, .f32⟩
  | 59 => ⟨S16x1x64, .i1⟩
  | 60 => ⟨S_, .f32⟩
  | 61 => ⟨S16x1x64, .f32⟩
  | 62 => ⟨S16x1x64, .f32⟩
  | 63 => ⟨S16x16384x64, .f32⟩
  | 64 => ⟨S16x16384x64, .f32⟩
  | 65 => ⟨S16x16384x64, .f32⟩
  | 66 => ⟨S_, .f32⟩
  | 67 => ⟨S16x16384, .f32⟩
  | 68 => ⟨S16x16384, .f32⟩
  | 69 => ⟨S16x16384, .f32⟩
  | 70 => ⟨S_, .f32⟩
  | 71 => ⟨S16x16384, .f32⟩
  | 72 => ⟨S16x16384, .f32⟩
  | 73 => ⟨S16x16384, .f32⟩
  | 74 => ⟨S_, .f32⟩
  | 75 => ⟨S16, .f32⟩
  | 76 => ⟨S16x1, .f32⟩
  | 77 => ⟨S16x16384, .f32⟩
  | 78 => ⟨S16x16384, .f32⟩
  | 79 => ⟨S16x16384x1, .f32⟩
  | 80 => ⟨S16x16384x64, .f32⟩
  | 81 => ⟨S16x16384x64, .f32⟩
  | 82 => ⟨S_, .f32⟩
  | 83 => ⟨S16x64, .f32⟩
  | 84 => ⟨S_, .f32⟩
  | 85 => ⟨S16x16384, .f32⟩
  | 86 => ⟨S16x16384, .f32⟩
  | 87 => ⟨S16x16384, .f32⟩
  | 88 => ⟨S1x16x64, .f32⟩
  | 89 => ⟨S_, .i32⟩
  | 90 => ⟨S_, .i32⟩
  | 91 => ⟨S8x16x64, .f32⟩
  | 92 => ⟨S1x16x16384, .f32⟩
  | 93 => ⟨S_, .i32⟩
  | 94 => ⟨S_, .i32⟩
  | 95 => ⟨S8x16x16384, .f32⟩
  | 96 => ⟨S_, .i32⟩
  | 97 => ⟨S_, .i32⟩
  | 98 => ⟨S16x8x64, .f32⟩
  | 99 => ⟨S16x8x16384, .f32⟩
  | 100 => ⟨S_, .f32⟩
  | 101 => ⟨S16x16384, .f32⟩
  | 102 => ⟨S16x1x128x128, .f32⟩
  | _ => ⟨S16x64x128x128, .f32⟩

abbrev hbmTy (i : Nat) : BufTy := match i / 128 with
  | 0 => hbmTy0_0 i
  | 1 => hbmTy0_1 i
  | 2 => hbmTy0_2 i
  | _ => ⟨S16x64x128x128, .f32⟩

abbrev bufTy : (tb : Table) → Fin (tcTables nBuf tb) → BufTy
  | .hbm, ⟨i, _⟩ => hbmTy i
  | _, _ => ⟨S16x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_c : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_c_1 : Ref sig .tc := ⟨.hbm, 33, rfl⟩
abbrev main_call0_v15 : Ref sig .tc := ⟨.hbm, 34, rfl⟩
abbrev main_call0_v16 : Ref sig .tc := ⟨.hbm, 35, rfl⟩
abbrev main_call0_v17 : Ref sig .tc := ⟨.hbm, 36, rfl⟩
abbrev main_call0_v18 : Ref sig .tc := ⟨.hbm, 37, rfl⟩
abbrev main_call0_call0_v0 : Ref sig .tc := ⟨.hbm, 38, rfl⟩
abbrev main_call0_call0_c : Ref sig .tc := ⟨.hbm, 39, rfl⟩
abbrev main_call0_call0_v1 : Ref sig .tc := ⟨.hbm, 40, rfl⟩
abbrev main_call0_call0_v2 : Ref sig .tc := ⟨.hbm, 41, rfl⟩
abbrev main_call0_call0_v3 : Ref sig .tc := ⟨.hbm, 42, rfl⟩
abbrev main_call0_call0_v4 : Ref sig .tc := ⟨.hbm, 43, rfl⟩
abbrev main_call0_call0_v5 : Ref sig .tc := ⟨.hbm, 44, rfl⟩
abbrev main_call0_call0_v6 : Ref sig .tc := ⟨.hbm, 45, rfl⟩
abbrev main_call0_call0_c_0 : Ref sig .tc := ⟨.hbm, 46, rfl⟩
abbrev main_call0_call0_v7 : Ref sig .tc := ⟨.hbm, 47, rfl⟩
abbrev main_call0_call0_v8 : Ref sig .tc := ⟨.hbm, 48, rfl⟩
abbrev main_call0_call0_c_1 : Ref sig .tc := ⟨.hbm, 49, rfl⟩
abbrev main_call0_call0_v9 : Ref sig .tc := ⟨.hbm, 50, rfl⟩
abbrev main_call0_call0_v10 : Ref sig .tc := ⟨.hbm, 51, rfl⟩
abbrev main_call0_call0_v11 : Ref sig .tc := ⟨.hbm, 52, rfl⟩
abbrev main_call0_call0_v12 : Ref sig .tc := ⟨.hbm, 53, rfl⟩
abbrev main_call0_call0_v13 : Ref sig .tc := ⟨.hbm, 54, rfl⟩
abbrev main_call0_call0_c_2 : Ref sig .tc := ⟨.hbm, 55, rfl⟩
abbrev main_call0_call0_v14 : Ref sig .tc := ⟨.hbm, 56, rfl⟩
abbrev main_call0_call0_v15 : Ref sig .tc := ⟨.hbm, 57, rfl⟩
abbrev main_call0_call0_c_3 : Ref sig .tc := ⟨.hbm, 58, rfl⟩
abbrev main_call0_call0_v16 : Ref sig .tc := ⟨.hbm, 59, rfl⟩
abbrev main_call0_call0_v17 : Ref sig .tc := ⟨.hbm, 60, rfl⟩
abbrev main_call0_call0_v18 : Ref sig .tc := ⟨.hbm, 61, rfl⟩
abbrev main_call0_call0_v19 : Ref sig .tc := ⟨.hbm, 62, rfl⟩
abbrev main_call0_call0_v20 : Ref sig .tc := ⟨.hbm, 63, rfl⟩
abbrev main_call0_call0_c_4 : Ref sig .tc := ⟨.hbm, 64, rfl⟩
abbrev main_call0_call0_v21 : Ref sig .tc := ⟨.hbm, 65, rfl⟩
abbrev main_call0_call0_v22 : Ref sig .tc := ⟨.hbm, 66, rfl⟩
abbrev main_call0_call0_c_5 : Ref sig .tc := ⟨.hbm, 67, rfl⟩
abbrev main_call0_call0_v23 : Ref sig .tc := ⟨.hbm, 68, rfl⟩
abbrev main_call0_call0_v24 : Ref sig .tc := ⟨.hbm, 69, rfl⟩
abbrev main_call0_call0_v25 : Ref sig .tc := ⟨.hbm, 70, rfl⟩
abbrev main_call0_call0_v26 : Ref sig .tc := ⟨.hbm, 71, rfl⟩
abbrev main_call0_call0_v27 : Ref sig .tc := ⟨.hbm, 72, rfl⟩
abbrev main_call0_call0_c_6 : Ref sig .tc := ⟨.hbm, 73, rfl⟩
abbrev main_call0_call0_v28 : Ref sig .tc := ⟨.hbm, 74, rfl⟩
abbrev main_call0_call0_v29 : Ref sig .tc := ⟨.hbm, 75, rfl⟩
abbrev main_call0_call0_c_7 : Ref sig .tc := ⟨.hbm, 76, rfl⟩
abbrev main_call0_call0_v30 : Ref sig .tc := ⟨.hbm, 77, rfl⟩
abbrev main_call0_call0_v31 : Ref sig .tc := ⟨.hbm, 78, rfl⟩
abbrev main_call0_call0_v32 : Ref sig .tc := ⟨.hbm, 79, rfl⟩
abbrev main_call0_call0_v33 : Ref sig .tc := ⟨.hbm, 80, rfl⟩
abbrev main_call0_call0_v34 : Ref sig .tc := ⟨.hbm, 81, rfl⟩
abbrev main_call0_call0_v35 : Ref sig .tc := ⟨.hbm, 82, rfl⟩
abbrev main_call0_call0_v36 : Ref sig .tc := ⟨.hbm, 83, rfl⟩
abbrev main_call0_call0_v37 : Ref sig .tc := ⟨.hbm, 84, rfl⟩
abbrev main_call0_call0_c_8 : Ref sig .tc := ⟨.hbm, 85, rfl⟩
abbrev main_call0_call0_v38 : Ref sig .tc := ⟨.hbm, 86, rfl⟩
abbrev main_call0_call0_v39 : Ref sig .tc := ⟨.hbm, 87, rfl⟩
abbrev main_call0_call0_v40 : Ref sig .tc := ⟨.hbm, 88, rfl⟩
abbrev main_call0_call0_c_9 : Ref sig .tc := ⟨.hbm, 89, rfl⟩
abbrev main_call0_call0_v41 : Ref sig .tc := ⟨.hbm, 90, rfl⟩
abbrev main_call0_call0_v42 : Ref sig .tc := ⟨.hbm, 91, rfl⟩
abbrev main_call0_call0_c_10 : Ref sig .tc := ⟨.hbm, 92, rfl⟩
abbrev main_call0_call0_v43 : Ref sig .tc := ⟨.hbm, 93, rfl⟩
abbrev main_call0_call0_v44 : Ref sig .tc := ⟨.hbm, 94, rfl⟩
abbrev main_call0_call0_v45 : Ref sig .tc := ⟨.hbm, 95, rfl⟩
abbrev main_call0_call0_v46 : Ref sig .tc := ⟨.hbm, 96, rfl⟩
abbrev main_call0_call0_v47 : Ref sig .tc := ⟨.hbm, 97, rfl⟩
abbrev main_call0_call0_c_11 : Ref sig .tc := ⟨.hbm, 98, rfl⟩
abbrev main_call0_call0_v48 : Ref sig .tc := ⟨.hbm, 99, rfl⟩
abbrev main_call0_call0_v49 : Ref sig .tc := ⟨.hbm, 100, rfl⟩
abbrev main_call0_call0_c_12 : Ref sig .tc := ⟨.hbm, 101, rfl⟩
abbrev main_call0_call0_v50 : Ref sig .tc := ⟨.hbm, 102, rfl⟩
abbrev main_call0_call0_v51 : Ref sig .tc := ⟨.hbm, 103, rfl⟩
abbrev main_call0_call0_v52 : Ref sig .tc := ⟨.hbm, 104, rfl⟩
abbrev main_call0_call0_v53 : Ref sig .tc := ⟨.hbm, 105, rfl⟩
abbrev main_call0_call0_v54 : Ref sig .tc := ⟨.hbm, 106, rfl⟩
abbrev main_call0_call0_c_13 : Ref sig .tc := ⟨.hbm, 107, rfl⟩
abbrev main_call0_call0_v55 : Ref sig .tc := ⟨.hbm, 108, rfl⟩
abbrev main_call0_call0_v56 : Ref sig .tc := ⟨.hbm, 109, rfl⟩
abbrev main_call0_call0_c_14 : Ref sig .tc := ⟨.hbm, 110, rfl⟩
abbrev main_call0_call0_v57 : Ref sig .tc := ⟨.hbm, 111, rfl⟩
abbrev main_call0_call0_v58 : Ref sig .tc := ⟨.hbm, 112, rfl⟩
abbrev main_call0_call0_v59 : Ref sig .tc := ⟨.hbm, 113, rfl⟩
abbrev main_call0_call0_v60 : Ref sig .tc := ⟨.hbm, 114, rfl⟩
abbrev main_call0_call0_v61 : Ref sig .tc := ⟨.hbm, 115, rfl⟩
abbrev main_call0_call0_c_15 : Ref sig .tc := ⟨.hbm, 116, rfl⟩
abbrev main_call0_call0_v62 : Ref sig .tc := ⟨.hbm, 117, rfl⟩
abbrev main_call0_call0_v63 : Ref sig .tc := ⟨.hbm, 118, rfl⟩
abbrev main_call0_call0_c_16 : Ref sig .tc := ⟨.hbm, 119, rfl⟩
abbrev main_call0_call0_v64 : Ref sig .tc := ⟨.hbm, 120, rfl⟩
abbrev main_call0_call0_v65 : Ref sig .tc := ⟨.hbm, 121, rfl⟩
abbrev main_call0_call0_v66 : Ref sig .tc := ⟨.hbm, 122, rfl⟩
abbrev main_call0_call0_v67 : Ref sig .tc := ⟨.hbm, 123, rfl⟩
abbrev main_call0_call0_v68 : Ref sig .tc := ⟨.hbm, 124, rfl⟩
abbrev main_call0_call0_v69 : Ref sig .tc := ⟨.hbm, 125, rfl⟩
abbrev main_call0_call0_v70 : Ref sig .tc := ⟨.hbm, 126, rfl⟩
abbrev main_call0_call0_v71 : Ref sig .tc := ⟨.hbm, 127, rfl⟩
abbrev main_call0_call0_c_17 : Ref sig .tc := ⟨.hbm, 128, rfl⟩
abbrev main_call0_call0_v72 : Ref sig .tc := ⟨.hbm, 129, rfl⟩
abbrev main_call0_call0_v73 : Ref sig .tc := ⟨.hbm, 130, rfl⟩
abbrev main_call0_call0_v74 : Ref sig .tc := ⟨.hbm, 131, rfl⟩
abbrev main_call0_call0_c_18 : Ref sig .tc := ⟨.hbm, 132, rfl⟩
abbrev main_call0_call0_v75 : Ref sig .tc := ⟨.hbm, 133, rfl⟩
abbrev main_call0_call0_v76 : Ref sig .tc := ⟨.hbm, 134, rfl⟩
abbrev main_call0_call0_c_19 : Ref sig .tc := ⟨.hbm, 135, rfl⟩
abbrev main_call0_call0_v77 : Ref sig .tc := ⟨.hbm, 136, rfl⟩
abbrev main_call0_call0_v78 : Ref sig .tc := ⟨.hbm, 137, rfl⟩
abbrev main_call0_call0_v79 : Ref sig .tc := ⟨.hbm, 138, rfl⟩
abbrev main_call0_call0_v80 : Ref sig .tc := ⟨.hbm, 139, rfl⟩
abbrev main_call0_call0_v81 : Ref sig .tc := ⟨.hbm, 140, rfl⟩
abbrev main_call0_call0_c_20 : Ref sig .tc := ⟨.hbm, 141, rfl⟩
abbrev main_call0_call0_v82 : Ref sig .tc := ⟨.hbm, 142, rfl⟩
abbrev main_call0_call0_v83 : Ref sig .tc := ⟨.hbm, 143, rfl⟩
abbrev main_call0_call0_c_21 : Ref sig .tc := ⟨.hbm, 144, rfl⟩
abbrev main_call0_call0_v84 : Ref sig .tc := ⟨.hbm, 145, rfl⟩
abbrev main_call0_call0_v85 : Ref sig .tc := ⟨.hbm, 146, rfl⟩
abbrev main_call0_call0_v86 : Ref sig .tc := ⟨.hbm, 147, rfl⟩
abbrev main_call0_call0_v87 : Ref sig .tc := ⟨.hbm, 148, rfl⟩
abbrev main_call0_call0_v88 : Ref sig .tc := ⟨.hbm, 149, rfl⟩
abbrev main_call0_call0_c_22 : Ref sig .tc := ⟨.hbm, 150, rfl⟩
abbrev main_call0_call0_v89 : Ref sig .tc := ⟨.hbm, 151, rfl⟩
abbrev main_call0_call0_v90 : Ref sig .tc := ⟨.hbm, 152, rfl⟩
abbrev main_call0_call0_c_23 : Ref sig .tc := ⟨.hbm, 153, rfl⟩
abbrev main_call0_call0_v91 : Ref sig .tc := ⟨.hbm, 154, rfl⟩
abbrev main_call0_call0_v92 : Ref sig .tc := ⟨.hbm, 155, rfl⟩
abbrev main_call0_call0_v93 : Ref sig .tc := ⟨.hbm, 156, rfl⟩
abbrev main_call0_call0_v94 : Ref sig .tc := ⟨.hbm, 157, rfl⟩
abbrev main_call0_call0_v95 : Ref sig .tc := ⟨.hbm, 158, rfl⟩
abbrev main_call0_call0_c_24 : Ref sig .tc := ⟨.hbm, 159, rfl⟩
abbrev main_call0_call0_v96 : Ref sig .tc := ⟨.hbm, 160, rfl⟩
abbrev main_call0_call0_v97 : Ref sig .tc := ⟨.hbm, 161, rfl⟩
abbrev main_call0_call0_c_25 : Ref sig .tc := ⟨.hbm, 162, rfl⟩
abbrev main_call0_call0_v98 : Ref sig .tc := ⟨.hbm, 163, rfl⟩
abbrev main_call0_call0_v99 : Ref sig .tc := ⟨.hbm, 164, rfl⟩
abbrev main_call0_call0_v100 : Ref sig .tc := ⟨.hbm, 165, rfl⟩
abbrev main_call0_call0_v101 : Ref sig .tc := ⟨.hbm, 166, rfl⟩
abbrev main_call0_call0_v102 : Ref sig .tc := ⟨.hbm, 167, rfl⟩
abbrev main_call0_call0_v103 : Ref sig .tc := ⟨.hbm, 168, rfl⟩
abbrev main_call0_call0_v104 : Ref sig .tc := ⟨.hbm, 169, rfl⟩
abbrev main_call0_call0_v105 : Ref sig .tc := ⟨.hbm, 170, rfl⟩
abbrev main_call0_call0_c_26 : Ref sig .tc := ⟨.hbm, 171, rfl⟩
abbrev main_call0_call0_v106 : Ref sig .tc := ⟨.hbm, 172, rfl⟩
abbrev main_call0_call0_v107 : Ref sig .tc := ⟨.hbm, 173, rfl⟩
abbrev main_call0_call0_v108 : Ref sig .tc := ⟨.hbm, 174, rfl⟩
abbrev main_call0_call0_c_27 : Ref sig .tc := ⟨.hbm, 175, rfl⟩
abbrev main_call0_call0_v109 : Ref sig .tc := ⟨.hbm, 176, rfl⟩
abbrev main_call0_call0_v110 : Ref sig .tc := ⟨.hbm, 177, rfl⟩
abbrev main_call0_call0_c_28 : Ref sig .tc := ⟨.hbm, 178, rfl⟩
abbrev main_call0_call0_v111 : Ref sig .tc := ⟨.hbm, 179, rfl⟩
abbrev main_call0_call0_v112 : Ref sig .tc := ⟨.hbm, 180, rfl⟩
abbrev main_call0_call0_v113 : Ref sig .tc := ⟨.hbm, 181, rfl⟩
abbrev main_call0_call0_v114 : Ref sig .tc := ⟨.hbm, 182, rfl⟩
abbrev main_call0_call0_v115 : Ref sig .tc := ⟨.hbm, 183, rfl⟩
abbrev main_call0_call0_c_29 : Ref sig .tc := ⟨.hbm, 184, rfl⟩
abbrev main_call0_call0_v116 : Ref sig .tc := ⟨.hbm, 185, rfl⟩
abbrev main_call0_call0_v117 : Ref sig .tc := ⟨.hbm, 186, rfl⟩
abbrev main_call0_call0_c_30 : Ref sig .tc := ⟨.hbm, 187, rfl⟩
abbrev main_call0_call0_v118 : Ref sig .tc := ⟨.hbm, 188, rfl⟩
abbrev main_call0_call0_v119 : Ref sig .tc := ⟨.hbm, 189, rfl⟩
abbrev main_call0_call0_v120 : Ref sig .tc := ⟨.hbm, 190, rfl⟩
abbrev main_call0_call0_v121 : Ref sig .tc := ⟨.hbm, 191, rfl⟩
abbrev main_call0_call0_v122 : Ref sig .tc := ⟨.hbm, 192, rfl⟩
abbrev main_call0_call0_c_31 : Ref sig .tc := ⟨.hbm, 193, rfl⟩
abbrev main_call0_call0_v123 : Ref sig .tc := ⟨.hbm, 194, rfl⟩
abbrev main_call0_call0_v124 : Ref sig .tc := ⟨.hbm, 195, rfl⟩
abbrev main_call0_call0_c_32 : Ref sig .tc := ⟨.hbm, 196, rfl⟩
abbrev main_call0_call0_v125 : Ref sig .tc := ⟨.hbm, 197, rfl⟩
abbrev main_call0_call0_v126 : Ref sig .tc := ⟨.hbm, 198, rfl⟩
abbrev main_call0_call0_v127 : Ref sig .tc := ⟨.hbm, 199, rfl⟩
abbrev main_call0_call0_v128 : Ref sig .tc := ⟨.hbm, 200, rfl⟩
abbrev main_call0_call0_v129 : Ref sig .tc := ⟨.hbm, 201, rfl⟩
abbrev main_call0_call0_c_33 : Ref sig .tc := ⟨.hbm, 202, rfl⟩
abbrev main_call0_call0_v130 : Ref sig .tc := ⟨.hbm, 203, rfl⟩
abbrev main_call0_call0_v131 : Ref sig .tc := ⟨.hbm, 204, rfl⟩
abbrev main_call0_call0_c_34 : Ref sig .tc := ⟨.hbm, 205, rfl⟩
abbrev main_call0_call0_v132 : Ref sig .tc := ⟨.hbm, 206, rfl⟩
abbrev main_call0_call0_v133 : Ref sig .tc := ⟨.hbm, 207, rfl⟩
abbrev main_call0_call0_v134 : Ref sig .tc := ⟨.hbm, 208, rfl⟩
abbrev main_call0_call0_v135 : Ref sig .tc := ⟨.hbm, 209, rfl⟩
abbrev main_call0_call0_v136 : Ref sig .tc := ⟨.hbm, 210, rfl⟩
abbrev main_call0_call0_v137 : Ref sig .tc := ⟨.hbm, 211, rfl⟩
abbrev main_call0_call0_v138 : Ref sig .tc := ⟨.hbm, 212, rfl⟩
abbrev main_call0_call0_v139 : Ref sig .tc := ⟨.hbm, 213, rfl⟩
abbrev main_call0_call0_c_35 : Ref sig .tc := ⟨.hbm, 214, rfl⟩
abbrev main_call0_call0_v140 : Ref sig .tc := ⟨.hbm, 215, rfl⟩
abbrev main_call0_call0_v141 : Ref sig .tc := ⟨.hbm, 216, rfl⟩
abbrev main_call0_call0_v142 : Ref sig .tc := ⟨.hbm, 217, rfl⟩
abbrev main_call0_call0_c_36 : Ref sig .tc := ⟨.hbm, 218, rfl⟩
abbrev main_call0_call0_v143 : Ref sig .tc := ⟨.hbm, 219, rfl⟩
abbrev main_call0_call0_v144 : Ref sig .tc := ⟨.hbm, 220, rfl⟩
abbrev main_call0_call0_c_37 : Ref sig .tc := ⟨.hbm, 221, rfl⟩
abbrev main_call0_call0_v145 : Ref sig .tc := ⟨.hbm, 222, rfl⟩
abbrev main_call0_call0_v146 : Ref sig .tc := ⟨.hbm, 223, rfl⟩
abbrev main_call0_call0_v147 : Ref sig .tc := ⟨.hbm, 224, rfl⟩
abbrev main_call0_call0_v148 : Ref sig .tc := ⟨.hbm, 225, rfl⟩
abbrev main_call0_call0_v149 : Ref sig .tc := ⟨.hbm, 226, rfl⟩
abbrev main_call0_call0_c_38 : Ref sig .tc := ⟨.hbm, 227, rfl⟩
abbrev main_call0_call0_v150 : Ref sig .tc := ⟨.hbm, 228, rfl⟩
abbrev main_call0_call0_v151 : Ref sig .tc := ⟨.hbm, 229, rfl⟩
abbrev main_call0_call0_c_39 : Ref sig .tc := ⟨.hbm, 230, rfl⟩
abbrev main_call0_call0_v152 : Ref sig .tc := ⟨.hbm, 231, rfl⟩
abbrev main_call0_call0_v153 : Ref sig .tc := ⟨.hbm, 232, rfl⟩
abbrev main_call0_call0_v154 : Ref sig .tc := ⟨.hbm, 233, rfl⟩
abbrev main_call0_call0_v155 : Ref sig .tc := ⟨.hbm, 234, rfl⟩
abbrev main_call0_call0_v156 : Ref sig .tc := ⟨.hbm, 235, rfl⟩
abbrev main_call0_call0_c_40 : Ref sig .tc := ⟨.hbm, 236, rfl⟩
abbrev main_call0_call0_v157 : Ref sig .tc := ⟨.hbm, 237, rfl⟩
abbrev main_call0_call0_v158 : Ref sig .tc := ⟨.hbm, 238, rfl⟩
abbrev main_call0_call0_c_41 : Ref sig .tc := ⟨.hbm, 239, rfl⟩
abbrev main_call0_call0_v159 : Ref sig .tc := ⟨.hbm, 240, rfl⟩
abbrev main_call0_call0_v160 : Ref sig .tc := ⟨.hbm, 241, rfl⟩
abbrev main_call0_call0_v161 : Ref sig .tc := ⟨.hbm, 242, rfl⟩
abbrev main_call0_call0_v162 : Ref sig .tc := ⟨.hbm, 243, rfl⟩
abbrev main_call0_call0_v163 : Ref sig .tc := ⟨.hbm, 244, rfl⟩
abbrev main_call0_call0_c_42 : Ref sig .tc := ⟨.hbm, 245, rfl⟩
abbrev main_call0_call0_v164 : Ref sig .tc := ⟨.hbm, 246, rfl⟩
abbrev main_call0_call0_v165 : Ref sig .tc := ⟨.hbm, 247, rfl⟩
abbrev main_call0_call0_c_43 : Ref sig .tc := ⟨.hbm, 248, rfl⟩
abbrev main_call0_call0_v166 : Ref sig .tc := ⟨.hbm, 249, rfl⟩
abbrev main_call0_call0_v167 : Ref sig .tc := ⟨.hbm, 250, rfl⟩
abbrev main_call0_call0_v168 : Ref sig .tc := ⟨.hbm, 251, rfl⟩
abbrev main_call0_call0_v169 : Ref sig .tc := ⟨.hbm, 252, rfl⟩
abbrev main_call0_call0_v170 : Ref sig .tc := ⟨.hbm, 253, rfl⟩
abbrev main_call0_v19_0 : Ref sig .tc := ⟨.hbm, 254, rfl⟩
abbrev main_call0_call0_v172 : Ref sig .tc := ⟨.hbm, 255, rfl⟩
abbrev main_call0_call0_v173 : Ref sig .tc := ⟨.hbm, 256, rfl⟩
abbrev main_call0_call0_c_44 : Ref sig .tc := ⟨.hbm, 257, rfl⟩
abbrev main_call0_call0_v174 : Ref sig .tc := ⟨.hbm, 258, rfl⟩
abbrev main_call0_v19_1 : Ref sig .tc := ⟨.hbm, 259, rfl⟩
abbrev main_call0_v20 : Ref sig .tc := ⟨.hbm, 260, rfl⟩
abbrev main_call0_c_2 : Ref sig .tc := ⟨.hbm, 261, rfl⟩
abbrev main_call0_v21 : Ref sig .tc := ⟨.hbm, 262, rfl⟩
abbrev main_call0_v22 : Ref sig .tc := ⟨.hbm, 263, rfl⟩
abbrev main_call0_c_3 : Ref sig .tc := ⟨.hbm, 264, rfl⟩
abbrev main_call0_v23 : Ref sig .tc := ⟨.hbm, 265, rfl⟩
abbrev main_call0_v24 : Ref sig .tc := ⟨.hbm, 266, rfl⟩
abbrev main_call0_v25 : Ref sig .tc := ⟨.hbm, 267, rfl⟩
abbrev main_call0_cst : Ref sig .tc := ⟨.hbm, 268, rfl⟩
abbrev main_call0_v26 : Ref sig .tc := ⟨.hbm, 269, rfl⟩
abbrev main_call0_v27 : Ref sig .tc := ⟨.hbm, 270, rfl⟩
abbrev main_call0_v28 : Ref sig .tc := ⟨.hbm, 271, rfl⟩
abbrev main_call0_v29 : Ref sig .tc := ⟨.hbm, 272, rfl⟩
abbrev main_call0_v30 : Ref sig .tc := ⟨.hbm, 273, rfl⟩
abbrev main_call0_v31 : Ref sig .tc := ⟨.hbm, 274, rfl⟩
abbrev main_call0_v32 : Ref sig .tc := ⟨.hbm, 275, rfl⟩
abbrev main_call0_v33 : Ref sig .tc := ⟨.hbm, 276, rfl⟩
abbrev main_v9 : Ref sig .tc := ⟨.hbm, 277, rfl⟩
abbrev main_cst_3 : Ref sig .tc := ⟨.hbm, 278, rfl⟩
abbrev main_v10 : Ref sig .tc := ⟨.hbm, 279, rfl⟩
abbrev main_cst_4 : Ref sig .tc := ⟨.hbm, 280, rfl⟩
abbrev main_v11 : Ref sig .tc := ⟨.hbm, 281, rfl⟩
abbrev main_c_5 : Ref sig .tc := ⟨.hbm, 282, rfl⟩
abbrev main_v12_0 : Ref sig .tc := ⟨.hbm, 283, rfl⟩
abbrev main_v12_1 : Ref sig .tc := ⟨.hbm, 284, rfl⟩
abbrev main_v12_2 : Ref sig .tc := ⟨.hbm, 285, rfl⟩
abbrev main_v12_3 : Ref sig .tc := ⟨.hbm, 286, rfl⟩
abbrev main_v12_4 : Ref sig .tc := ⟨.hbm, 287, rfl⟩
abbrev main_while0c_c_11 : Ref sig .tc := ⟨.hbm, 288, rfl⟩
abbrev main_while0c_v17 : Ref sig .tc := ⟨.hbm, 289, rfl⟩
abbrev main_while0b_call1_v0 : Ref sig .tc := ⟨.hbm, 290, rfl⟩
abbrev main_while0b_call1_cst : Ref sig .tc := ⟨.hbm, 291, rfl⟩
abbrev main_while0b_call1_c : Ref sig .tc := ⟨.hbm, 292, rfl⟩
abbrev main_while0b_call1_v1_0 : Ref sig .tc := ⟨.hbm, 293, rfl⟩
abbrev main_while0b_v17 : Ref sig .tc := ⟨.hbm, 294, rfl⟩
abbrev main_while0b_v18 : Ref sig .tc := ⟨.hbm, 295, rfl⟩
abbrev main_while0b_v19 : Ref sig .tc := ⟨.hbm, 296, rfl⟩
abbrev main_while0b_call2_c : Ref sig .tc := ⟨.hbm, 297, rfl⟩
abbrev main_while0b_call2_v0 : Ref sig .tc := ⟨.hbm, 298, rfl⟩
abbrev main_while0b_call2_v1 : Ref sig .tc := ⟨.hbm, 299, rfl⟩
abbrev main_while0b_call2_c_0 : Ref sig .tc := ⟨.hbm, 300, rfl⟩
abbrev main_while0b_call2_v2 : Ref sig .tc := ⟨.hbm, 301, rfl⟩
abbrev main_while0b_call2_v3 : Ref sig .tc := ⟨.hbm, 302, rfl⟩
abbrev main_while0b_call2_v4 : Ref sig .tc := ⟨.hbm, 303, rfl⟩
abbrev main_while0b_call2_c_1 : Ref sig .tc := ⟨.hbm, 304, rfl⟩
abbrev main_while0b_call2_c_2 : Ref sig .tc := ⟨.hbm, 305, rfl⟩
abbrev main_while0b_call2_v5 : Ref sig .tc := ⟨.hbm, 306, rfl⟩
abbrev main_while0b_call2_v6 : Ref sig .tc := ⟨.hbm, 307, rfl⟩
abbrev main_while0b_call2_v7 : Ref sig .tc := ⟨.hbm, 308, rfl⟩
abbrev main_while0b_call2_v8 : Ref sig .tc := ⟨.hbm, 309, rfl⟩
abbrev main_while0b_call2_v9 : Ref sig .tc := ⟨.hbm, 310, rfl⟩
abbrev main_while0b_call2_v10 : Ref sig .tc := ⟨.hbm, 311, rfl⟩
abbrev main_while0b_call2_c_3 : Ref sig .tc := ⟨.hbm, 312, rfl⟩
abbrev main_while0b_call2_v11 : Ref sig .tc := ⟨.hbm, 313, rfl⟩
abbrev main_while0b_call2_v12 : Ref sig .tc := ⟨.hbm, 314, rfl⟩
abbrev main_while0b_call2_v13 : Ref sig .tc := ⟨.hbm, 315, rfl⟩
abbrev main_while0b_call2_cst : Ref sig .tc := ⟨.hbm, 316, rfl⟩
abbrev main_while0b_call2_v14 : Ref sig .tc := ⟨.hbm, 317, rfl⟩
abbrev main_while0b_v20 : Ref sig .tc := ⟨.hbm, 318, rfl⟩
abbrev main_while0b_v21 : Ref sig .tc := ⟨.hbm, 319, rfl⟩
abbrev main_while0b_v22 : Ref sig .tc := ⟨.hbm, 320, rfl⟩
abbrev main_while0b_v23 : Ref sig .tc := ⟨.hbm, 321, rfl⟩
abbrev main_while0b_cst_11 : Ref sig .tc := ⟨.hbm, 322, rfl⟩
abbrev main_while0b_v24 : Ref sig .tc := ⟨.hbm, 323, rfl⟩
abbrev main_while0b_v25 : Ref sig .tc := ⟨.hbm, 324, rfl⟩
abbrev main_while0b_v26 : Ref sig .tc := ⟨.hbm, 325, rfl⟩
abbrev main_while0b_cst_12 : Ref sig .tc := ⟨.hbm, 326, rfl⟩
abbrev main_while0b_v27 : Ref sig .tc := ⟨.hbm, 327, rfl⟩
abbrev main_while0b_v28 : Ref sig .tc := ⟨.hbm, 328, rfl⟩
abbrev main_while0b_v29 : Ref sig .tc := ⟨.hbm, 329, rfl⟩
abbrev main_while0b_cst_13 : Ref sig .tc := ⟨.hbm, 330, rfl⟩
abbrev main_while0b_v30 : Ref sig .tc := ⟨.hbm, 331, rfl⟩
abbrev main_while0b_v31 : Ref sig .tc := ⟨.hbm, 332, rfl⟩
abbrev main_while0b_v32 : Ref sig .tc := ⟨.hbm, 333, rfl⟩
abbrev main_while0b_v33 : Ref sig .tc := ⟨.hbm, 334, rfl⟩
abbrev main_while0b_v34 : Ref sig .tc := ⟨.hbm, 335, rfl⟩
abbrev main_while0b_v35 : Ref sig .tc := ⟨.hbm, 336, rfl⟩
abbrev main_while0b_v36 : Ref sig .tc := ⟨.hbm, 337, rfl⟩
abbrev main_while0b_cst_14 : Ref sig .tc := ⟨.hbm, 338, rfl⟩
abbrev main_while0b_v37 : Ref sig .tc := ⟨.hbm, 339, rfl⟩
abbrev main_while0b_cst_15 : Ref sig .tc := ⟨.hbm, 340, rfl⟩
abbrev main_while0b_v38 : Ref sig .tc := ⟨.hbm, 341, rfl⟩
abbrev main_while0b_v39 : Ref sig .tc := ⟨.hbm, 342, rfl⟩
abbrev main_while0b_v40 : Ref sig .tc := ⟨.hbm, 343, rfl⟩
abbrev main_while0b_call3_v0 : Ref sig .tc := ⟨.hbm, 344, rfl⟩
abbrev main_while0b_call3_c : Ref sig .tc := ⟨.hbm, 345, rfl⟩
abbrev main_while0b_call3_c_0 : Ref sig .tc := ⟨.hbm, 346, rfl⟩
abbrev main_while0b_v41 : Ref sig .tc := ⟨.hbm, 347, rfl⟩
abbrev main_while0b_call4_v0 : Ref sig .tc := ⟨.hbm, 348, rfl⟩
abbrev main_while0b_call4_c : Ref sig .tc := ⟨.hbm, 349, rfl⟩
abbrev main_while0b_call4_c_0 : Ref sig .tc := ⟨.hbm, 350, rfl⟩
abbrev main_while0b_v42 : Ref sig .tc := ⟨.hbm, 351, rfl⟩
abbrev main_while0b_c_16 : Ref sig .tc := ⟨.hbm, 352, rfl⟩
abbrev main_while0b_v43 : Ref sig .tc := ⟨.hbm, 353, rfl⟩
abbrev main_v13 : Ref sig .tc := ⟨.hbm, 354, rfl⟩
abbrev main_v14 : Ref sig .tc := ⟨.hbm, 355, rfl⟩
abbrev main_cst_6 : Ref sig .tc := ⟨.hbm, 356, rfl⟩
abbrev main_v15 : Ref sig .tc := ⟨.hbm, 357, rfl⟩
abbrev main_v16 : Ref sig .tc := ⟨.hbm, 358, rfl⟩

abbrev nD : Nat := 1
abbrev τ : Topo := Topo.v7x

variable {F : FTy → Type} [FloatOps F]

abbrev main_while0_count : Scf.Loop 32 := ⟨0#32, 8#32, 1#32⟩
-- ==== Proof.RefUniform.lean ====
/- The reference's random start: the operations of its call of @uniform, the threefry rounds inlined, as one list. -/
module

public import proofs.«01_k».proof.Proof.Gen.ReferenceIdeal
public import Idealize.ShloMosaic.Lib.Pipeline.Regions
public import Idealize.ShloMosaic.Lib.StableHlo.RunLoop

@[expose] public section

-- a long stretch's `::` list recurses past the default depth
set_option maxRecDepth 4036

noncomputable section

namespace Cert.ReferenceIdeal.Run

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- 262 host operations of @_uniform (main_call0), in order. -/
abbrev uniformOps : List (HloOp τ sig (Elt F)) :=
  ( StableHlo.TRef.unary (.of main_cst : StableHlo.TRef sig ⟨S_, .f32⟩) (.of main_call0_v0 : StableHlo.TRef sig ⟨S_, .f32⟩) id
  :: StableHlo.TRef.unary (.of main_cst_2 : StableHlo.TRef sig ⟨S_, .f32⟩) (.of main_call0_v1 : StableHlo.TRef sig ⟨S_, .f32⟩) id
  :: StableHlo.TRef.unary (.of main_call0_v0 : StableHlo.TRef sig ⟨S_, .f32⟩) (.of main_call0_v2 : StableHlo.TRef sig ⟨S1x1, .f32⟩) (broadcastInDim S1x1 ![] bcast_S_S1x1)
  :: StableHlo.TRef.unary (.of main_call0_v1 : StableHlo.TRef sig ⟨S_, .f32⟩) (.of main_call0_v3 : StableHlo.TRef sig ⟨S1x1, .f32⟩) (broadcastInDim S1x1 ![] bcast_S_S1x1)
  :: StableHlo.TRef.unary (.of main_v8 : StableHlo.TRef sig ⟨S2, .i32⟩) (.of main_call0_v4 : StableHlo.TRef sig ⟨S1, .i32⟩) (extractStridedSlice S1 ![0] · slices_S2_S1_0)
  :: StableHlo.TRef.reshape (.of main_call0_v4 : StableHlo.TRef sig ⟨S1, .i32⟩) (.of main_call0_v5 : StableHlo.TRef sig ⟨S_, .i32⟩) (rfl : (.i32 : EltTy) = .i32) shapeCasts_S1_S_
  :: StableHlo.TRef.unary (.of main_v8 : StableHlo.TRef sig ⟨S2, .i32⟩) (.of main_call0_v6 : StableHlo.TRef sig ⟨S1, .i32⟩) (extractStridedSlice S1 ![1] · slices_S2_S1_1)
  :: StableHlo.TRef.reshape (.of main_call0_v6 : StableHlo.TRef sig ⟨S1, .i32⟩) (.of main_call0_v7 : StableHlo.TRef sig ⟨S_, .i32⟩) (rfl : (.i32 : EltTy) = .i32) shapeCasts_S1_S_
  :: StableHlo.TRef.nullary (.of main_call0_v8 : StableHlo.TRef sig ⟨S16x16384, .i64⟩) (iotaInDim S16x16384 64 0)
  :: StableHlo.TRef.nullary (.of main_call0_v9 : StableHlo.TRef sig ⟨S16x16384, .i64⟩) (iotaInDim S16x16384 64 1)
  :: StableHlo.TRef.nullary (.of main_call0_c : StableHlo.TRef sig ⟨S_, .i64⟩) (constantI S_ 64 16384#64)
  :: StableHlo.TRef.unary (.of main_call0_c : StableHlo.TRef sig ⟨S_, .i64⟩) (.of main_call0_v10 : StableHlo.TRef sig ⟨S16x16384, .i64⟩) (broadcastInDim S16x16384 ![] bcast_S_S16x16384)
  :: StableHlo.TRef.binary (.of main_call0_v10 : StableHlo.TRef sig ⟨S16x16384, .i64⟩) (.of main_call0_v8 : StableHlo.TRef sig ⟨S16x16384, .i64⟩) (.of main_call0_v11 : StableHlo.TRef sig ⟨S16x16384, .i64⟩) muli
  :: StableHlo.TRef.nullary (.of main_call0_c_0 : StableHlo.TRef sig ⟨S_, .i64⟩) (constantI S_ 64 1#64)
  :: StableHlo.TRef.unary (.of main_call0_c_0 : StableHlo.TRef sig ⟨S_, .i64⟩) (.of main_call0_v12 : StableHlo.TRef sig ⟨S16x16384, .i64⟩) (broadcastInDim S16x16384 ![] bcast_S_S16x16384)
  :: StableHlo.TRef.binary (.of main_call0_v12 : StableHlo.TRef sig ⟨S16x16384, .i64⟩) (.of main_call0_v9 : StableHlo.TRef sig ⟨S16x16384, .i64⟩) (.of main_call0_v13 : StableHlo.TRef sig ⟨S16x16384, .i64⟩) muli
  :: StableHlo.TRef.binary (.of main_call0_v11 : StableHlo.TRef sig ⟨S16x16384, .i64⟩) (.of main_call0_v13 : StableHlo.TRef sig ⟨S16x16384, .i64⟩) (.of main_call0_v14 : StableHlo.TRef sig ⟨S16x16384, .i64⟩) addi
  :: StableHlo.TRef.nullary (.of main_call0_c_1 : StableHlo.TRef sig ⟨S_, .i64⟩) (constantI S_ 64 32#64)
  :: StableHlo.TRef.unary (.of main_call0_c_1 : StableHlo.TRef sig ⟨S_, .i64⟩) (.of main_call0_v15 : StableHlo.TRef sig ⟨S16x16384, .i64⟩) (broadcastInDim S16x16384 ![] bcast_S_S16x16384)
  :: StableHlo.TRef.binary (.of main_call0_v14 : StableHlo.TRef sig ⟨S16x16384, .i64⟩) (.of main_call0_v15 : StableHlo.TRef sig ⟨S16x16384, .i64⟩) (.of main_call0_v16 : StableHlo.TRef sig ⟨S16x16384, .i64⟩) Host.shrui
  :: StableHlo.TRef.unary (.of main_call0_v14 : StableHlo.TRef sig ⟨S16x16384, .i64⟩) (.of main_call0_v17 : StableHlo.TRef sig ⟨S16x16384, .i32⟩) (trunci 32 · natLt_32_64)
  :: StableHlo.TRef.unary (.of main_call0_v16 : StableHlo.TRef sig ⟨S16x16384, .i64⟩) (.of main_call0_v18 : StableHlo.TRef sig ⟨S16x16384, .i32⟩) (trunci 32 · natLt_32_64)
  :: StableHlo.TRef.binary (.of main_call0_v5 : StableHlo.TRef sig ⟨S_, .i32⟩) (.of main_call0_v7 : StableHlo.TRef sig ⟨S_, .i32⟩) (.of main_call0_call0_v0 : StableHlo.TRef sig ⟨S_, .i32⟩) xori
  :: StableHlo.TRef.nullary (.of main_call0_call0_c : StableHlo.TRef sig ⟨S_, .i32⟩) (constantI S_ 32 466688986#32)
  :: StableHlo.TRef.binary (.of main_call0_call0_v0 : StableHlo.TRef sig ⟨S_, .i32⟩) (.of main_call0_call0_c : StableHlo.TRef sig ⟨S_, .i32⟩) (.of main_call0_call0_v1 : StableHlo.TRef sig ⟨S_, .i32⟩) xori
  :: StableHlo.TRef.unary (.of main_call0_v5 : StableHlo.TRef sig ⟨S_, .i32⟩) (.of main_call0_call0_v2 : StableHlo.TRef sig ⟨S16x16384, .i32⟩) (broadcastInDim S16x16384 ![] bcast_S_S16x16384)
  :: StableHlo.TRef.binary (.of main_call0_v18 : StableHlo.TRef sig ⟨S16x16384, .i32⟩) (.of main_call0_call0_v2 : StableHlo.TRef sig ⟨S16x16384, .i32⟩) (.of main_call0_call0_v3 : StableHlo.TRef sig ⟨S16x16384, .i32⟩) addi
  :: StableHlo.TRef.unary (.of main_call0_v7 : StableHlo.TRef sig ⟨S_, .i32⟩) (.of main_call0_call0_v4 : StableHlo.TRef sig ⟨S16x16384, .i32⟩) (broadcastInDim S16x16384 ![] bcast_S_S16x16384)
  :: StableHlo.TRef.binary (.of main_call0_v17 : StableHlo.TRef sig ⟨S16x16384, .i32⟩) (.of main_call0_call0_v4 : StableHlo.TRef sig ⟨S16x16384, .i32⟩) (.of main_call0_call0_v5 : StableHlo.TRef sig ⟨S16x16384, .i32⟩) addi
  :: StableHlo.TRef.binary (.of main_call0_call0_v3 : StableHlo.TRef sig ⟨S16x16384, .i32⟩) (.of main_call0_call0_v5 : StableHlo.TRef sig ⟨S16x16384, .i32⟩) (.of main_call0_call0_v6 : StableHlo.TRef sig ⟨S16x16384, .i32⟩) addi
  :: StableHlo.TRef.nullary (.of main_call0_call0_c_0 : StableHlo.TRef sig ⟨S_, .i32⟩) (constantI S_ 32 13#32)
  :: StableHlo.TRef.unary (.of main_call0_call0_c_0 : StableHlo.TRef sig ⟨S_, .i32⟩) (.of main_call0_call0_v7 : StableHlo.TRef sig ⟨S16x16384, .i32⟩) (broadcastInDim S16x16384 ![] bcast_S_S16x16384)
  :: StableHlo.TRef.binary (.of main_call0_call0_v5 : StableHlo.TRef sig ⟨S16x16384, .i32⟩) (.of main_call0_call0_v7 : StableHlo.TRef sig ⟨S16x16384, .i32⟩) (.of main_call0_call0_v8 : StableHlo.TRef sig ⟨S16x16384, .i32⟩) Host.shli
  :: StableHlo.TRef.nullary (.of main_call0_call0_c_1 : StableHlo.TRef sig ⟨S_, .i32⟩) (constantI S_ 32 19#32)
  :: StableHlo.TRef.unary (.of main_call0_call0_c_1 : StableHlo.TRef sig ⟨S_, .i32⟩) (.of main_call0_call0_v9 : StableHlo.TRef sig ⟨S16x16384, .i32⟩) (broadcastInDim S16x16384 ![] bcast_S_S16x16384)
  :: StableHlo.TRef.binary (.of main_call0_call0_v5 : StableHlo.TRef sig ⟨S16x16384, .i32⟩) (.of main_call0_call0_v9 : StableHlo.TRef sig ⟨S16x16384, .i32⟩) (.of main_call0_call0_v10 : StableHlo.TRef sig ⟨S16x16384, .i32⟩) Host.shrui
  :: StableHlo.TRef.binary (.of main_call0_call0_v8 : StableHlo.TRef sig ⟨S16x16384, .i32⟩) (.of main_call0_call0_v10 : StableHlo.TRef sig ⟨S16x16384, .i32⟩) (.of main_call0_call0_v11 : StableHlo.TRef sig ⟨S16x16384, .i32⟩) ori
  :: StableHlo.TRef.binary (.of main_call0_call0_v6 : StableHlo.TRef sig ⟨S16x16384, .i32⟩) (.of main_call0_call0_v11 : StableHlo.TRef sig ⟨S16x16384, .i32⟩) (.of main_call0_call0_v12 : StableHlo.TRef sig ⟨S16x16384, .i32⟩) xori
  :: StableHlo.TRef.binary (.of main_call0_call0_v6 : StableHlo.TRef sig ⟨S16x16384, .i32⟩) (.of main_call0_call0_v12 : StableHlo.TRef sig ⟨S16x16384, .i32⟩) (.of main_call0_call0_v13 : StableHlo.TRef sig ⟨S16x16384, .i32⟩) addi
  :: StableHlo.TRef.nullary (.of main_call0_call0_c_2 : StableHlo.TRef sig ⟨S_, .i32⟩) (constantI S_ 32 15#32)
  :: StableHlo.TRef.unary (.of main_call0_call0_c_2 : StableHlo.TRef sig ⟨S_, .i32⟩) (.of main_call0_call0_v14 : StableHlo.TRef sig ⟨S16x16384, .i32⟩) (broadcastInDim S16x16384 ![] bcast_S_S16x16384)
  :: StableHlo.TRef.binary (.of main_call0_call0_v12 : StableHlo.TRef sig ⟨S16x16384, .i32⟩) (.of main_call0_call0_v14 : StableHlo.TRef sig ⟨S16x16384, .i32⟩) (.of main_call0_call0_v15 : StableHlo.TRef sig ⟨S16x16384, .i32⟩) Host.shli
  :: StableHlo.TRef.nullary (.of main_call0_call0_c_3 : StableHlo.TRef sig ⟨S_, .i32⟩) (constantI S_ 32 17#32)
  :: StableHlo.TRef.unary (.of main_call0_call0_c_3 : StableHlo.TRef sig ⟨S_, .i32⟩) (.of main_call0_call0_v16 : StableHlo.TRef sig ⟨S16x16384, .i32⟩) (broadcastInDim S16x16384 ![] bcast_S_S16x16384)
  :: StableHlo.TRef.binary (.of main_call0_call0_v12 : StableHlo.TRef sig ⟨S16x16384, .i32⟩) (.of main_call0_call0_v16 : StableHlo.TRef sig ⟨S16x16384, .i32⟩) (.of main_call0_call0_v17 : StableHlo.TRef sig ⟨S16x16384, .i32⟩) Host.shrui
  :: StableHlo.TRef.binary (.of main_call0_call0_v15 : StableHlo.TRef sig ⟨S16x16384, .i32⟩) (.of main_call0_call0_v17 : StableHlo.TRef sig ⟨S16x16384, .i32⟩) (.of main_call0_call0_v18 : StableHlo.TRef sig ⟨S16x16384, .i32⟩) ori
  :: StableHlo.TRef.binary (.of main_call0_call0_v13 : StableHlo.TRef sig ⟨S16x16384, .i32⟩) (.of main_call0_call0_v18 : StableHlo.TRef sig ⟨S16x16384, .i32⟩) (.of main_call0_call0_v19 : StableHlo.TRef sig ⟨S16x16384, .i32⟩) xori
  :: StableHlo.TRef.binary (.of main_call0_call0_v13 : StableHlo.TRef sig ⟨S16x16384, .i32⟩) (.of main_call0_call0_v19 : StableHlo.TRef sig ⟨S16x16384, .i32⟩) (.of main_call0_call0_v20 : StableHlo.TRef sig ⟨S16x16384, .i32⟩) addi
  :: StableHlo.TRef.nullary (.of main_call0_call0_c_4 : StableHlo.TRef sig ⟨S_, .i32⟩) (constantI S_ 32 26#32)
  :: StableHlo.TRef.unary (.of main_call0_call0_c_4 : StableHlo.TRef sig ⟨S_, .i32⟩) (.of main_call0_call0_v21 : StableHlo.TRef sig ⟨S16x16384, .i32⟩) (broadcastInDim S16x16384 ![] bcast_S_S16x16384)
  :: StableHlo.TRef.binary (.of main_call0_call0_v19 : StableHlo.TRef sig ⟨S16x16384, .i32⟩) (.of main_call0_call0_v21 : StableHlo.TRef sig ⟨S16x16384, .i32⟩) (.of main_call0_call0_v22 : StableHlo.TRef sig ⟨S16x16384, .i32⟩) Host.shli
  :: StableHlo.TRef.nullary (.of main_call0_call0_c_5 : StableHlo.TRef sig ⟨S_, .i32⟩) (constantI S_ 32 6#32)
  :: StableHlo.TRef.unary (.of main_call0_call0_c_5 : StableHlo.TRef sig ⟨S_, .i32⟩) (.of main_call0_call0_v23 : StableHlo.TRef sig ⟨S16x16384, .i32⟩) (broadcastInDim S16x16384 ![] bcast_S_S16x16384)
  :: StableHlo.TRef.binary (.of main_call0_call0_v19 : StableHlo.TRef sig ⟨S16x16384, .i32⟩) (.of main_call0_call0_v23 : StableHlo.TRef sig ⟨S16x16384, .i32⟩) (.of main_call0_call0_v24 : StableHlo.TRef sig ⟨S16x16384, .i32⟩) Host.shrui
  :: StableHlo.TRef.binary (.of main_call0_call0_v22 : StableHlo.TRef sig ⟨S16x16384, .i32⟩) (.of main_call0_call0_v24 : StableHlo.TRef sig ⟨S16x16384, .i32⟩) (.of main_call0_call0_v25 : StableHlo.TRef sig ⟨S16x16384, .i32⟩) ori
  :: StableHlo.TRef.binary (.of main_call0_call0_v20 : StableHlo.TRef sig ⟨S16x16384, .i32⟩) (.of main_call0_call0_v25 : StableHlo.TRef sig ⟨S16x16384, .i32⟩) (.of main_call0_call0_v26 : StableHlo.TRef sig ⟨S16x16384, .i32⟩) xori
  :: StableHlo.TRef.binary (.of main_call0_call0_v20 : StableHlo.TRef sig ⟨S16x16384, .i32⟩) (.of main_call0_call0_v26 : StableHlo.TRef sig ⟨S16x16384, .i32⟩) (.of main_call0_call0_v27 : StableHlo.TRef sig ⟨S16x16384, .i32⟩) addi
  :: StableHlo.TRef.nullary (.of main_call0_call0_c_6 : StableHlo.TRef sig ⟨S_, .i32⟩) (constantI S_ 32 6#32)
  :: StableHlo.TRef.unary (.of main_call0_call0_c_6 : StableHlo.TRef sig ⟨S_, .i32⟩) (.of main_call0_call0_v28 : StableHlo.TRef sig ⟨S16x16384, .i32⟩) (broadcastInDim S16x16384 ![] bcast_S_S16x16384)
  :: StableHlo.TRef.binary (.of main_call0_call0_v26 : StableHlo.TRef sig ⟨S16x16384, .i32⟩) (.of main_call0_call0_v28 : StableHlo.TRef sig ⟨S16x16384, .i32⟩) (.of main_call0_call0_v29 : StableHlo.TRef sig ⟨S16x16384, .i32⟩) Host.shli
  :: StableHlo.TRef.nullary (.of main_call0_call0_c_7 : StableHlo.TRef sig ⟨S_, .i32⟩) (constantI S_ 32 26#32)
  :: StableHlo.TRef.unary (.of main_call0_call0_c_7 : StableHlo.TRef sig ⟨S_, .i32⟩) (.of main_call0_call0_v30 : StableHlo.TRef sig ⟨S16x16384, .i32⟩) (broadcastInDim S16x16384 ![] bcast_S_S16x16384)
  :: StableHlo.TRef.binary (.of main_call0_call0_v26 : StableHlo.TRef sig ⟨S16x16384, .i32⟩) (.of main_call0_call0_v30 : StableHlo.TRef sig ⟨S16x16384, .i32⟩) (.of main_call0_call0_v31 : StableHlo.TRef sig ⟨S16x16384, .i32⟩) Host.shrui
  :: StableHlo.TRef.binary (.of main_call0_call0_v29 : StableHlo.TRef sig ⟨S16x16384, .i32⟩) (.of main_call0_call0_v31 : StableHlo.TRef sig ⟨S16x16384, .i32⟩) (.of main_call0_call0_v32 : StableHlo.TRef sig ⟨S16x16384, .i32⟩) ori
  :: StableHlo.TRef.binary (.of main_call0_call0_v27 : StableHlo.TRef sig ⟨S16x16384, .i32⟩) (.of main_call0_call0_v32 : StableHlo.TRef sig ⟨S16x16384, .i32⟩) (.of main_call0_call0_v33 : StableHlo.TRef sig ⟨S16x16384, .i32⟩) xori
  :: StableHlo.TRef.unary (.of main_call0_v7 : StableHlo.TRef sig ⟨S_, .i32⟩) (.of main_call0_call0_v34 : StableHlo.TRef sig ⟨S16x16384, .i32⟩) (broadcastInDim S16x16384 ![] bcast_S_S16x16384)
  :: StableHlo.TRef.binary (.of main_call0_call0_v27 : StableHlo.TRef sig ⟨S16x16384, .i32⟩) (.of main_call0_call0_v34 : StableHlo.TRef sig ⟨S16x16384, .i32⟩) (.of main_call0_call0_v35 : StableHlo.TRef sig ⟨S16x16384, .i32⟩) addi
  :: StableHlo.TRef.unary (.of main_call0_call0_v1 : StableHlo.TRef sig ⟨S_, .i32⟩) (.of main_call0_call0_v36 : StableHlo.TRef sig ⟨S16x16384, .i32⟩) (broadcastInDim S16x16384 ![] bcast_S_S16x16384)
  :: StableHlo.TRef.binary (.of main_call0_call0_v33 : StableHlo.TRef sig ⟨S16x16384, .i32⟩) (.of main_call0_call0_v36 : StableHlo.TRef sig ⟨S16x16384, .i32⟩) (.of main_call0_call0_v37 : StableHlo.TRef sig ⟨S16x16384, .i32⟩) addi
  :: StableHlo.TRef.nullary (.of main_call0_call0_c_8 : StableHlo.TRef sig ⟨S_, .i32⟩) (constantI S_ 32 1#32)
  :: StableHlo.TRef.unary (.of main_call0_call0_c_8 : StableHlo.TRef sig ⟨S_, .i32⟩) (.of main_call0_call0_v38 : StableHlo.TRef sig ⟨S16x16384, .i32⟩) (broadcastInDim S16x16384 ![] bcast_S_S16x16384)
  :: StableHlo.TRef.binary (.of main_call0_call0_v37 : StableHlo.TRef sig ⟨S16x16384, .i32⟩) (.of main_call0_call0_v38 : StableHlo.TRef sig ⟨S16x16384, .i32⟩) (.of main_call0_call0_v39 : StableHlo.TRef sig ⟨S16x16384, .i32⟩) addi
  :: StableHlo.TRef.binary (.of main_call0_call0_v35 : StableHlo.TRef sig ⟨S16x16384, .i32⟩) (.of main_call0_call0_v39 : StableHlo.TRef sig ⟨S16x16384, .i32⟩) (.of main_call0_call0_v40 : StableHlo.TRef sig ⟨S16x16384, .i32⟩) addi
  :: StableHlo.TRef.nullary (.of main_call0_call0_c_9 : StableHlo.TRef sig ⟨S_, .i32⟩) (constantI S_ 32 17#32)
  :: StableHlo.TRef.unary (.of main_call0_call0_c_9 : StableHlo.TRef sig ⟨S_, .i32⟩) (.of main_call0_call0_v41 : StableHlo.TRef sig ⟨S16x16384, .i32⟩) (broadcastInDim S16x16384 ![] bcast_S_S16x16384)
  :: StableHlo.TRef.binary (.of main_call0_call0_v39 : StableHlo.TRef sig ⟨S16x16384, .i32⟩) (.of main_call0_call0_v41 : StableHlo.TRef sig ⟨S16x16384, .i32⟩) (.of main_call0_call0_v42 : StableHlo.TRef sig ⟨S16x16384, .i32⟩) Host.shli
  :: StableHlo.TRef.nullary (.of main_call0_call0_c_10 : StableHlo.TRef sig ⟨S_, .i32⟩) (constantI S_ 32 15#32)
  :: StableHlo.TRef.unary (.of main_call0_call0_c_10 : StableHlo.TRef sig ⟨S_, .i32⟩) (.of main_call0_call0_v43 : StableHlo.TRef sig ⟨S16x16384, .i32⟩) (broadcastInDim S16x16384 ![] bcast_S_S16x16384)
  :: StableHlo.TRef.binary (.of main_call0_call0_v39 : StableHlo.TRef sig ⟨S16x16384, .i32⟩) (.of main_call0_call0_v43 : StableHlo.TRef sig ⟨S16x16384, .i32⟩) (.of main_call0_call0_v44 : StableHlo.TRef sig ⟨S16x16384, .i32⟩) Host.shrui
  :: StableHlo.TRef.binary (.of main_call0_call0_v42 : StableHlo.TRef sig ⟨S16x16384, .i32⟩) (.of main_call0_call0_v44 : StableHlo.TRef sig ⟨S16x16384, .i32⟩) (.of main_call0_call0_v45 : StableHlo.TRef sig ⟨S16x16384, .i32⟩) ori
  :: StableHlo.TRef.binary (.of main_call0_call0_v40 : StableHlo.TRef sig ⟨S16x16384, .i32⟩) (.of main_call0_call0_v45 : StableHlo.TRef sig ⟨S16x16384, .i32⟩) (.of main_call0_call0_v46 : StableHlo.TRef sig ⟨S16x16384, .i32⟩) xori
  :: StableHlo.TRef.binary (.of main_call0_call0_v40 : StableHlo.TRef sig ⟨S16x16384, .i32⟩) (.of main_call0_call0_v46 : StableHlo.TRef sig ⟨S16x16384, .i32⟩) (.of main_call0_call0_v47 : StableHlo.TRef sig ⟨S16x16384, .i32⟩) addi
  :: StableHlo.TRef.nullary (.of main_call0_call0_c_11 : StableHlo.TRef sig ⟨S_, .i32⟩) (constantI S_ 32 29#32)
  :: StableHlo.TRef.unary (.of main_call0_call0_c_11 : StableHlo.TRef sig ⟨S_, .i32⟩) (.of main_call0_call0_v48 : StableHlo.TRef sig ⟨S16x16384, .i32⟩) (broadcastInDim S16x16384 ![] bcast_S_S16x16384)
  :: StableHlo.TRef.binary (.of main_call0_call0_v46 : StableHlo.TRef sig ⟨S16x16384, .i32⟩) (.of main_call0_call0_v48 : StableHlo.TRef sig ⟨S16x16384, .i32⟩) (.of main_call0_call0_v49 : StableHlo.TRef sig ⟨S16x16384, .i32⟩) Host.shli
  :: StableHlo.TRef.nullary (.of main_call0_call0_c_12 : StableHlo.TRef sig ⟨S_, .i32⟩) (constantI S_ 32 3#32)
  :: StableHlo.TRef.unary (.of main_call0_call0_c_12 : StableHlo.TRef sig ⟨S_, .i32⟩) (.of main_call0_call0_v50 : StableHlo.TRef sig ⟨S16x16384, .i32⟩) (broadcastInDim S16x16384 ![] bcast_S_S16x16384)
  :: StableHlo.TRef.binary (.of main_call0_call0_v46 : StableHlo.TRef sig ⟨S16x16384, .i32⟩) (.of main_call0_call0_v50 : StableHlo.TRef sig ⟨S16x16384, .i32⟩) (.of main_call0_call0_v51 : StableHlo.TRef sig ⟨S16x16384, .i32⟩) Host.shrui
  :: StableHlo.TRef.binary (.of main_call0_call0_v49 : StableHlo.TRef sig ⟨S16x16384, .i32⟩) (.of main_call0_call0_v51 : StableHlo.TRef sig ⟨S16x16384, .i32⟩) (.of main_call0_call0_v52 : StableHlo.TRef sig ⟨S16x16384, .i32⟩) ori
  :: StableHlo.TRef.binary (.of main_call0_call0_v47 : StableHlo.TRef sig ⟨S16x16384, .i32⟩) (.of main_call0_call0_v52 : StableHlo.TRef sig ⟨S16x16384, .i32⟩) (.of main_call0_call0_v53 : StableHlo.TRef sig ⟨S16x16384, .i32⟩) xori
  :: StableHlo.TRef.binary (.of main_call0_call0_v47 : StableHlo.TRef sig ⟨S16x16384, .i32⟩) (.of main_call0_call0_v53 : StableHlo.TRef sig ⟨S16x16384, .i32⟩) (.of main_call0_call0_v54 : StableHlo.TRef sig ⟨S16x16384, .i32⟩) addi
  :: StableHlo.TRef.nullary (.of main_call0_call0_c_13 : StableHlo.TRef sig ⟨S_, .i32⟩) (constantI S_ 32 16#32)
  :: StableHlo.TRef.unary (.of main_call0_call0_c_13 : StableHlo.TRef sig ⟨S_, .i32⟩) (.of main_call0_call0_v55 : StableHlo.TRef sig ⟨S16x16384, .i32⟩) (broadcastInDim S16x16384 ![] bcast_S_S16x16384)
  :: StableHlo.TRef.binary (.of main_call0_call0_v53 : StableHlo.TRef sig ⟨S16x16384, .i32⟩) (.of main_call0_call0_v55 : StableHlo.TRef sig ⟨S16x16384, .i32⟩) (.of main_call0_call0_v56 : StableHlo.TRef sig ⟨S16x16384, .i32⟩) Host.shli
  :: StableHlo.TRef.nullary (.of main_call0_call0_c_14 : StableHlo.TRef sig ⟨S_, .i32⟩) (constantI S_ 32 16#32)
  :: StableHlo.TRef.unary (.of main_call0_call0_c_14 : StableHlo.TRef sig ⟨S_, .i32⟩) (.of main_call0_call0_v57 : StableHlo.TRef sig ⟨S16x16384, .i32⟩) (broadcastInDim S16x16384 ![] bcast_S_S16x16384)
  :: StableHlo.TRef.binary (.of main_call0_call0_v53 : StableHlo.TRef sig ⟨S16x16384, .i32⟩) (.of main_call0_call0_v57 : StableHlo.TRef sig ⟨S16x16384, .i32⟩) (.of main_call0_call0_v58 : StableHlo.TRef sig ⟨S16x16384, .i32⟩) Host.shrui
  :: StableHlo.TRef.binary (.of main_call0_call0_v56 : StableHlo.TRef sig ⟨S16x16384, .i32⟩) (.of main_call0_call0_v58 : StableHlo.TRef sig ⟨S16x16384, .i32⟩) (.of main_call0_call0_v59 : StableHlo.TRef sig ⟨S16x16384, .i32⟩) ori
  :: StableHlo.TRef.binary (.of main_call0_call0_v54 : StableHlo.TRef sig ⟨S16x16384, .i32⟩) (.of main_call0_call0_v59 : StableHlo.TRef sig ⟨S16x16384, .i32⟩) (.of main_call0_call0_v60 : StableHlo.TRef sig ⟨S16x16384, .i32⟩) xori
  :: StableHlo.TRef.binary (.of main_call0_call0_v54 : StableHlo.TRef sig ⟨S16x16384, .i32⟩) (.of main_call0_call0_v60 : StableHlo.TRef sig ⟨S16x16384, .i32⟩) (.of main_call0_call0_v61 : StableHlo.TRef sig ⟨S16x16384, .i32⟩) addi
  :: StableHlo.TRef.nullary (.of main_call0_call0_c_15 : StableHlo.TRef sig ⟨S_, .i32⟩) (constantI S_ 32 24#32)
  :: StableHlo.TRef.unary (.of main_call0_call0_c_15 : StableHlo.TRef sig ⟨S_, .i32⟩) (.of main_call0_call0_v62 : StableHlo.TRef sig ⟨S16x16384, .i32⟩) (broadcastInDim S16x16384 ![] bcast_S_S16x16384)
  :: StableHlo.TRef.binary (.of main_call0_call0_v60 : StableHlo.TRef sig ⟨S16x16384, .i32⟩) (.of main_call0_call0_v62 : StableHlo.TRef sig ⟨S16x16384, .i32⟩) (.of main_call0_call0_v63 : StableHlo.TRef sig ⟨S16x16384, .i32⟩) Host.shli
  :: StableHlo.TRef.nullary (.of main_call0_call0_c_16 : StableHlo.TRef sig ⟨S_, .i32⟩) (constantI S_ 32 8#32)
  :: StableHlo.TRef.unary (.of main_call0_call0_c_16 : StableHlo.TRef sig ⟨S_, .i32⟩) (.of main_call0_call0_v64 : StableHlo.TRef sig ⟨S16x16384, .i32⟩) (broadcastInDim S16x16384 ![] bcast_S_S16x16384)
  :: StableHlo.TRef.binary (.of main_call0_call0_v60 : StableHlo.TRef sig ⟨S16x16384, .i32⟩) (.of main_call0_call0_v64 : StableHlo.TRef sig ⟨S16x16384, .i32⟩) (.of main_call0_call0_v65 : StableHlo.TRef sig ⟨S16x16384, .i32⟩) Host.shrui
  :: StableHlo.TRef.binary (.of main_call0_call0_v63 : StableHlo.TRef sig ⟨S16x16384, .i32⟩) (.of main_call0_call0_v65 : StableHlo.TRef sig ⟨S16x16384, .i32⟩) (.of main_call0_call0_v66 : StableHlo.TRef sig ⟨S16x16384, .i32⟩) ori
  :: StableHlo.TRef.binary (.of main_call0_call0_v61 : StableHlo.TRef sig ⟨S16x16384, .i32⟩) (.of main_call0_call0_v66 : StableHlo.TRef sig ⟨S16x16384, .i32⟩) (.of main_call0_call0_v67 : StableHlo.TRef sig ⟨S16x16384, .i32⟩) xori
  :: StableHlo.TRef.unary (.of main_call0_call0_v1 : StableHlo.TRef sig ⟨S_, .i32⟩) (.of main_call0_call0_v68 : StableHlo.TRef sig ⟨S16x16384, .i32⟩) (broadcastInDim S16x16384 ![] bcast_S_S16x16384)
  :: StableHlo.TRef.binary (.of main_call0_call0_v61 : StableHlo.TRef sig ⟨S16x16384, .i32⟩) (.of main_call0_call0_v68 : StableHlo.TRef sig ⟨S16x16384, .i32⟩) (.of main_call0_call0_v69 : StableHlo.TRef sig ⟨S16x16384, .i32⟩) addi
  :: StableHlo.TRef.unary (.of main_call0_v5 : StableHlo.TRef sig ⟨S_, .i32⟩) (.of main_call0_call0_v70 : StableHlo.TRef sig ⟨S16x16384, .i32⟩) (broadcastInDim S16x16384 ![] bcast_S_S16x16384)
  :: StableHlo.TRef.binary (.of main_call0_call0_v67 : StableHlo.TRef sig ⟨S16x16384, .i32⟩) (.of main_call0_call0_v70 : StableHlo.TRef sig ⟨S16x16384, .i32⟩) (.of main_call0_call0_v71 : StableHlo.TRef sig ⟨S16x16384, .i32⟩) addi
  :: StableHlo.TRef.nullary (.of main_call0_call0_c_17 : StableHlo.TRef sig ⟨S_, .i32⟩) (constantI S_ 32 2#32)
  :: StableHlo.TRef.unary (.of main_call0_call0_c_17 : StableHlo.TRef sig ⟨S_, .i32⟩) (.of main_call0_call0_v72 : StableHlo.TRef sig ⟨S16x16384, .i32⟩) (broadcastInDim S16x16384 ![] bcast_S_S16x16384)
  :: StableHlo.TRef.binary (.of main_call0_call0_v71 : StableHlo.TRef sig ⟨S16x16384, .i32⟩) (.of main_call0_call0_v72 : StableHlo.TRef sig ⟨S16x16384, .i32⟩) (.of main_call0_call0_v73 : StableHlo.TRef sig ⟨S16x16384, .i32⟩) addi
  :: StableHlo.TRef.binary (.of main_call0_call0_v69 : StableHlo.TRef sig ⟨S16x16384, .i32⟩) (.of main_call0_call0_v73 : StableHlo.TRef sig ⟨S16x16384, .i32⟩) (.of main_call0_call0_v74 : StableHlo.TRef sig ⟨S16x16384, .i32⟩) addi
  :: StableHlo.TRef.nullary (.of main_call0_call0_c_18 : StableHlo.TRef sig ⟨S_, .i32⟩) (constantI S_ 32 13#32)
  :: StableHlo.TRef.unary (.of main_call0_call0_c_18 : StableHlo.TRef sig ⟨S_, .i32⟩) (.of main_call0_call0_v75 : StableHlo.TRef sig ⟨S16x16384, .i32⟩) (broadcastInDim S16x16384 ![] bcast_S_S16x16384)
  :: StableHlo.TRef.binary (.of main_call0_call0_v73 : StableHlo.TRef sig ⟨S16x16384, .i32⟩) (.of main_call0_call0_v75 : StableHlo.TRef sig ⟨S16x16384, .i32⟩) (.of main_call0_call0_v76 : StableHlo.TRef sig ⟨S16x16384, .i32⟩) Host.shli
  :: StableHlo.TRef.nullary (.of main_call0_call0_c_19 : StableHlo.TRef sig ⟨S_, .i32⟩) (constantI S_ 32 19#32)
  :: StableHlo.TRef.unary (.of main_call0_call0_c_19 : StableHlo.TRef sig ⟨S_, .i32⟩) (.of main_call0_call0_v77 : StableHlo.TRef sig ⟨S16x16384, .i32⟩) (broadcastInDim S16x16384 ![] bcast_S_S16x16384)
  :: StableHlo.TRef.binary (.of main_call0_call0_v73 : StableHlo.TRef sig ⟨S16x16384, .i32⟩) (.of main_call0_call0_v77 : StableHlo.TRef sig ⟨S16x16384, .i32⟩) (.of main_call0_call0_v78 : StableHlo.TRef sig ⟨S16x16384, .i32⟩) Host.shrui
  :: StableHlo.TRef.binary (.of main_call0_call0_v76 : StableHlo.TRef sig ⟨S16x16384, .i32⟩) (.of main_call0_call0_v78 : StableHlo.TRef sig ⟨S16x16384, .i32⟩) (.of main_call0_call0_v79 : StableHlo.TRef sig ⟨S16x16384, .i32⟩) ori
  :: StableHlo.TRef.binary (.of main_call0_call0_v74 : StableHlo.TRef sig ⟨S16x16384, .i32⟩) (.of main_call0_call0_v79 : StableHlo.TRef sig ⟨S16x16384, .i32⟩) (.of main_call0_call0_v80 : StableHlo.TRef sig ⟨S16x16384, .i32⟩) xori
  :: StableHlo.TRef.binary (.of main_call0_call0_v74 : StableHlo.TRef sig ⟨S16x16384, .i32⟩) (.of main_call0_call0_v80 : StableHlo.TRef sig ⟨S16x16384, .i32⟩) (.of main_call0_call0_v81 : StableHlo.TRef sig ⟨S16x16384, .i32⟩) addi
  :: StableHlo.TRef.nullary (.of main_call0_call0_c_20 : StableHlo.TRef sig ⟨S_, .i32⟩) (constantI S_ 32 15#32)
  :: StableHlo.TRef.unary (.of main_call0_call0_c_20 : StableHlo.TRef sig ⟨S_, .i32⟩) (.of main_call0_call0_v82 : StableHlo.TRef sig ⟨S16x16384, .i32⟩) (broadcastInDim S16x16384 ![] bcast_S_S16x16384)
  :: StableHlo.TRef.binary (.of main_call0_call0_v80 : StableHlo.TRef sig ⟨S16x16384, .i32⟩) (.of main_call0_call0_v82 : StableHlo.TRef sig ⟨S16x16384, .i32⟩) (.of main_call0_call0_v83 : StableHlo.TRef sig ⟨S16x16384, .i32⟩) Host.shli
  :: StableHlo.TRef.nullary (.of main_call0_call0_c_21 : StableHlo.TRef sig ⟨S_, .i32⟩) (constantI S_ 32 17#32)
  :: StableHlo.TRef.unary (.of main_call0_call0_c_21 : StableHlo.TRef sig ⟨S_, .i32⟩) (.of main_call0_call0_v84 : StableHlo.TRef sig ⟨S16x16384, .i32⟩) (broadcastInDim S16x16384 ![] bcast_S_S16x16384)
  :: StableHlo.TRef.binary (.of main_call0_call0_v80 : StableHlo.TRef sig ⟨S16x16384, .i32⟩) (.of main_call0_call0_v84 : StableHlo.TRef sig ⟨S16x16384, .i32⟩) (.of main_call0_call0_v85 : StableHlo.TRef sig ⟨S16x16384, .i32⟩) Host.shrui
  :: StableHlo.TRef.binary (.of main_call0_call0_v83 : StableHlo.TRef sig ⟨S16x16384, .i32⟩) (.of main_call0_call0_v85 : StableHlo.TRef sig ⟨S16x16384, .i32⟩) (.of main_call0_call0_v86 : StableHlo.TRef sig ⟨S16x16384, .i32⟩) ori
  :: StableHlo.TRef.binary (.of main_call0_call0_v81 : StableHlo.TRef sig ⟨S16x16384, .i32⟩) (.of main_call0_call0_v86 : StableHlo.TRef sig ⟨S16x16384, .i32⟩) (.of main_call0_call0_v87 : StableHlo.TRef sig ⟨S16x16384, .i32⟩) xori
  :: StableHlo.TRef.binary (.of main_call0_call0_v81 : StableHlo.TRef sig ⟨S16x16384, .i32⟩) (.of main_call0_call0_v87 : StableHlo.TRef sig ⟨S16x16384, .i32⟩) (.of main_call0_call0_v88 : StableHlo.TRef sig ⟨S16x16384, .i32⟩) addi
  :: StableHlo.TRef.nullary (.of main_call0_call0_c_22 : StableHlo.TRef sig ⟨S_, .i32⟩) (constantI S_ 32 26#32)
  :: StableHlo.TRef.unary (.of main_call0_call0_c_22 : StableHlo.TRef sig ⟨S_, .i32⟩) (.of main_call0_call0_v89 : StableHlo.TRef sig ⟨S16x16384, .i32⟩) (broadcastInDim S16x16384 ![] bcast_S_S16x16384)
  :: StableHlo.TRef.binary (.of main_call0_call0_v87 : StableHlo.TRef sig ⟨S16x16384, .i32⟩) (.of main_call0_call0_v89 : StableHlo.TRef sig ⟨S16x16384, .i32⟩) (.of main_call0_call0_v90 : StableHlo.TRef sig ⟨S16x16384, .i32⟩) Host.shli
  :: StableHlo.TRef.nullary (.of main_call0_call0_c_23 : StableHlo.TRef sig ⟨S_, .i32⟩) (constantI S_ 32 6#32)
  :: StableHlo.TRef.unary (.of main_call0_call0_c_23 : StableHlo.TRef sig ⟨S_, .i32⟩) (.of main_call0_call0_v91 : StableHlo.TRef sig ⟨S16x16384, .i32⟩) (broadcastInDim S16x16384 ![] bcast_S_S16x16384)
  :: StableHlo.TRef.binary (.of main_call0_call0_v87 : StableHlo.TRef sig ⟨S16x16384, .i32⟩) (.of main_call0_call0_v91 : StableHlo.TRef sig ⟨S16x16384, .i32⟩) (.of main_call0_call0_v92 : StableHlo.TRef sig ⟨S16x16384, .i32⟩) Host.shrui
  :: StableHlo.TRef.binary (.of main_call0_call0_v90 : StableHlo.TRef sig ⟨S16x16384, .i32⟩) (.of main_call0_call0_v92 : StableHlo.TRef sig ⟨S16x16384, .i32⟩) (.of main_call0_call0_v93 : StableHlo.TRef sig ⟨S16x16384, .i32⟩) ori
  :: StableHlo.TRef.binary (.of main_call0_call0_v88 : StableHlo.TRef sig ⟨S16x16384, .i32⟩) (.of main_call0_call0_v93 : StableHlo.TRef sig ⟨S16x16384, .i32⟩) (.of main_call0_call0_v94 : StableHlo.TRef sig ⟨S16x16384, .i32⟩) xori
  :: StableHlo.TRef.binary (.of main_call0_call0_v88 : StableHlo.TRef sig ⟨S16x16384, .i32⟩) (.of main_call0_call0_v94 : StableHlo.TRef sig ⟨S16x16384, .i32⟩) (.of main_call0_call0_v95 : StableHlo.TRef sig ⟨S16x16384, .i32⟩) addi
  :: StableHlo.TRef.nullary (.of main_call0_call0_c_24 : StableHlo.TRef sig ⟨S_, .i32⟩) (constantI S_ 32 6#32)
  :: StableHlo.TRef.unary (.of main_call0_call0_c_24 : StableHlo.TRef sig ⟨S_, .i32⟩) (.of main_call0_call0_v96 : StableHlo.TRef sig ⟨S16x16384, .i32⟩) (broadcastInDim S16x16384 ![] bcast_S_S16x16384)
  :: StableHlo.TRef.binary (.of main_call0_call0_v94 : StableHlo.TRef sig ⟨S16x16384, .i32⟩) (.of main_call0_call0_v96 : StableHlo.TRef sig ⟨S16x16384, .i32⟩) (.of main_call0_call0_v97 : StableHlo.TRef sig ⟨S16x16384, .i32⟩) Host.shli
  :: StableHlo.TRef.nullary (.of main_call0_call0_c_25 : StableHlo.TRef sig ⟨S_, .i32⟩) (constantI S_ 32 26#32)
  :: StableHlo.TRef.unary (.of main_call0_call0_c_25 : StableHlo.TRef sig ⟨S_, .i32⟩) (.of main_call0_call0_v98 : StableHlo.TRef sig ⟨S16x16384, .i32⟩) (broadcastInDim S16x16384 ![] bcast_S_S16x16384)
  :: StableHlo.TRef.binary (.of main_call0_call0_v94 : StableHlo.TRef sig ⟨S16x16384, .i32⟩) (.of main_call0_call0_v98 : StableHlo.TRef sig ⟨S16x16384, .i32⟩) (.of main_call0_call0_v99 : StableHlo.TRef sig ⟨S16x16384, .i32⟩) Host.shrui
  :: StableHlo.TRef.binary (.of main_call0_call0_v97 : StableHlo.TRef sig ⟨S16x16384, .i32⟩) (.of main_call0_call0_v99 : StableHlo.TRef sig ⟨S16x16384, .i32⟩) (.of main_call0_call0_v100 : StableHlo.TRef sig ⟨S16x16384, .i32⟩) ori
  :: StableHlo.TRef.binary (.of main_call0_call0_v95 : StableHlo.TRef sig ⟨S16x16384, .i32⟩) (.of main_call0_call0_v100 : StableHlo.TRef sig ⟨S16x16384, .i32⟩) (.of main_call0_call0_v101 : StableHlo.TRef sig ⟨S16x16384, .i32⟩) xori
  :: StableHlo.TRef.unary (.of main_call0_v5 : StableHlo.TRef sig ⟨S_, .i32⟩) (.of main_call0_call0_v102 : StableHlo.TRef sig ⟨S16x16384, .i32⟩) (broadcastInDim S16x16384 ![] bcast_S_S16x16384)
  :: StableHlo.TRef.binary (.of main_call0_call0_v95 : StableHlo.TRef sig ⟨S16x16384, .i32⟩) (.of main_call0_call0_v102 : StableHlo.TRef sig ⟨S16x16384, .i32⟩) (.of main_call0_call0_v103 : StableHlo.TRef sig ⟨S16x16384, .i32⟩) addi
  :: StableHlo.TRef.unary (.of main_call0_v7 : StableHlo.TRef sig ⟨S_, .i32⟩) (.of main_call0_call0_v104 : StableHlo.TRef sig ⟨S16x16384, .i32⟩) (broadcastInDim S16x16384 ![] bcast_S_S16x16384)
  :: StableHlo.TRef.binary (.of main_call0_call0_v101 : StableHlo.TRef sig ⟨S16x16384, .i32⟩) (.of main_call0_call0_v104 : StableHlo.TRef sig ⟨S16x16384, .i32⟩) (.of main_call0_call0_v105 : StableHlo.TRef sig ⟨S16x16384, .i32⟩) addi
  :: StableHlo.TRef.nullary (.of main_call0_call0_c_26 : StableHlo.TRef sig ⟨S_, .i32⟩) (constantI S_ 32 3#32)
  :: StableHlo.TRef.unary (.of main_call0_call0_c_26 : StableHlo.TRef sig ⟨S_, .i32⟩) (.of main_call0_call0_v106 : StableHlo.TRef sig ⟨S16x16384, .i32⟩) (broadcastInDim S16x16384 ![] bcast_S_S16x16384)
  :: StableHlo.TRef.binary (.of main_call0_call0_v105 : StableHlo.TRef sig ⟨S16x16384, .i32⟩) (.of main_call0_call0_v106 : StableHlo.TRef sig ⟨S16x16384, .i32⟩) (.of main_call0_call0_v107 : StableHlo.TRef sig ⟨S16x16384, .i32⟩) addi
  :: StableHlo.TRef.binary (.of main_call0_call0_v103 : StableHlo.TRef sig ⟨S16x16384, .i32⟩) (.of main_call0_call0_v107 : StableHlo.TRef sig ⟨S16x16384, .i32⟩) (.of main_call0_call0_v108 : StableHlo.TRef sig ⟨S16x16384, .i32⟩) addi
  :: StableHlo.TRef.nullary (.of main_call0_call0_c_27 : StableHlo.TRef sig ⟨S_, .i32⟩) (constantI S_ 32 17#32)
  :: StableHlo.TRef.unary (.of main_call0_call0_c_27 : StableHlo.TRef sig ⟨S_, .i32⟩) (.of main_call0_call0_v109 : StableHlo.TRef sig ⟨S16x16384, .i32⟩) (broadcastInDim S16x16384 ![] bcast_S_S16x16384)
  :: StableHlo.TRef.binary (.of main_call0_call0_v107 : StableHlo.TRef sig ⟨S16x16384, .i32⟩) (.of main_call0_call0_v109 : StableHlo.TRef sig ⟨S16x16384, .i32⟩) (.of main_call0_call0_v110 : StableHlo.TRef sig ⟨S16x16384, .i32⟩) Host.shli
  :: StableHlo.TRef.nullary (.of main_call0_call0_c_28 : StableHlo.TRef sig ⟨S_, .i32⟩) (constantI S_ 32 15#32)
  :: StableHlo.TRef.unary (.of main_call0_call0_c_28 : StableHlo.TRef sig ⟨S_, .i32⟩) (.of main_call0_call0_v111 : StableHlo.TRef sig ⟨S16x16384, .i32⟩) (broadcastInDim S16x16384 ![] bcast_S_S16x16384)
  :: StableHlo.TRef.binary (.of main_call0_call0_v107 : StableHlo.TRef sig ⟨S16x16384, .i32⟩) (.of main_call0_call0_v111 : StableHlo.TRef sig ⟨S16x16384, .i32⟩) (.of main_call0_call0_v112 : StableHlo.TRef sig ⟨S16x16384, .i32⟩) Host.shrui
  :: StableHlo.TRef.binary (.of main_call0_call0_v110 : StableHlo.TRef sig ⟨S16x16384, .i32⟩) (.of main_call0_call0_v112 : StableHlo.TRef sig ⟨S16x16384, .i32⟩) (.of main_call0_call0_v113 : StableHlo.TRef sig ⟨S16x16384, .i32⟩) ori
  :: StableHlo.TRef.binary (.of main_call0_call0_v108 : StableHlo.TRef sig ⟨S16x16384, .i32⟩) (.of main_call0_call0_v113 : StableHlo.TRef sig ⟨S16x16384, .i32⟩) (.of main_call0_call0_v114 : StableHlo.TRef sig ⟨S16x16384, .i32⟩) xori
  :: StableHlo.TRef.binary (.of main_call0_call0_v108 : StableHlo.TRef sig ⟨S16x16384, .i32⟩) (.of main_call0_call0_v114 : StableHlo.TRef sig ⟨S16x16384, .i32⟩) (.of main_call0_call0_v115 : StableHlo.TRef sig ⟨S16x16384, .i32⟩) addi
  :: StableHlo.TRef.nullary (.of main_call0_call0_c_29 : StableHlo.TRef sig ⟨S_, .i32⟩) (constantI S_ 32 29#32)
  :: StableHlo.TRef.unary (.of main_call0_call0_c_29 : StableHlo.TRef sig ⟨S_, .i32⟩) (.of main_call0_call0_v116 : StableHlo.TRef sig ⟨S16x16384, .i32⟩) (broadcastInDim S16x16384 ![] bcast_S_S16x16384)
  :: StableHlo.TRef.binary (.of main_call0_call0_v114 : StableHlo.TRef sig ⟨S16x16384, .i32⟩) (.of main_call0_call0_v116 : StableHlo.TRef sig ⟨S16x16384, .i32⟩) (.of main_call0_call0_v117 : StableHlo.TRef sig ⟨S16x16384, .i32⟩) Host.shli
  :: StableHlo.TRef.nullary (.of main_call0_call0_c_30 : StableHlo.TRef sig ⟨S_, .i32⟩) (constantI S_ 32 3#32)
  :: StableHlo.TRef.unary (.of main_call0_call0_c_30 : StableHlo.TRef sig ⟨S_, .i32⟩) (.of main_call0_call0_v118 : StableHlo.TRef sig ⟨S16x16384, .i32⟩) (broadcastInDim S16x16384 ![] bcast_S_S16x16384)
  :: StableHlo.TRef.binary (.of main_call0_call0_v114 : StableHlo.TRef sig ⟨S16x16384, .i32⟩) (.of main_call0_call0_v118 : StableHlo.TRef sig ⟨S16x16384, .i32⟩) (.of main_call0_call0_v119 : StableHlo.TRef sig ⟨S16x16384, .i32⟩) Host.shrui
  :: StableHlo.TRef.binary (.of main_call0_call0_v117 : StableHlo.TRef sig ⟨S16x16384, .i32⟩) (.of main_call0_call0_v119 : StableHlo.TRef sig ⟨S16x16384, .i32⟩) (.of main_call0_call0_v120 : StableHlo.TRef sig ⟨S16x16384, .i32⟩) ori
  :: StableHlo.TRef.binary (.of main_call0_call0_v115 : StableHlo.TRef sig ⟨S16x16384, .i32⟩) (.of main_call0_call0_v120 : StableHlo.TRef sig ⟨S16x16384, .i32⟩) (.of main_call0_call0_v121 : StableHlo.TRef sig ⟨S16x16384, .i32⟩) xori
  :: StableHlo.TRef.binary (.of main_call0_call0_v115 : StableHlo.TRef sig ⟨S16x16384, .i32⟩) (.of main_call0_call0_v121 : StableHlo.TRef sig ⟨S16x16384, .i32⟩) (.of main_call0_call0_v122 : StableHlo.TRef sig ⟨S16x16384, .i32⟩) addi
  :: StableHlo.TRef.nullary (.of main_call0_call0_c_31 : StableHlo.TRef sig ⟨S_, .i32⟩) (constantI S_ 32 16#32)
  :: StableHlo.TRef.unary (.of main_call0_call0_c_31 : StableHlo.TRef sig ⟨S_, .i32⟩) (.of main_call0_call0_v123 : StableHlo.TRef sig ⟨S16x16384, .i32⟩) (broadcastInDim S16x16384 ![] bcast_S_S16x16384)
  :: StableHlo.TRef.binary (.of main_call0_call0_v121 : StableHlo.TRef sig ⟨S16x16384, .i32⟩) (.of main_call0_call0_v123 : StableHlo.TRef sig ⟨S16x16384, .i32⟩) (.of main_call0_call0_v124 : StableHlo.TRef sig ⟨S16x16384, .i32⟩) Host.shli
  :: StableHlo.TRef.nullary (.of main_call0_call0_c_32 : StableHlo.TRef sig ⟨S_, .i32⟩) (constantI S_ 32 16#32)
  :: StableHlo.TRef.unary (.of main_call0_call0_c_32 : StableHlo.TRef sig ⟨S_, .i32⟩) (.of main_call0_call0_v125 : StableHlo.TRef sig ⟨S16x16384, .i32⟩) (broadcastInDim S16x16384 ![] bcast_S_S16x16384)
  :: StableHlo.TRef.binary (.of main_call0_call0_v121 : StableHlo.TRef sig ⟨S16x16384, .i32⟩) (.of main_call0_call0_v125 : StableHlo.TRef sig ⟨S16x16384, .i32⟩) (.of main_call0_call0_v126 : StableHlo.TRef sig ⟨S16x16384, .i32⟩) Host.shrui
  :: StableHlo.TRef.binary (.of main_call0_call0_v124 : StableHlo.TRef sig ⟨S16x16384, .i32⟩) (.of main_call0_call0_v126 : StableHlo.TRef sig ⟨S16x16384, .i32⟩) (.of main_call0_call0_v127 : StableHlo.TRef sig ⟨S16x16384, .i32⟩) ori
  :: StableHlo.TRef.binary (.of main_call0_call0_v122 : StableHlo.TRef sig ⟨S16x16384, .i32⟩) (.of main_call0_call0_v127 : StableHlo.TRef sig ⟨S16x16384, .i32⟩) (.of main_call0_call0_v128 : StableHlo.TRef sig ⟨S16x16384, .i32⟩) xori
  :: StableHlo.TRef.binary (.of main_call0_call0_v122 : StableHlo.TRef sig ⟨S16x16384, .i32⟩) (.of main_call0_call0_v128 : StableHlo.TRef sig ⟨S16x16384, .i32⟩) (.of main_call0_call0_v129 : StableHlo.TRef sig ⟨S16x16384, .i32⟩) addi
  :: StableHlo.TRef.nullary (.of main_call0_call0_c_33 : StableHlo.TRef sig ⟨S_, .i32⟩) (constantI S_ 32 24#32)
  :: StableHlo.TRef.unary (.of main_call0_call0_c_33 : StableHlo.TRef sig ⟨S_, .i32⟩) (.of main_call0_call0_v130 : StableHlo.TRef sig ⟨S16x16384, .i32⟩) (broadcastInDim S16x16384 ![] bcast_S_S16x16384)
  :: StableHlo.TRef.binary (.of main_call0_call0_v128 : StableHlo.TRef sig ⟨S16x16384, .i32⟩) (.of main_call0_call0_v130 : StableHlo.TRef sig ⟨S16x16384, .i32⟩) (.of main_call0_call0_v131 : StableHlo.TRef sig ⟨S16x16384, .i32⟩) Host.shli
  :: StableHlo.TRef.nullary (.of main_call0_call0_c_34 : StableHlo.TRef sig ⟨S_, .i32⟩) (constantI S_ 32 8#32)
  :: StableHlo.TRef.unary (.of main_call0_call0_c_34 : StableHlo.TRef sig ⟨S_, .i32⟩) (.of main_call0_call0_v132 : StableHlo.TRef sig ⟨S16x16384, .i32⟩) (broadcastInDim S16x16384 ![] bcast_S_S16x16384)
  :: StableHlo.TRef.binary (.of main_call0_call0_v128 : StableHlo.TRef sig ⟨S16x16384, .i32⟩) (.of main_call0_call0_v132 : StableHlo.TRef sig ⟨S16x16384, .i32⟩) (.of main_call0_call0_v133 : StableHlo.TRef sig ⟨S16x16384, .i32⟩) Host.shrui
  :: StableHlo.TRef.binary (.of main_call0_call0_v131 : StableHlo.TRef sig ⟨S16x16384, .i32⟩) (.of main_call0_call0_v133 : StableHlo.TRef sig ⟨S16x16384, .i32⟩) (.of main_call0_call0_v134 : StableHlo.TRef sig ⟨S16x16384, .i32⟩) ori
  :: StableHlo.TRef.binary (.of main_call0_call0_v129 : StableHlo.TRef sig ⟨S16x16384, .i32⟩) (.of main_call0_call0_v134 : StableHlo.TRef sig ⟨S16x16384, .i32⟩) (.of main_call0_call0_v135 : StableHlo.TRef sig ⟨S16x16384, .i32⟩) xori
  :: StableHlo.TRef.unary (.of main_call0_v7 : StableHlo.TRef sig ⟨S_, .i32⟩) (.of main_call0_call0_v136 : StableHlo.TRef sig ⟨S16x16384, .i32⟩) (broadcastInDim S16x16384 ![] bcast_S_S16x16384)
  :: StableHlo.TRef.binary (.of main_call0_call0_v129 : StableHlo.TRef sig ⟨S16x16384, .i32⟩) (.of main_call0_call0_v136 : StableHlo.TRef sig ⟨S16x16384, .i32⟩) (.of main_call0_call0_v137 : StableHlo.TRef sig ⟨S16x16384, .i32⟩) addi
  :: StableHlo.TRef.unary (.of main_call0_call0_v1 : StableHlo.TRef sig ⟨S_, .i32⟩) (.of main_call0_call0_v138 : StableHlo.TRef sig ⟨S16x16384, .i32⟩) (broadcastInDim S16x16384 ![] bcast_S_S16x16384)
  :: StableHlo.TRef.binary (.of main_call0_call0_v135 : StableHlo.TRef sig ⟨S16x16384, .i32⟩) (.of main_call0_call0_v138 : StableHlo.TRef sig ⟨S16x16384, .i32⟩) (.of main_call0_call0_v139 : StableHlo.TRef sig ⟨S16x16384, .i32⟩) addi
  :: StableHlo.TRef.nullary (.of main_call0_call0_c_35 : StableHlo.TRef sig ⟨S_, .i32⟩) (constantI S_ 32 4#32)
  :: StableHlo.TRef.unary (.of main_call0_call0_c_35 : StableHlo.TRef sig ⟨S_, .i32⟩) (.of main_call0_call0_v140 : StableHlo.TRef sig ⟨S16x16384, .i32⟩) (broadcastInDim S16x16384 ![] bcast_S_S16x16384)
  :: StableHlo.TRef.binary (.of main_call0_call0_v139 : StableHlo.TRef sig ⟨S16x16384, .i32⟩) (.of main_call0_call0_v140 : StableHlo.TRef sig ⟨S16x16384, .i32⟩) (.of main_call0_call0_v141 : StableHlo.TRef sig ⟨S16x16384, .i32⟩) addi
  :: StableHlo.TRef.binary (.of main_call0_call0_v137 : StableHlo.TRef sig ⟨S16x16384, .i32⟩) (.of main_call0_call0_v141 : StableHlo.TRef sig ⟨S16x16384, .i32⟩) (.of main_call0_call0_v142 : StableHlo.TRef sig ⟨S16x16384, .i32⟩) addi
  :: StableHlo.TRef.nullary (.of main_call0_call0_c_36 : StableHlo.TRef sig ⟨S_, .i32⟩) (constantI S_ 32 13#32)
  :: StableHlo.TRef.unary (.of main_call0_call0_c_36 : StableHlo.TRef sig ⟨S_, .i32⟩) (.of main_call0_call0_v143 : StableHlo.TRef sig ⟨S16x16384, .i32⟩) (broadcastInDim S16x16384 ![] bcast_S_S16x16384)
  :: StableHlo.TRef.binary (.of main_call0_call0_v141 : StableHlo.TRef sig ⟨S16x16384, .i32⟩) (.of main_call0_call0_v143 : StableHlo.TRef sig ⟨S16x16384, .i32⟩) (.of main_call0_call0_v144 : StableHlo.TRef sig ⟨S16x16384, .i32⟩) Host.shli
  :: StableHlo.TRef.nullary (.of main_call0_call0_c_37 : StableHlo.TRef sig ⟨S_, .i32⟩) (constantI S_ 32 19#32)
  :: StableHlo.TRef.unary (.of main_call0_call0_c_37 : StableHlo.TRef sig ⟨S_, .i32⟩) (.of main_call0_call0_v145 : StableHlo.TRef sig ⟨S16x16384, .i32⟩) (broadcastInDim S16x16384 ![] bcast_S_S16x16384)
  :: StableHlo.TRef.binary (.of main_call0_call0_v141 : StableHlo.TRef sig ⟨S16x16384, .i32⟩) (.of main_call0_call0_v145 : StableHlo.TRef sig ⟨S16x16384, .i32⟩) (.of main_call0_call0_v146 : StableHlo.TRef sig ⟨S16x16384, .i32⟩) Host.shrui
  :: StableHlo.TRef.binary (.of main_call0_call0_v144 : StableHlo.TRef sig ⟨S16x16384, .i32⟩) (.of main_call0_call0_v146 : StableHlo.TRef sig ⟨S16x16384, .i32⟩) (.of main_call0_call0_v147 : StableHlo.TRef sig ⟨S16x16384, .i32⟩) ori
  :: StableHlo.TRef.binary (.of main_call0_call0_v142 : StableHlo.TRef sig ⟨S16x16384, .i32⟩) (.of main_call0_call0_v147 : StableHlo.TRef sig ⟨S16x16384, .i32⟩) (.of main_call0_call0_v148 : StableHlo.TRef sig ⟨S16x16384, .i32⟩) xori
  :: StableHlo.TRef.binary (.of main_call0_call0_v142 : StableHlo.TRef sig ⟨S16x16384, .i32⟩) (.of main_call0_call0_v148 : StableHlo.TRef sig ⟨S16x16384, .i32⟩) (.of main_call0_call0_v149 : StableHlo.TRef sig ⟨S16x16384, .i32⟩) addi
  :: StableHlo.TRef.nullary (.of main_call0_call0_c_38 : StableHlo.TRef sig ⟨S_, .i32⟩) (constantI S_ 32 15#32)
  :: StableHlo.TRef.unary (.of main_call0_call0_c_38 : StableHlo.TRef sig ⟨S_, .i32⟩) (.of main_call0_call0_v150 : StableHlo.TRef sig ⟨S16x16384, .i32⟩) (broadcastInDim S16x16384 ![] bcast_S_S16x16384)
  :: StableHlo.TRef.binary (.of main_call0_call0_v148 : StableHlo.TRef sig ⟨S16x16384, .i32⟩) (.of main_call0_call0_v150 : StableHlo.TRef sig ⟨S16x16384, .i32⟩) (.of main_call0_call0_v151 : StableHlo.TRef sig ⟨S16x16384, .i32⟩) Host.shli
  :: StableHlo.TRef.nullary (.of main_call0_call0_c_39 : StableHlo.TRef sig ⟨S_, .i32⟩) (constantI S_ 32 17#32)
  :: StableHlo.TRef.unary (.of main_call0_call0_c_39 : StableHlo.TRef sig ⟨S_, .i32⟩) (.of main_call0_call0_v152 : StableHlo.TRef sig ⟨S16x16384, .i32⟩) (broadcastInDim S16x16384 ![] bcast_S_S16x16384)
  :: StableHlo.TRef.binary (.of main_call0_call0_v148 : StableHlo.TRef sig ⟨S16x16384, .i32⟩) (.of main_call0_call0_v152 : StableHlo.TRef sig ⟨S16x16384, .i32⟩) (.of main_call0_call0_v153 : StableHlo.TRef sig ⟨S16x16384, .i32⟩) Host.shrui
  :: StableHlo.TRef.binary (.of main_call0_call0_v151 : StableHlo.TRef sig ⟨S16x16384, .i32⟩) (.of main_call0_call0_v153 : StableHlo.TRef sig ⟨S16x16384, .i32⟩) (.of main_call0_call0_v154 : StableHlo.TRef sig ⟨S16x16384, .i32⟩) ori
  :: StableHlo.TRef.binary (.of main_call0_call0_v149 : StableHlo.TRef sig ⟨S16x16384, .i32⟩) (.of main_call0_call0_v154 : StableHlo.TRef sig ⟨S16x16384, .i32⟩) (.of main_call0_call0_v155 : StableHlo.TRef sig ⟨S16x16384, .i32⟩) xori
  :: StableHlo.TRef.binary (.of main_call0_call0_v149 : StableHlo.TRef sig ⟨S16x16384, .i32⟩) (.of main_call0_call0_v155 : StableHlo.TRef sig ⟨S16x16384, .i32⟩) (.of main_call0_call0_v156 : StableHlo.TRef sig ⟨S16x16384, .i32⟩) addi
  :: StableHlo.TRef.nullary (.of main_call0_call0_c_40 : StableHlo.TRef sig ⟨S_, .i32⟩) (constantI S_ 32 26#32)
  :: StableHlo.TRef.unary (.of main_call0_call0_c_40 : StableHlo.TRef sig ⟨S_, .i32⟩) (.of main_call0_call0_v157 : StableHlo.TRef sig ⟨S16x16384, .i32⟩) (broadcastInDim S16x16384 ![] bcast_S_S16x16384)
  :: StableHlo.TRef.binary (.of main_call0_call0_v155 : StableHlo.TRef sig ⟨S16x16384, .i32⟩) (.of main_call0_call0_v157 : StableHlo.TRef sig ⟨S16x16384, .i32⟩) (.of main_call0_call0_v158 : StableHlo.TRef sig ⟨S16x16384, .i32⟩) Host.shli
  :: StableHlo.TRef.nullary (.of main_call0_call0_c_41 : StableHlo.TRef sig ⟨S_, .i32⟩) (constantI S_ 32 6#32)
  :: StableHlo.TRef.unary (.of main_call0_call0_c_41 : StableHlo.TRef sig ⟨S_, .i32⟩) (.of main_call0_call0_v159 : StableHlo.TRef sig ⟨S16x16384, .i32⟩) (broadcastInDim S16x16384 ![] bcast_S_S16x16384)
  :: StableHlo.TRef.binary (.of main_call0_call0_v155 : StableHlo.TRef sig ⟨S16x16384, .i32⟩) (.of main_call0_call0_v159 : StableHlo.TRef sig ⟨S16x16384, .i32⟩) (.of main_call0_call0_v160 : StableHlo.TRef sig ⟨S16x16384, .i32⟩) Host.shrui
  :: StableHlo.TRef.binary (.of main_call0_call0_v158 : StableHlo.TRef sig ⟨S16x16384, .i32⟩) (.of main_call0_call0_v160 : StableHlo.TRef sig ⟨S16x16384, .i32⟩) (.of main_call0_call0_v161 : StableHlo.TRef sig ⟨S16x16384, .i32⟩) ori
  :: StableHlo.TRef.binary (.of main_call0_call0_v156 : StableHlo.TRef sig ⟨S16x16384, .i32⟩) (.of main_call0_call0_v161 : StableHlo.TRef sig ⟨S16x16384, .i32⟩) (.of main_call0_call0_v162 : StableHlo.TRef sig ⟨S16x16384, .i32⟩) xori
  :: StableHlo.TRef.binary (.of main_call0_call0_v156 : StableHlo.TRef sig ⟨S16x16384, .i32⟩) (.of main_call0_call0_v162 : StableHlo.TRef sig ⟨S16x16384, .i32⟩) (.of main_call0_call0_v163 : StableHlo.TRef sig ⟨S16x16384, .i32⟩) addi
  :: StableHlo.TRef.nullary (.of main_call0_call0_c_42 : StableHlo.TRef sig ⟨S_, .i32⟩) (constantI S_ 32 6#32)
  :: StableHlo.TRef.unary (.of main_call0_call0_c_42 : StableHlo.TRef sig ⟨S_, .i32⟩) (.of main_call0_call0_v164 : StableHlo.TRef sig ⟨S16x16384, .i32⟩) (broadcastInDim S16x16384 ![] bcast_S_S16x16384)
  :: StableHlo.TRef.binary (.of main_call0_call0_v162 : StableHlo.TRef sig ⟨S16x16384, .i32⟩) (.of main_call0_call0_v164 : StableHlo.TRef sig ⟨S16x16384, .i32⟩) (.of main_call0_call0_v165 : StableHlo.TRef sig ⟨S16x16384, .i32⟩) Host.shli
  :: StableHlo.TRef.nullary (.of main_call0_call0_c_43 : StableHlo.TRef sig ⟨S_, .i32⟩) (constantI S_ 32 26#32)
  :: StableHlo.TRef.unary (.of main_call0_call0_c_43 : StableHlo.TRef sig ⟨S_, .i32⟩) (.of main_call0_call0_v166 : StableHlo.TRef sig ⟨S16x16384, .i32⟩) (broadcastInDim S16x16384 ![] bcast_S_S16x16384)
  :: StableHlo.TRef.binary (.of main_call0_call0_v162 : StableHlo.TRef sig ⟨S16x16384, .i32⟩) (.of main_call0_call0_v166 : StableHlo.TRef sig ⟨S16x16384, .i32⟩) (.of main_call0_call0_v167 : StableHlo.TRef sig ⟨S16x16384, .i32⟩) Host.shrui
  :: StableHlo.TRef.binary (.of main_call0_call0_v165 : StableHlo.TRef sig ⟨S16x16384, .i32⟩) (.of main_call0_call0_v167 : StableHlo.TRef sig ⟨S16x16384, .i32⟩) (.of main_call0_call0_v168 : StableHlo.TRef sig ⟨S16x16384, .i32⟩) ori
  :: StableHlo.TRef.binary (.of main_call0_call0_v163 : StableHlo.TRef sig ⟨S16x16384, .i32⟩) (.of main_call0_call0_v168 : StableHlo.TRef sig ⟨S16x16384, .i32⟩) (.of main_call0_call0_v169 : StableHlo.TRef sig ⟨S16x16384, .i32⟩) xori
  :: StableHlo.TRef.unary (.of main_call0_call0_v1 : StableHlo.TRef sig ⟨S_, .i32⟩) (.of main_call0_call0_v170 : StableHlo.TRef sig ⟨S16x16384, .i32⟩) (broadcastInDim S16x16384 ![] bcast_S_S16x16384)
  :: StableHlo.TRef.binary (.of main_call0_call0_v163 : StableHlo.TRef sig ⟨S16x16384, .i32⟩) (.of main_call0_call0_v170 : StableHlo.TRef sig ⟨S16x16384, .i32⟩) (.of main_call0_v19_0 : StableHlo.TRef sig ⟨S16x16384, .i32⟩) addi
  :: StableHlo.TRef.unary (.of main_call0_v5 : StableHlo.TRef sig ⟨S_, .i32⟩) (.of main_call0_call0_v172 : StableHlo.TRef sig ⟨S16x16384, .i32⟩) (broadcastInDim S16x16384 ![] bcast_S_S16x16384)
  :: StableHlo.TRef.binary (.of main_call0_call0_v169 : StableHlo.TRef sig ⟨S16x16384, .i32⟩) (.of main_call0_call0_v172 : StableHlo.TRef sig ⟨S16x16384, .i32⟩) (.of main_call0_call0_v173 : StableHlo.TRef sig ⟨S16x16384, .i32⟩) addi
  :: StableHlo.TRef.nullary (.of main_call0_call0_c_44 : StableHlo.TRef sig ⟨S_, .i32⟩) (constantI S_ 32 5#32)
  :: StableHlo.TRef.unary (.of main_call0_call0_c_44 : StableHlo.TRef sig ⟨S_, .i32⟩) (.of main_call0_call0_v174 : StableHlo.TRef sig ⟨S16x16384, .i32⟩) (broadcastInDim S16x16384 ![] bcast_S_S16x16384)
  :: StableHlo.TRef.binary (.of main_call0_call0_v173 : StableHlo.TRef sig ⟨S16x16384, .i32⟩) (.of main_call0_call0_v174 : StableHlo.TRef sig ⟨S16x16384, .i32⟩) (.of main_call0_v19_1 : StableHlo.TRef sig ⟨S16x16384, .i32⟩) addi
  :: StableHlo.TRef.binary main_call0_call0.v171 main_call0_call0.v175 (.of main_call0_v20 : StableHlo.TRef sig ⟨S16x16384, .i32⟩) xori
  :: StableHlo.TRef.nullary (.of main_call0_c_2 : StableHlo.TRef sig ⟨S_, .i32⟩) (constantI S_ 32 9#32)
  :: StableHlo.TRef.unary (.of main_call0_c_2 : StableHlo.TRef sig ⟨S_, .i32⟩) (.of main_call0_v21 : StableHlo.TRef sig ⟨S16x16384, .i32⟩) (broadcastInDim S16x16384 ![] bcast_S_S16x16384)
  :: StableHlo.TRef.binary (.of main_call0_v20 : StableHlo.TRef sig ⟨S16x16384, .i32⟩) (.of main_call0_v21 : StableHlo.TRef sig ⟨S16x16384, .i32⟩) (.of main_call0_v22 : StableHlo.TRef sig ⟨S16x16384, .i32⟩) Host.shrui
  :: StableHlo.TRef.nullary (.of main_call0_c_3 : StableHlo.TRef sig ⟨S_, .i32⟩) (constantI S_ 32 1065353216#32)
  :: StableHlo.TRef.unary (.of main_call0_c_3 : StableHlo.TRef sig ⟨S_, .i32⟩) (.of main_call0_v23 : StableHlo.TRef sig ⟨S16x16384, .i32⟩) (broadcastInDim S16x16384 ![] bcast_S_S16x16384)
  :: StableHlo.TRef.binary (.of main_call0_v22 : StableHlo.TRef sig ⟨S16x16384, .i32⟩) (.of main_call0_v23 : StableHlo.TRef sig ⟨S16x16384, .i32⟩) (.of main_call0_v24 : StableHlo.TRef sig ⟨S16x16384, .i32⟩) ori
  :: StableHlo.TRef.unary (.of main_call0_v24 : StableHlo.TRef sig ⟨S16x16384, .i32⟩) (.of main_call0_v25 : StableHlo.TRef sig ⟨S16x16384, .f32⟩) (bitcastToFloat .f32)
  :: StableHlo.TRef.nullary (.of main_call0_cst : StableHlo.TRef sig ⟨S_, .f32⟩) (constant S_ .f32 0x3F800000#32)
  :: StableHlo.TRef.unary (.of main_call0_cst : StableHlo.TRef sig ⟨S_, .f32⟩) (.of main_call0_v26 : StableHlo.TRef sig ⟨S16x16384, .f32⟩) (broadcastInDim S16x16384 ![] bcast_S_S16x16384)
  :: StableHlo.TRef.binary (.of main_call0_v25 : StableHlo.TRef sig ⟨S16x16384, .f32⟩) (.of main_call0_v26 : StableHlo.TRef sig ⟨S16x16384, .f32⟩) (.of main_call0_v27 : StableHlo.TRef sig ⟨S16x16384, .f32⟩) subf
  :: StableHlo.TRef.binary (.of main_call0_v3 : StableHlo.TRef sig ⟨S1x1, .f32⟩) (.of main_call0_v2 : StableHlo.TRef sig ⟨S1x1, .f32⟩) (.of main_call0_v28 : StableHlo.TRef sig ⟨S1x1, .f32⟩) subf
  :: StableHlo.TRef.unary (.of main_call0_v28 : StableHlo.TRef sig ⟨S1x1, .f32⟩) (.of main_call0_v29 : StableHlo.TRef sig ⟨S16x16384, .f32⟩) (broadcastInDim S16x16384 ![0, 1] bcast_S1x1_S16x16384_0_1)
  :: StableHlo.TRef.binary (.of main_call0_v27 : StableHlo.TRef sig ⟨S16x16384, .f32⟩) (.of main_call0_v29 : StableHlo.TRef sig ⟨S16x16384, .f32⟩) (.of main_call0_v30 : StableHlo.TRef sig ⟨S16x16384, .f32⟩) mulf
  :: StableHlo.TRef.unary (.of main_call0_v2 : StableHlo.TRef sig ⟨S1x1, .f32⟩) (.of main_call0_v31 : StableHlo.TRef sig ⟨S16x16384, .f32⟩) (broadcastInDim S16x16384 ![0, 1] bcast_S1x1_S16x16384_0_1)
  :: StableHlo.TRef.binary (.of main_call0_v30 : StableHlo.TRef sig ⟨S16x16384, .f32⟩) (.of main_call0_v31 : StableHlo.TRef sig ⟨S16x16384, .f32⟩) (.of main_call0_v32 : StableHlo.TRef sig ⟨S16x16384, .f32⟩) addf
  :: StableHlo.TRef.unary (.of main_call0_v2 : StableHlo.TRef sig ⟨S1x1, .f32⟩) (.of main_call0_v33 : StableHlo.TRef sig ⟨S16x16384, .f32⟩) (broadcastInDim S16x16384 ![0, 1] bcast_S1x1_S16x16384_0_1)
  :: StableHlo.TRef.binary (.of main_call0_v33 : StableHlo.TRef sig ⟨S16x16384, .f32⟩) (.of main_call0_v32 : StableHlo.TRef sig ⟨S16x16384, .f32⟩) (.of main_v9 : StableHlo.TRef sig ⟨S16x16384, .f32⟩) maximumf
  :: [] )
set_option maxHeartbeats 40000000 in  -- a long stretch: its list (or the term over it) exceeds the default budget
/-- Each touches TensorCore references only (`HostSeg.ofOps` over `StableHlo.tcRefs`, or a subset by `sub_ucRefs`). -/
theorem uniformOps_sub : (uniformOps : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.reshape_bufs_sub .., StableHlo.unary_bufs_sub .., StableHlo.reshape_bufs_sub .., StableHlo.nullary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub ..⟩

end Cert.ReferenceIdeal.Run

end
-- ==== Proof.RefOps.lean ====
/- The reference's @main as stretches of operations: three before its loop of eight rounds, seven in the loop's body, one after. -/
module

public import proofs.«01_k».proof.Proof.RefUniform

@[expose] public section

-- a long stretch's `::` list recurses past the default depth
set_option maxRecDepth 4036

noncomputable section

namespace Cert.ReferenceIdeal.Run

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- 14 host operations of @main, in order. -/
abbrev entryOps : List (HloOp τ sig (Elt F)) :=
  [ StableHlo.unary main_arg0 main_v0 ((transpose S16x128x128x64 [0, 2, 3, 1] · transposes_S16x64x128x128_S16x128x128x64_0_2_3_1) : (⟨S16x64x128x128, .f32⟩ : BufTy).Contents (Elt F) → (⟨S16x128x128x64, .f32⟩ : BufTy).Contents (Elt F)),
    StableHlo.reshape main_v0 main_v1 (rfl : (.f32 : EltTy) = .f32) shapeCasts_S16x128x128x64_S16x16384x64,
    StableHlo.nullary main_c (constantI S_ 32 1#32),
    StableHlo.nullary main_c_0 (constantI S_ 32 32#32),
    StableHlo.binary main_c main_c_0 main_v2 (Host.shrui : (⟨S_, .i32⟩ : BufTy).Contents (Elt F) → (⟨S_, .i32⟩ : BufTy).Contents (Elt F) → (⟨S_, .i32⟩ : BufTy).Contents (Elt F)),
    StableHlo.unary main_v2 main_v3 (id : (⟨S_, .i32⟩ : BufTy).Contents (Elt F) → (⟨S_, .i32⟩ : BufTy).Contents (Elt F)),
    StableHlo.unary main_v3 main_v4 (broadcastInDim S1 ![] bcast_S_S1 : (⟨S_, .i32⟩ : BufTy).Contents (Elt F) → (⟨S1, .i32⟩ : BufTy).Contents (Elt F)),
    StableHlo.nullary main_c_1 (constantI S_ 32 4294967295#32),
    StableHlo.binary main_c main_c_1 main_v5 (andi : (⟨S_, .i32⟩ : BufTy).Contents (Elt F) → (⟨S_, .i32⟩ : BufTy).Contents (Elt F) → (⟨S_, .i32⟩ : BufTy).Contents (Elt F)),
    StableHlo.unary main_v5 main_v6 (id : (⟨S_, .i32⟩ : BufTy).Contents (Elt F) → (⟨S_, .i32⟩ : BufTy).Contents (Elt F)),
    StableHlo.unary main_v6 main_v7 (broadcastInDim S1 ![] bcast_S_S1 : (⟨S_, .i32⟩ : BufTy).Contents (Elt F) → (⟨S1, .i32⟩ : BufTy).Contents (Elt F)),
    StableHlo.binary main_v4 main_v7 main_v8 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    StableHlo.nullary main_cst (constant S_ .f32 0x00000000#32),
    StableHlo.nullary main_cst_2 (constant S_ .f32 0x3F800000#32) ]
/-- Each touches TensorCore references only (`HostSeg.ofOps` over `StableHlo.tcRefs`, or a subset by `sub_ucRefs`). -/
theorem entryOps_sub : (entryOps : List (HloOp τ sig (Elt F))).Forall fun op => op.bufs ⊆ StableHlo.tcRefs τ sig :=
  ⟨StableHlo.unary_bufs_sub .., StableHlo.reshape_bufs_sub .., StableHlo.nullary_bufs_sub .., StableHlo.nullary_bufs_sub .., StableHlo.binary_bufs_sub .., StableHlo.unary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.nullary_bufs_sub ..⟩
set_option maxHeartbeats 40000000 in  -- a long stretch: its list (or the term over it) exceeds the default budget
/-- 10 host operations of @main, in order. -/
abbrev startOps : List (HloOp τ sig (Elt F)) :=
  [ StableHlo.nullary main_cst_3 (constant S_ .f32 0x00000000#32),
    StableHlo.unary main_cst_3 main_v10 (broadcastInDim S8x16x64 ![] bcast_S_S8x16x64 : (⟨S_, .f32⟩ : BufTy).Contents (Elt F) → (⟨S8x16x64, .f32⟩ : BufTy).Contents (Elt F)),
    StableHlo.nullary main_cst_4 (constant S_ .f32 0x00000000#32),
    StableHlo.unary main_cst_4 main_v11 (broadcastInDim S8x16x16384 ![] bcast_S_S8x16x16384 : (⟨S_, .f32⟩ : BufTy).Contents (Elt F) → (⟨S8x16x16384, .f32⟩ : BufTy).Contents (Elt F)),
    StableHlo.nullary main_c_5 (constantI S_ 32 0#32),
    StableHlo.unary main_v1 main_v12_0 id,
    StableHlo.unary main_c_5 main_v12_1 id,
    StableHlo.unary main_v9 main_v12_2 id,
    StableHlo.unary main_v10 main_v12_3 id,
    StableHlo.unary main_v11 main_v12_4 id ]
/-- Each touches TensorCore references only (`HostSeg.ofOps` over `StableHlo.tcRefs`, or a subset by `sub_ucRefs`). -/
theorem startOps_sub : (startOps : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
/-- 5 host operations of @main, in order. -/
abbrev postOps : List (HloOp τ sig (Elt F)) :=
  [ StableHlo.unary main_v12_3 main_v13 ((transpose S16x8x64 [1, 0, 2] · transposes_S8x16x64_S16x8x64_1_0_2) : (⟨S8x16x64, .f32⟩ : BufTy).Contents (Elt F) → (⟨S16x8x64, .f32⟩ : BufTy).Contents (Elt F)),
    StableHlo.unary main_v12_4 main_v14 ((transpose S16x8x16384 [1, 0, 2] · transposes_S8x16x16384_S16x8x16384_1_0_2) : (⟨S8x16x16384, .f32⟩ : BufTy).Contents (Elt F) → (⟨S16x8x16384, .f32⟩ : BufTy).Contents (Elt F)),
    StableHlo.nullary main_cst_6 (constant S_ .f32 0x00000000#32),
    StableHlo.unary main_cst_6 main_v15 (broadcastInDim S16x16384 ![] bcast_S_S16x16384 : (⟨S_, .f32⟩ : BufTy).Contents (Elt F) → (⟨S16x16384, .f32⟩ : BufTy).Contents (Elt F)),
    StableHlo.reshape main_v15 main_v16 (rfl : (.f32 : EltTy) = .f32) shapeCasts_S16x16384_S16x1x128x128 ]
/-- Each touches TensorCore references only (`HostSeg.ofOps` over `StableHlo.tcRefs`, or a subset by `sub_ucRefs`). -/
theorem postOps_sub : (postOps : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.reshape_bufs_sub ..⟩
/-- `main` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem main_chain (c : Dev nD) : main (F := F) c = (Pipeline.chain
  [ StableHlo.seq entryOps,
    StableHlo.seq uniformOps,
    StableHlo.seq startOps,
    HostLoop.enter 0,
    StableHlo.seq postOps ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons]
  chain_rfl

-- no `main_segs` (the loop-free kit's `Seg.run` equation) for this @main: it has a host loop; a certificate takes `main_chain` (Lib/Pipeline/RegionsLoop.lean)

/-- 5 host operations of @argmax (main_while0b_call1), in order. -/
abbrev argmaxOps : List (HloOp τ sig (Elt F)) :=
  [ StableHlo.TRef.nullary (.of main_while0b_call1_v0 : StableHlo.TRef sig ⟨S16x16384, .i32⟩) (iotaInDim S16x16384 32 1),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_v12_2 : StableHlo.TRef sig ⟨S16x16384, .f32⟩) (.of main_while0b_call1_v0 : StableHlo.TRef sig ⟨S16x16384, .i32⟩) (.of main_while0b_call1_cst : StableHlo.TRef sig ⟨S_, .f32⟩) (.of main_while0b_call1_c : StableHlo.TRef sig ⟨S_, .i32⟩) (.of main_while0b_call1_v1_0 : StableHlo.TRef sig ⟨S16, .f32⟩) (fun x y u v j => (Host.argReduce reducer_argmax_f32_i32 x y u v reducesTo_S16x16384_S16_d1 h_S_ j).1),
    StableHlo.TRef.quaternary (.of main_v12_2 : StableHlo.TRef sig ⟨S16x16384, .f32⟩) (.of main_while0b_call1_v0 : StableHlo.TRef sig ⟨S16x16384, .i32⟩) (.of main_while0b_call1_cst : StableHlo.TRef sig ⟨S_, .f32⟩) (.of main_while0b_call1_c : StableHlo.TRef sig ⟨S_, .i32⟩) (.of main_while0b_v17 : StableHlo.TRef sig ⟨S16, .i32⟩) (fun x y u v j => (Host.argReduce reducer_argmax_f32_i32 x y u v reducesTo_S16x16384_S16_d1 h_S_ j).2) ]
/-- Each touches TensorCore references only (`HostSeg.ofOps` over `StableHlo.tcRefs`, or a subset by `sub_ucRefs`). -/
theorem argmaxOps_sub : (argmaxOps : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 2 host operations of host loop 0's body region, in order. -/
abbrev indexOps : List (HloOp τ sig (Elt F)) :=
  [ StableHlo.unary main_while0b_v17 main_while0b_v18 (broadcastInDim S16x1 ![0] bcast_S16_S16x1_0 : (⟨S16, .i32⟩ : BufTy).Contents (Elt F) → (⟨S16x1, .i32⟩ : BufTy).Contents (Elt F)),
    StableHlo.unary main_while0b_v18 main_while0b_v19 (broadcastInDim S16x1x1 ![0, 1] bcast_S16x1_S16x1x1_0_1 : (⟨S16x1, .i32⟩ : BufTy).Contents (Elt F) → (⟨S16x1x1, .i32⟩ : BufTy).Contents (Elt F)) ]
/-- Each touches TensorCore references only (`HostSeg.ofOps` over `StableHlo.tcRefs`, or a subset by `sub_ucRefs`). -/
theorem indexOps_sub : (indexOps : List (HloOp τ sig (Elt F))).Forall fun op => op.bufs ⊆ StableHlo.tcRefs τ sig :=
  ⟨StableHlo.unary_bufs_sub .., StableHlo.unary_bufs_sub ..⟩
/-- 22 host operations of @take_along_axis (main_while0b_call2), in order. -/
abbrev gatherOps : List (HloOp τ sig (Elt F)) :=
  [ StableHlo.TRef.nullary (.of main_while0b_call2_c : StableHlo.TRef sig ⟨S_, .i32⟩) (constantI S_ 32 0#32),
    StableHlo.TRef.unary (.of main_while0b_call2_c : StableHlo.TRef sig ⟨S_, .i32⟩) (.of main_while0b_call2_v0 : StableHlo.TRef sig ⟨S16x1x1, .i32⟩) (broadcastInDim S16x1x1 ![] bcast_S_S16x1x1),
    StableHlo.TRef.binary (.of main_while0b_v19 : StableHlo.TRef sig ⟨S16x1x1, .i32⟩) (.of main_while0b_call2_v0 : StableHlo.TRef sig ⟨S16x1x1, .i32⟩) (.of main_while0b_call2_v1 : StableHlo.TRef sig ⟨S16x1x1, .i1⟩) (cmpi .slt),
    StableHlo.TRef.nullary (.of main_while0b_call2_c_0 : StableHlo.TRef sig ⟨S_, .i32⟩) (constantI S_ 32 16384#32),
    StableHlo.TRef.unary (.of main_while0b_call2_c_0 : StableHlo.TRef sig ⟨S_, .i32⟩) (.of main_while0b_call2_v2 : StableHlo.TRef sig ⟨S16x1x1, .i32⟩) (broadcastInDim S16x1x1 ![] bcast_S_S16x1x1),
    StableHlo.TRef.binary (.of main_while0b_v19 : StableHlo.TRef sig ⟨S16x1x1, .i32⟩) (.of main_while0b_call2_v2 : StableHlo.TRef sig ⟨S16x1x1, .i32⟩) (.of main_while0b_call2_v3 : StableHlo.TRef sig ⟨S16x1x1, .i32⟩) addi,
    StableHlo.TRef.ternary (.of main_while0b_call2_v1 : StableHlo.TRef sig ⟨S16x1x1, .i1⟩) (.of main_while0b_call2_v3 : StableHlo.TRef sig ⟨S16x1x1, .i32⟩) (.of main_while0b_v19 : StableHlo.TRef sig ⟨S16x1x1, .i32⟩) (.of main_while0b_call2_v4 : StableHlo.TRef sig ⟨S16x1x1, .i32⟩) select,
    StableHlo.TRef.nullary (.of main_while0b_call2_c_1 : StableHlo.TRef sig ⟨S1, .i32⟩) (constantI S1 32 16383#32),
    StableHlo.TRef.nullary (.of main_while0b_call2_c_2 : StableHlo.TRef sig ⟨S_, .i32⟩) (constantI S_ 32 0#32),
    StableHlo.TRef.unary (.of main_while0b_call2_c_2 : StableHlo.TRef sig ⟨S_, .i32⟩) (.of main_while0b_call2_v5 : StableHlo.TRef sig ⟨S16x1x1, .i32⟩) (broadcastInDim S16x1x1 ![] bcast_S_S16x1x1),
    StableHlo.TRef.binary (.of main_while0b_call2_v4 : StableHlo.TRef sig ⟨S16x1x1, .i32⟩) (.of main_while0b_call2_v5 : StableHlo.TRef sig ⟨S16x1x1, .i32⟩) (.of main_while0b_call2_v6 : StableHlo.TRef sig ⟨S16x1x1, .i1⟩) (cmpi .sge),
    StableHlo.TRef.unary (.of main_while0b_call2_c_1 : StableHlo.TRef sig ⟨S1, .i32⟩) (.of main_while0b_call2_v7 : StableHlo.TRef sig ⟨S1x1x1, .i32⟩) (broadcastInDim S1x1x1 ![2] bcast_S1_S1x1x1_2),
    StableHlo.TRef.unary (.of main_while0b_call2_v7 : StableHlo.TRef sig ⟨S1x1x1, .i32⟩) (.of main_while0b_call2_v8 : StableHlo.TRef sig ⟨S16x1x1, .i32⟩) (broadcastInDim S16x1x1 ![0, 1, 2] bcast_S1x1x1_S16x1x1_0_1_2),
    StableHlo.TRef.binary (.of main_while0b_call2_v4 : StableHlo.TRef sig ⟨S16x1x1, .i32⟩) (.of main_while0b_call2_v8 : StableHlo.TRef sig ⟨S16x1x1, .i32⟩) (.of main_while0b_call2_v9 : StableHlo.TRef sig ⟨S16x1x1, .i1⟩) (cmpi .sle),
    StableHlo.TRef.binary (.of main_while0b_call2_v6 : StableHlo.TRef sig ⟨S16x1x1, .i1⟩) (.of main_while0b_call2_v9 : StableHlo.TRef sig ⟨S16x1x1, .i1⟩) (.of main_while0b_call2_v10 : StableHlo.TRef sig ⟨S16x1x1, .i1⟩) andi,
    StableHlo.TRef.nullary (.of main_while0b_call2_c_3 : StableHlo.TRef sig ⟨S_, .i1⟩) (constantI S_ 1 1#1),
    StableHlo.TRef.binary (.of main_while0b_call2_v10 : StableHlo.TRef sig ⟨S16x1x1, .i1⟩) (.of main_while0b_call2_c_3 : StableHlo.TRef sig ⟨S_, .i1⟩) (.of main_while0b_call2_v11 : StableHlo.TRef sig ⟨S16x1, .i1⟩) (fun x v => Host.reduce IntOp.andi x v reducesTo_S16x1x1_S16x1_d2 h_S_),
    StableHlo.TRef.binary (.of main_v12_0 : StableHlo.TRef sig ⟨S16x16384x64, .f32⟩) (.of main_while0b_call2_v4 : StableHlo.TRef sig ⟨S16x1x1, .i32⟩) (.of main_while0b_call2_v12 : StableHlo.TRef sig ⟨S16x1x64, .f32⟩) (fun x i => Host.gather gather_S16x16384x64_S16x1x1_S16x1x64_2_1_0_0_1_2_1164 x i),
    StableHlo.TRef.unary (.of main_while0b_call2_v11 : StableHlo.TRef sig ⟨S16x1, .i1⟩) (.of main_while0b_call2_v13 : StableHlo.TRef sig ⟨S16x1x64, .i1⟩) (broadcastInDim S16x1x64 ![0, 1] bcast_S16x1_S16x1x64_0_1),
    StableHlo.TRef.nullary (.of main_while0b_call2_cst : StableHlo.TRef sig ⟨S_, .f32⟩) (constant S_ .f32 0x7FC00000#32),
    StableHlo.TRef.unary (.of main_while0b_call2_cst : StableHlo.TRef sig ⟨S_, .f32⟩) (.of main_while0b_call2_v14 : StableHlo.TRef sig ⟨S16x1x64, .f32⟩) (broadcastInDim S16x1x64 ![] bcast_S_S16x1x64),
    StableHlo.TRef.ternary (.of main_while0b_call2_v13 : StableHlo.TRef sig ⟨S16x1x64, .i1⟩) (.of main_while0b_call2_v12 : StableHlo.TRef sig ⟨S16x1x64, .f32⟩) (.of main_while0b_call2_v14 : StableHlo.TRef sig ⟨S16x1x64, .f32⟩) (.of main_while0b_v20 : StableHlo.TRef sig ⟨S16x1x64, .f32⟩) select ]
/-- Each touches TensorCore references only (`HostSeg.ofOps` over `StableHlo.tcRefs`, or a subset by `sub_ucRefs`). -/
theorem gatherOps_sub : (gatherOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- 25 host operations of host loop 0's body region, in order. -/
abbrev roundOps : List (HloOp τ sig (Elt F)) :=
  [ StableHlo.unary main_while0b_v20 main_while0b_v21 (broadcastInDim S16x16384x64 ![0, 1, 2] bcast_S16x1x64_S16x16384x64_0_1_2 : (⟨S16x1x64, .f32⟩ : BufTy).Contents (Elt F) → (⟨S16x16384x64, .f32⟩ : BufTy).Contents (Elt F)),
    StableHlo.binary main_v12_0 main_while0b_v21 main_while0b_v22 (subf : (⟨S16x16384x64, .f32⟩ : BufTy).Contents (Elt F) → (⟨S16x16384x64, .f32⟩ : BufTy).Contents (Elt F) → (⟨S16x16384x64, .f32⟩ : BufTy).Contents (Elt F)),
    StableHlo.binary main_while0b_v22 main_while0b_v22 main_while0b_v23 (mulf : (⟨S16x16384x64, .f32⟩ : BufTy).Contents (Elt F) → (⟨S16x16384x64, .f32⟩ : BufTy).Contents (Elt F) → (⟨S16x16384x64, .f32⟩ : BufTy).Contents (Elt F)),
    StableHlo.nullary main_while0b_cst_11 (constant S_ .f32 0x00000000#32),
    StableHlo.binary main_while0b_v23 main_while0b_cst_11 main_while0b_v24 ((fun x v => Host.reduceAdd x v reducesTo_S16x16384x64_S16x16384_d2 h_S_) : (⟨S16x16384x64, .f32⟩ : BufTy).Contents (Elt F) → (⟨S_, .f32⟩ : BufTy).Contents (Elt F) → (⟨S16x16384, .f32⟩ : BufTy).Contents (Elt F)),
    StableHlo.unary main_while0b_v24 main_while0b_v25 (Host.sqrt : (⟨S16x16384, .f32⟩ : BufTy).Contents (Elt F) → (⟨S16x16384, .f32⟩ : BufTy).Contents (Elt F)),
    StableHlo.unary main_while0b_v25 main_while0b_v26 (Host.negf : (⟨S16x16384, .f32⟩ : BufTy).Contents (Elt F) → (⟨S16x16384, .f32⟩ : BufTy).Contents (Elt F)),
    StableHlo.nullary main_while0b_cst_12 (constant S_ .f32 0x41A00000#32),
    StableHlo.unary main_while0b_cst_12 main_while0b_v27 (broadcastInDim S16x16384 ![] bcast_S_S16x16384 : (⟨S_, .f32⟩ : BufTy).Contents (Elt F) → (⟨S16x16384, .f32⟩ : BufTy).Contents (Elt F)),
    StableHlo.binary main_while0b_v26 main_while0b_v27 main_while0b_v28 (Host.divf : (⟨S16x16384, .f32⟩ : BufTy).Contents (Elt F) → (⟨S16x16384, .f32⟩ : BufTy).Contents (Elt F) → (⟨S16x16384, .f32⟩ : BufTy).Contents (Elt F)),
    StableHlo.unary main_while0b_v28 main_while0b_v29 (Host.exp : (⟨S16x16384, .f32⟩ : BufTy).Contents (Elt F) → (⟨S16x16384, .f32⟩ : BufTy).Contents (Elt F)),
    StableHlo.nullary main_while0b_cst_13 (constant S_ .f32 0x00000000#32),
    StableHlo.binary main_while0b_v29 main_while0b_cst_13 main_while0b_v30 ((fun x v => Host.reduceAdd x v reducesTo_S16x16384_S16_d1 h_S_) : (⟨S16x16384, .f32⟩ : BufTy).Contents (Elt F) → (⟨S_, .f32⟩ : BufTy).Contents (Elt F) → (⟨S16, .f32⟩ : BufTy).Contents (Elt F)),
    StableHlo.unary main_while0b_v30 main_while0b_v31 (broadcastInDim S16x1 ![0] bcast_S16_S16x1_0 : (⟨S16, .f32⟩ : BufTy).Contents (Elt F) → (⟨S16x1, .f32⟩ : BufTy).Contents (Elt F)),
    StableHlo.unary main_while0b_v31 main_while0b_v32 (broadcastInDim S16x16384 ![0, 1] bcast_S16x1_S16x16384_0_1 : (⟨S16x1, .f32⟩ : BufTy).Contents (Elt F) → (⟨S16x16384, .f32⟩ : BufTy).Contents (Elt F)),
    StableHlo.binary main_while0b_v29 main_while0b_v32 main_while0b_v33 (Host.divf : (⟨S16x16384, .f32⟩ : BufTy).Contents (Elt F) → (⟨S16x16384, .f32⟩ : BufTy).Contents (Elt F) → (⟨S16x16384, .f32⟩ : BufTy).Contents (Elt F)),
    StableHlo.unary main_while0b_v33 main_while0b_v34 (broadcastInDim S16x16384x1 ![0, 1] bcast_S16x16384_S16x16384x1_0_1 : (⟨S16x16384, .f32⟩ : BufTy).Contents (Elt F) → (⟨S16x16384x1, .f32⟩ : BufTy).Contents (Elt F)),
    StableHlo.unary main_while0b_v34 main_while0b_v35 (broadcastInDim S16x16384x64 ![0, 1, 2] bcast_S16x16384x1_S16x16384x64_0_1_2 : (⟨S16x16384x1, .f32⟩ : BufTy).Contents (Elt F) → (⟨S16x16384x64, .f32⟩ : BufTy).Contents (Elt F)),
    StableHlo.binary main_v12_0 main_while0b_v35 main_while0b_v36 (mulf : (⟨S16x16384x64, .f32⟩ : BufTy).Contents (Elt F) → (⟨S16x16384x64, .f32⟩ : BufTy).Contents (Elt F) → (⟨S16x16384x64, .f32⟩ : BufTy).Contents (Elt F)),
    StableHlo.nullary main_while0b_cst_14 (constant S_ .f32 0x00000000#32),
    StableHlo.binary main_while0b_v36 main_while0b_cst_14 main_while0b_v37 ((fun x v => Host.reduceAdd x v reducesTo_S16x16384x64_S16x64_d1 h_S_) : (⟨S16x16384x64, .f32⟩ : BufTy).Contents (Elt F) → (⟨S_, .f32⟩ : BufTy).Contents (Elt F) → (⟨S16x64, .f32⟩ : BufTy).Contents (Elt F)),
    StableHlo.nullary main_while0b_cst_15 (constant S_ .f32 0x3F800000#32),
    StableHlo.unary main_while0b_cst_15 main_while0b_v38 (broadcastInDim S16x16384 ![] bcast_S_S16x16384 : (⟨S_, .f32⟩ : BufTy).Contents (Elt F) → (⟨S16x16384, .f32⟩ : BufTy).Contents (Elt F)),
    StableHlo.binary main_while0b_v38 main_while0b_v29 main_while0b_v39 (subf : (⟨S16x16384, .f32⟩ : BufTy).Contents (Elt F) → (⟨S16x16384, .f32⟩ : BufTy).Contents (Elt F) → (⟨S16x16384, .f32⟩ : BufTy).Contents (Elt F)),
    StableHlo.binary main_while0b_v39 main_v12_2 main_while0b_v40 (mulf : (⟨S16x16384, .f32⟩ : BufTy).Contents (Elt F) → (⟨S16x16384, .f32⟩ : BufTy).Contents (Elt F) → (⟨S16x16384, .f32⟩ : BufTy).Contents (Elt F)) ]
/-- Each touches TensorCore references only (`HostSeg.ofOps` over `StableHlo.tcRefs`, or a subset by `sub_ucRefs`). -/
theorem roundOps_sub : (roundOps : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.binary_bufs_sub ..⟩
/-- 4 host operations of @dynamic_update_index_in_dim (main_while0b_call3), in order. -/
abbrev storeVecOps : List (HloOp τ sig (Elt F)) :=
  [ StableHlo.TRef.unary (.of main_while0b_v37 : StableHlo.TRef sig ⟨S16x64, .f32⟩) (.of main_while0b_call3_v0 : StableHlo.TRef sig ⟨S1x16x64, .f32⟩) (broadcastInDim S1x16x64 ![1, 2] bcast_S16x64_S1x16x64_1_2),
    StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.binaryIndexed (.of main_v12_3 : StableHlo.TRef sig ⟨S8x16x64, .f32⟩) (.of main_while0b_call3_v0 : StableHlo.TRef sig ⟨S1x16x64, .f32⟩) ![(.of main_v12_1 : StableHlo.TRef sig ⟨S_, .i32⟩), (.of main_while0b_call3_c : StableHlo.TRef sig ⟨S_, .i32⟩), (.of main_while0b_call3_c_0 : StableHlo.TRef sig ⟨S_, .i32⟩)] (.of main_while0b_v41 : StableHlo.TRef sig ⟨S8x16x64, .f32⟩) (fun x u i => Host.dynamicUpdateSlice x u (fun k => (i k (Shape.Idx.first h_S_)).toInt) updateFits_S8x16x64_S1x16x64) ]
/-- Each touches TensorCore references only (`HostSeg.ofOps` over `StableHlo.tcRefs`, or a subset by `sub_ucRefs`). -/
theorem storeVecOps_sub : (storeVecOps : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 4 host operations of @dynamic_update_index_in_dim_0 (main_while0b_call4), in order. -/
abbrev storeSimOps : List (HloOp τ sig (Elt F)) :=
  [ StableHlo.TRef.unary (.of main_while0b_v29 : StableHlo.TRef sig ⟨S16x16384, .f32⟩) (.of main_while0b_call4_v0 : StableHlo.TRef sig ⟨S1x16x16384, .f32⟩) (broadcastInDim S1x16x16384 ![1, 2] bcast_S16x16384_S1x16x16384_1_2),
    StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.binaryIndexed (.of main_v12_4 : StableHlo.TRef sig ⟨S8x16x16384, .f32⟩) (.of main_while0b_call4_v0 : StableHlo.TRef sig ⟨S1x16x16384, .f32⟩) ![(.of main_v12_1 : StableHlo.TRef sig ⟨S_, .i32⟩), (.of main_while0b_call4_c : StableHlo.TRef sig ⟨S_, .i32⟩), (.of main_while0b_call4_c_0 : StableHlo.TRef sig ⟨S_, .i32⟩)] (.of main_while0b_v42 : StableHlo.TRef sig ⟨S8x16x16384, .f32⟩) (fun x u i => Host.dynamicUpdateSlice x u (fun k => (i k (Shape.Idx.first h_S_)).toInt) updateFits_S8x16x16384_S1x16x16384) ]
/-- Each touches TensorCore references only (`HostSeg.ofOps` over `StableHlo.tcRefs`, or a subset by `sub_ucRefs`). -/
theorem storeSimOps_sub : (storeSimOps : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 6 host operations of host loop 0's body region, in order. -/
abbrev stepOps : List (HloOp τ sig (Elt F)) :=
  [ StableHlo.nullary main_while0b_c_16 (constantI S_ 32 1#32),
    StableHlo.binary main_v12_1 main_while0b_c_16 main_while0b_v43 (addi : (⟨S_, .i32⟩ : BufTy).Contents (Elt F) → (⟨S_, .i32⟩ : BufTy).Contents (Elt F) → (⟨S_, .i32⟩ : BufTy).Contents (Elt F)),
    StableHlo.unary main_while0b_v43 main_v12_1 id,
    StableHlo.unary main_while0b_v40 main_v12_2 id,
    StableHlo.unary main_while0b_v41 main_v12_3 id,
    StableHlo.unary main_while0b_v42 main_v12_4 id ]
/-- Each touches TensorCore references only (`HostSeg.ofOps` over `StableHlo.tcRefs`, or a subset by `sub_ucRefs`). -/
theorem stepOps_sub : (stepOps : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq argmaxOps,
    StableHlo.seq indexOps,
    StableHlo.seq gatherOps,
    StableHlo.seq roundOps,
    StableHlo.seq storeVecOps,
    StableHlo.seq storeSimOps,
    StableHlo.seq stepOps ] : Prog (TpuEff nD τ sig (Elt F) (HostLoop.Sig (Pipeline.Sig Λ₀ (Fin 0) fun p => (pcfgs (F := F) p).Adm) 1) .tc) PUnit) := by
  rewrite [Pipeline.chain_cons, StableHlo.chain_seq_cons, Pipeline.chain_cons, StableHlo.chain_seq_cons, Pipeline.chain_cons, Pipeline.chain_cons, StableHlo.chain_seq_cons]
  chain_rfl

end Cert.ReferenceIdeal.Run

end
-- ==== Proof.RefRun.lean ====
/- The reference's run: every execution ends, with every buffer at the fold of the operations of `RefOps.lean`. -/
module

public import proofs.«01_k».proof.Proof.RefOps
public import Idealize.ShloMosaic.Lib.StableHlo.RunRead
public import Idealize.ShloMosaic.Lib.Scf.ExitTest
public import Idealize.ShloMosaic.Lib.Scf.Counter

@[expose] public section

-- a long stretch's `::` list recurses past the default depth
set_option maxRecDepth 4036

noncomputable section

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `entryOps` allocates a buffer. -/
theorem entryOps_fresh : (entryOps : List (HloOp τ sig (Elt F))).Forall fun op => op.fresh = ∅ :=
  StableHlo.forall_fresh_of_map rfl
/-- The reference each operation of `entryOps` writes, in order. -/
abbrev entryOps_W : List (Ref sig .tc) := [main_v0, main_v1, main_c, main_c_0, main_v2, main_v3, main_v4, main_c_1, main_v5, main_v6, main_v7, main_v8, main_cst, main_cst_2]
theorem entryOps_writes : (entryOps : List (HloOp τ sig (Elt F))).Forall fun op => op.writes ⊆ (entryOps_W.map (Proc.devRef (τ := τ) .tc)).toFinset :=
  StableHlo.forall_writes_sub_of_map rfl
/-- No operation of `uniformOps` allocates a buffer. -/
theorem uniformOps_fresh : (uniformOps : List (HloOp τ sig (Elt F))).Forall fun op => op.fresh = ∅ :=
  StableHlo.forall_fresh_of_map rfl
/-- The reference each operation of `uniformOps` writes, in order. -/
abbrev uniformOps_W : List (Ref sig .tc) := [main_call0_v0, main_call0_v1, main_call0_v2, main_call0_v3, main_call0_v4, main_call0_v5, main_call0_v6, main_call0_v7, main_call0_v8, main_call0_v9, main_call0_c, main_call0_v10, main_call0_v11, main_call0_c_0, main_call0_v12, main_call0_v13, main_call0_v14, main_call0_c_1, main_call0_v15, main_call0_v16, main_call0_v17, main_call0_v18, main_call0_call0_v0, main_call0_call0_c, main_call0_call0_v1, main_call0_call0_v2, main_call0_call0_v3, main_call0_call0_v4, main_call0_call0_v5, main_call0_call0_v6, main_call0_call0_c_0, main_call0_call0_v7, main_call0_call0_v8, main_call0_call0_c_1, main_call0_call0_v9, main_call0_call0_v10, main_call0_call0_v11, main_call0_call0_v12, main_call0_call0_v13, main_call0_call0_c_2, main_call0_call0_v14, main_call0_call0_v15, main_call0_call0_c_3, main_call0_call0_v16, main_call0_call0_v17, main_call0_call0_v18, main_call0_call0_v19, main_call0_call0_v20, main_call0_call0_c_4, main_call0_call0_v21, main_call0_call0_v22, main_call0_call0_c_5, main_call0_call0_v23, main_call0_call0_v24, main_call0_call0_v25, main_call0_call0_v26, main_call0_call0_v27, main_call0_call0_c_6, main_call0_call0_v28, main_call0_call0_v29, main_call0_call0_c_7, main_call0_call0_v30, main_call0_call0_v31, main_call0_call0_v32, main_call0_call0_v33, main_call0_call0_v34, main_call0_call0_v35, main_call0_call0_v36, main_call0_call0_v37, main_call0_call0_c_8, main_call0_call0_v38, main_call0_call0_v39, main_call0_call0_v40, main_call0_call0_c_9, main_call0_call0_v41, main_call0_call0_v42, main_call0_call0_c_10, main_call0_call0_v43, main_call0_call0_v44, main_call0_call0_v45, main_call0_call0_v46, main_call0_call0_v47, main_call0_call0_c_11, main_call0_call0_v48, main_call0_call0_v49, main_call0_call0_c_12, main_call0_call0_v50, main_call0_call0_v51, main_call0_call0_v52, main_call0_call0_v53, main_call0_call0_v54, main_call0_call0_c_13, main_call0_call0_v55, main_call0_call0_v56, main_call0_call0_c_14, main_call0_call0_v57, main_call0_call0_v58, main_call0_call0_v59, main_call0_call0_v60, main_call0_call0_v61, main_call0_call0_c_15, main_call0_call0_v62, main_call0_call0_v63, main_call0_call0_c_16, main_call0_call0_v64, main_call0_call0_v65, main_call0_call0_v66, main_call0_call0_v67, main_call0_call0_v68, main_call0_call0_v69, main_call0_call0_v70, main_call0_call0_v71, main_call0_call0_c_17, main_call0_call0_v72, main_call0_call0_v73, main_call0_call0_v74, main_call0_call0_c_18, main_call0_call0_v75, main_call0_call0_v76, main_call0_call0_c_19, main_call0_call0_v77, main_call0_call0_v78, main_call0_call0_v79, main_call0_call0_v80, main_call0_call0_v81, main_call0_call0_c_20, main_call0_call0_v82, main_call0_call0_v83, main_call0_call0_c_21, main_call0_call0_v84, main_call0_call0_v85, main_call0_call0_v86, main_call0_call0_v87, main_call0_call0_v88, main_call0_call0_c_22, main_call0_call0_v89, main_call0_call0_v90, main_call0_call0_c_23, main_call0_call0_v91, main_call0_call0_v92, main_call0_call0_v93, main_call0_call0_v94, main_call0_call0_v95, main_call0_call0_c_24, main_call0_call0_v96, main_call0_call0_v97, main_call0_call0_c_25, main_call0_call0_v98, main_call0_call0_v99, main_call0_call0_v100, main_call0_call0_v101, main_call0_call0_v102, main_call0_call0_v103, main_call0_call0_v104, main_call0_call0_v105, main_call0_call0_c_26, main_call0_call0_v106, main_call0_call0_v107, main_call0_call0_v108, main_call0_call0_c_27, main_call0_call0_v109, main_call0_call0_v110, main_call0_call0_c_28, main_call0_call0_v111, main_call0_call0_v112, main_call0_call0_v113, main_call0_call0_v114, main_call0_call0_v115, main_call0_call0_c_29, main_call0_call0_v116, main_call0_call0_v117, main_call0_call0_c_30, main_call0_call0_v118, main_call0_call0_v119, main_call0_call0_v120, main_call0_call0_v121, main_call0_call0_v122, main_call0_call0_c_31, main_call0_call0_v123, main_call0_call0_v124, main_call0_call0_c_32, main_call0_call0_v125, main_call0_call0_v126, main_call0_call0_v127, main_call0_call0_v128, main_call0_call0_v129, main_call0_call0_c_33, main_call0_call0_v130, main_call0_call0_v131, main_call0_call0_c_34, main_call0_call0_v132, main_call0_call0_v133, main_call0_call0_v134, main_call0_call0_v135, main_call0_call0_v136, main_call0_call0_v137, main_call0_call0_v138, main_call0_call0_v139, main_call0_call0_c_35, main_call0_call0_v140, main_call0_call0_v141, main_call0_call0_v142, main_call0_call0_c_36, main_call0_call0_v143, main_call0_call0_v144, main_call0_call0_c_37, main_call0_call0_v145, main_call0_call0_v146, main_call0_call0_v147, main_call0_call0_v148, main_call0_call0_v149, main_call0_call0_c_38, main_call0_call0_v150, main_call0_call0_v151, main_call0_call0_c_39, main_call0_call0_v152, main_call0_call0_v153, main_call0_call0_v154, main_call0_call0_v155, main_call0_call0_v156, main_call0_call0_c_40, main_call0_call0_v157, main_call0_call0_v158, main_call0_call0_c_41, main_call0_call0_v159, main_call0_call0_v160, main_call0_call0_v161, main_call0_call0_v162, main_call0_call0_v163, main_call0_call0_c_42, main_call0_call0_v164, main_call0_call0_v165, main_call0_call0_c_43, main_call0_call0_v166, main_call0_call0_v167, main_call0_call0_v168, main_call0_call0_v169, main_call0_call0_v170, main_call0_v19_0, main_call0_call0_v172, main_call0_call0_v173, main_call0_call0_c_44, main_call0_call0_v174, main_call0_v19_1, main_call0_v20, main_call0_c_2, main_call0_v21, main_call0_v22, main_call0_c_3, main_call0_v23, main_call0_v24, main_call0_v25, main_call0_cst, main_call0_v26, main_call0_v27, main_call0_v28, main_call0_v29, main_call0_v30, main_call0_v31, main_call0_v32, main_call0_v33, main_v9]
theorem uniformOps_writes : (uniformOps : List (HloOp τ sig (Elt F))).Forall fun op => op.writes ⊆ (uniformOps_W.map (Proc.devRef (τ := τ) .tc)).toFinset :=
  StableHlo.forall_writes_sub_of_map rfl
/-- No operation of `startOps` allocates a buffer. -/
theorem startOps_fresh : (startOps : List (HloOp τ sig (Elt F))).Forall fun op => op.fresh = ∅ :=
  StableHlo.forall_fresh_of_map rfl
/-- The reference each operation of `startOps` writes, in order. -/
abbrev startOps_W : List (Ref sig .tc) := [main_cst_3, main_v10, main_cst_4, main_v11, main_c_5, main_v12_0, main_v12_1, main_v12_2, main_v12_3, main_v12_4]
theorem startOps_writes : (startOps : List (HloOp τ sig (Elt F))).Forall fun op => op.writes ⊆ (startOps_W.map (Proc.devRef (τ := τ) .tc)).toFinset :=
  StableHlo.forall_writes_sub_of_map rfl
/-- No operation of `argmaxOps` allocates a buffer. -/
theorem argmaxOps_fresh : (argmaxOps : List (HloOp τ sig (Elt F))).Forall fun op => op.fresh = ∅ :=
  StableHlo.forall_fresh_of_map rfl
/-- The reference each operation of `argmaxOps` writes, in order. -/
abbrev argmaxOps_W : List (Ref sig .tc) := [main_while0b_call1_v0, main_while0b_call1_cst, main_while0b_call1_c, main_while0b_call1_v1_0, main_while0b_v17]
theorem argmaxOps_writes : (argmaxOps : List (HloOp τ sig (Elt F))).Forall fun op => op.writes ⊆ (argmaxOps_W.map (Proc.devRef (τ := τ) .tc)).toFinset :=
  StableHlo.forall_writes_sub_of_map rfl
/-- No operation of `indexOps` allocates a buffer. -/
theorem indexOps_fresh : (indexOps : List (HloOp τ sig (Elt F))).Forall fun op => op.fresh = ∅ :=
  StableHlo.forall_fresh_of_map rfl
/-- The reference each operation of `indexOps` writes, in order. -/
abbrev indexOps_W : List (Ref sig .tc) := [main_while0b_v18, main_while0b_v19]
theorem indexOps_writes : (indexOps : List (HloOp τ sig (Elt F))).Forall fun op => op.writes ⊆ (indexOps_W.map (Proc.devRef (τ := τ) .tc)).toFinset :=
  StableHlo.forall_writes_sub_of_map rfl
/-- No operation of `gatherOps` allocates a buffer. -/
theorem gatherOps_fresh : (gatherOps : List (HloOp τ sig (Elt F))).Forall fun op => op.fresh = ∅ :=
  StableHlo.forall_fresh_of_map rfl
/-- The reference each operation of `gatherOps` writes, in order. -/
abbrev gatherOps_W : List (Ref sig .tc) := [main_while0b_call2_c, main_while0b_call2_v0, main_while0b_call2_v1, main_while0b_call2_c_0, main_while0b_call2_v2, main_while0b_call2_v3, main_while0b_call2_v4, main_while0b_call2_c_1, main_while0b_call2_c_2, main_while0b_call2_v5, main_while0b_call2_v6, main_while0b_call2_v7, main_while0b_call2_v8, main_while0b_call2_v9, main_while0b_call2_v10, main_while0b_call2_c_3, main_while0b_call2_v11, main_while0b_call2_v12, main_while0b_call2_v13, main_while0b_call2_cst, main_while0b_call2_v14, main_while0b_v20]
theorem gatherOps_writes : (gatherOps : List (HloOp τ sig (Elt F))).Forall fun op => op.writes ⊆ (gatherOps_W.map (Proc.devRef (τ := τ) .tc)).toFinset :=
  StableHlo.forall_writes_sub_of_map rfl
/-- No operation of `roundOps` allocates a buffer. -/
theorem roundOps_fresh : (roundOps : List (HloOp τ sig (Elt F))).Forall fun op => op.fresh = ∅ :=
  StableHlo.forall_fresh_of_map rfl
/-- The reference each operation of `roundOps` writes, in order. -/
abbrev roundOps_W : List (Ref sig .tc) := [main_while0b_v21, main_while0b_v22, main_while0b_v23, main_while0b_cst_11, main_while0b_v24, main_while0b_v25, main_while0b_v26, main_while0b_cst_12, main_while0b_v27, main_while0b_v28, main_while0b_v29, main_while0b_cst_13, main_while0b_v30, main_while0b_v31, main_while0b_v32, main_while0b_v33, main_while0b_v34, main_while0b_v35, main_while0b_v36, main_while0b_cst_14, main_while0b_v37, main_while0b_cst_15, main_while0b_v38, main_while0b_v39, main_while0b_v40]
theorem roundOps_writes : (roundOps : List (HloOp τ sig (Elt F))).Forall fun op => op.writes ⊆ (roundOps_W.map (Proc.devRef (τ := τ) .tc)).toFinset :=
  StableHlo.forall_writes_sub_of_map rfl
/-- No operation of `storeVecOps` allocates a buffer. -/
theorem storeVecOps_fresh : (storeVecOps : List (HloOp τ sig (Elt F))).Forall fun op => op.fresh = ∅ :=
  StableHlo.forall_fresh_of_map rfl
/-- The reference each operation of `storeVecOps` writes, in order. -/
abbrev storeVecOps_W : List (Ref sig .tc) := [main_while0b_call3_v0, main_while0b_call3_c, main_while0b_call3_c_0, main_while0b_v41]
theorem storeVecOps_writes : (storeVecOps : List (HloOp τ sig (Elt F))).Forall fun op => op.writes ⊆ (storeVecOps_W.map (Proc.devRef (τ := τ) .tc)).toFinset :=
  StableHlo.forall_writes_sub_of_map rfl
/-- No operation of `storeSimOps` allocates a buffer. -/
theorem storeSimOps_fresh : (storeSimOps : List (HloOp τ sig (Elt F))).Forall fun op => op.fresh = ∅ :=
  StableHlo.forall_fresh_of_map rfl
/-- The reference each operation of `storeSimOps` writes, in order. -/
abbrev storeSimOps_W : List (Ref sig .tc) := [main_while0b_call4_v0, main_while0b_call4_c, main_while0b_call4_c_0, main_while0b_v42]
theorem storeSimOps_writes : (storeSimOps : List (HloOp τ sig (Elt F))).Forall fun op => op.writes ⊆ (storeSimOps_W.map (Proc.devRef (τ := τ) .tc)).toFinset :=
  StableHlo.forall_writes_sub_of_map rfl
/-- No operation of `stepOps` allocates a buffer. -/
theorem stepOps_fresh : (stepOps : List (HloOp τ sig (Elt F))).Forall fun op => op.fresh = ∅ :=
  StableHlo.forall_fresh_of_map rfl
/-- The reference each operation of `stepOps` writes, in order. -/
abbrev stepOps_W : List (Ref sig .tc) := [main_while0b_c_16, main_while0b_v43, main_v12_1, main_v12_2, main_v12_3, main_v12_4]
theorem stepOps_writes : (stepOps : List (HloOp τ sig (Elt F))).Forall fun op => op.writes ⊆ (stepOps_W.map (Proc.devRef (τ := τ) .tc)).toFinset :=
  StableHlo.forall_writes_sub_of_map rfl
/-- No operation of `postOps` allocates a buffer. -/
theorem postOps_fresh : (postOps : List (HloOp τ sig (Elt F))).Forall fun op => op.fresh = ∅ :=
  StableHlo.forall_fresh_of_map rfl
/-- The reference each operation of `postOps` writes, in order. -/
abbrev postOps_W : List (Ref sig .tc) := [main_v13, main_v14, main_cst_6, main_v15, main_v16]
theorem postOps_writes : (postOps : List (HloOp τ sig (Elt F))).Forall fun op => op.writes ⊆ (postOps_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_11 (constantI S_ 32 8#32),
    StableHlo.binary main_v12_1 main_while0c_c_11 main_while0c_v17 (cmpi .slt) ]

/-- @main's stretches before the loop, the loop body's, and @main's after the loop. -/
abbrev preI : List (List (HloOp τ sig (Elt F))) := [entryOps, uniformOps, startOps]
abbrev bodyI : List (List (HloOp τ sig (Elt F))) := [argmaxOps, indexOps, gatherOps, roundOps, storeVecOps, storeSimOps, stepOps]
abbrev postI : List (List (HloOp τ sig (Elt F))) := [postOps]

theorem hpre : Plain (preI (F := F)) := .cons entryOps_sub (hf := List.forall_iff_forall_mem.mp entryOps_fresh) (.cons uniformOps_sub (hf := List.forall_iff_forall_mem.mp uniformOps_fresh) (.cons startOps_sub (hf := List.forall_iff_forall_mem.mp startOps_fresh) (.nil)))
theorem hbodyI : Plain (bodyI (F := F)) := .cons argmaxOps_sub (hf := List.forall_iff_forall_mem.mp argmaxOps_fresh) (.cons indexOps_sub (hf := List.forall_iff_forall_mem.mp indexOps_fresh) (.cons gatherOps_sub (hf := List.forall_iff_forall_mem.mp gatherOps_fresh) (.cons roundOps_sub (hf := List.forall_iff_forall_mem.mp roundOps_fresh) (.cons storeVecOps_sub (hf := List.forall_iff_forall_mem.mp storeVecOps_fresh) (.cons storeSimOps_sub (hf := List.forall_iff_forall_mem.mp storeSimOps_fresh) (.cons stepOps_sub (hf := List.forall_iff_forall_mem.mp stepOps_fresh) (.nil)))))))
theorem hpost : Plain (postI (F := F)) := .cons postOps_sub (hf := List.forall_iff_forall_mem.mp postOps_fresh) (.nil)

/-- The reference each operation of `condOps` writes, in order. -/
abbrev condOps_W : List (Ref sig .tc) := [main_while0c_c_11, main_while0c_v17]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v12_1`) is written by one stretch of the body, `stepOps`: not by the condition, nor by the
    body's other stretches. -/
theorem ctr_cond (V : Valuation τ sig (Elt F)) : after condOps V (Proc.devRef .tc main_v12_1) = V (Proc.devRef .tc main_v12_1) :=
  after_of_writes_sub condOps V condOps_writes (by decide +kernel)
theorem ctr_argmaxOps (V : Valuation τ sig (Elt F)) : after argmaxOps V (Proc.devRef .tc main_v12_1) = V (Proc.devRef .tc main_v12_1) :=
  after_of_writes_sub argmaxOps V argmaxOps_writes (by decide +kernel)
theorem ctr_indexOps (V : Valuation τ sig (Elt F)) : after indexOps V (Proc.devRef .tc main_v12_1) = V (Proc.devRef .tc main_v12_1) :=
  after_of_writes_sub indexOps V indexOps_writes (by decide +kernel)
theorem ctr_gatherOps (V : Valuation τ sig (Elt F)) : after gatherOps V (Proc.devRef .tc main_v12_1) = V (Proc.devRef .tc main_v12_1) :=
  after_of_writes_sub gatherOps V gatherOps_writes (by decide +kernel)
theorem ctr_roundOps (V : Valuation τ sig (Elt F)) : after roundOps V (Proc.devRef .tc main_v12_1) = V (Proc.devRef .tc main_v12_1) :=
  after_of_writes_sub roundOps V roundOps_writes (by decide +kernel)
theorem ctr_storeVecOps (V : Valuation τ sig (Elt F)) : after storeVecOps V (Proc.devRef .tc main_v12_1) = V (Proc.devRef .tc main_v12_1) :=
  after_of_writes_sub storeVecOps V storeVecOps_writes (by decide +kernel)
theorem ctr_storeSimOps (V : Valuation τ sig (Elt F)) : after storeSimOps V (Proc.devRef .tc main_v12_1) = V (Proc.devRef .tc main_v12_1) :=
  after_of_writes_sub storeSimOps V storeSimOps_writes (by decide +kernel)

set_option maxRecDepth 100000 in
/-- `stepOps` leaves the counter one step on. -/
theorem ctr_step (X : Valuation τ sig (Elt F)) :
    after stepOps X (Proc.devRef .tc main_v12_1) = addi (X (Proc.devRef .tc main_v12_1)) (constantI S_ 32 1#32) := by
  after_results
  rfl

/-- The counter is the loop's lower bound at the loop's entry: its last writer before the loop read back. -/
theorem ctr_entry (c : Dev nD) : entryContents preI m c (Proc.devRef .tc main_v12_1) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v12_1) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_storeSimOps, ctr_storeVecOps, ctr_roundOps, ctr_gatherOps, ctr_indexOps, ctr_argmaxOps, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 8 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v12_1 HostLoop.idx0)
        (HloOp.result _ (atK m k c) main_while0c_c_11 HostLoop.idx0) = 1#1) (k < 8)
    rw [nullary_result_ne _ _ _ _ (by decide), nullary_result, hctr]
    exact Scf.cmpi_slt_iv_ub_iff (lb := 0#32) (ub := 8#32) (st := 1#32) (by decide) (show k ≤ Scf.trips 0#32 8#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 8 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 8 m ρ (cond_spec m)

end Cert.ReferenceIdeal.Run

end
-- ==== Proof.Frames.lean ====
/- The claims that every program runs to its end, leaves its arguments as they were and every semaphore counter at
   zero; and the claim about the named constant. The kernel's two are the generated runs; the reference's is read off
   `run_fold`, none of whose operations writes an argument. -/
module

public import proofs.«01_k».proof.Defs
public import proofs.«01_k».proof.Proof.Gen.Kernel.Frame
public import proofs.«01_k».proof.Proof.Gen.KernelIdeal.Frame
public import proofs.«01_k».proof.Proof.RefRun

@[expose] public section

noncomputable section

namespace Cert.Proof

open Idealize.ShloMosaic Idealize.ShloMosaic.StableHlo Idealize.SL.Sem

section Reference

open Cert.ReferenceIdeal Cert.ReferenceIdeal.Gen Cert.ReferenceIdeal.Run

variable {F : FTy → Type} [FloatOps F]

/-- A buffer that no operation of the loop writes is after `k` trips as it was at the loop's entry. -/
theorem atK_kept (m : (ℓ : Loc nD τ sig) → Buf (Elt F) ℓ) (c : Dev nD) (b : Ref sig .tc)
    (h : b ∉ condOps_W ++ (argmaxOps_W ++ (indexOps_W ++ (gatherOps_W ++ (roundOps_W ++ (storeVecOps_W ++ (storeSimOps_W ++ stepOps_W)))))))
    : ∀ k, atK m k c (Proc.devRef .tc b) = entryContents preI m c (Proc.devRef .tc b)
  | 0 => rfl
  | k + 1 => by
    simp only [List.mem_append, not_or] at h
    rw [show atK m (k + 1) c = afterL bodyI (after condOps (atK m k c)) from rfl]
    simp only [afterL_cons, afterL_nil]
    rw [after_of_writes_sub stepOps _ stepOps_writes h.2.2.2.2.2.2.2, after_of_writes_sub storeSimOps _ storeSimOps_writes h.2.2.2.2.2.2.1,
      after_of_writes_sub storeVecOps _ storeVecOps_writes h.2.2.2.2.2.1, after_of_writes_sub roundOps _ roundOps_writes h.2.2.2.2.1,
      after_of_writes_sub gatherOps _ gatherOps_writes h.2.2.2.1, after_of_writes_sub indexOps _ indexOps_writes h.2.2.1,
      after_of_writes_sub argmaxOps _ argmaxOps_writes h.2.1, after_of_writes_sub condOps _ condOps_writes h.1]
    exact atK_kept m c b (by simp only [List.mem_append, not_or]; exact h) k

/-- A buffer that no operation of the program writes ends as it was launched. -/
theorem final_kept (m : (ℓ : Loc nD τ sig) → Buf (Elt F) ℓ) (c : Dev nD) (b : Ref sig .tc)
    (h : b ∉ condOps_W ++ (argmaxOps_W ++ (indexOps_W ++ (gatherOps_W ++ (roundOps_W ++ (storeVecOps_W ++ (storeSimOps_W ++ stepOps_W)))))))
    (he : b ∉ entryOps_W) (hu : b ∉ uniformOps_W) (hs : b ∉ startOps_W) (hp : b ∉ postOps_W) :
    finalContents condOps preI bodyI postI 8 m c (Proc.devRef .tc b) = m ((c.tc : Thread nD τ).loc b) := by
  have hk := atK_kept m c b h 8
  simp only [List.mem_append, not_or] at h
  show after postOps (after condOps (atK m 8 c)) _ = _
  rw [after_of_writes_sub postOps _ postOps_writes hp, after_of_writes_sub condOps _ condOps_writes h.1, hk]
  show after startOps (after uniformOps (after entryOps _)) _ = _
  rw [after_of_writes_sub startOps _ startOps_writes hs, after_of_writes_sub uniformOps _ uniformOps_writes hu,
    after_of_writes_sub entryOps _ entryOps_writes he]

theorem final_arg0 (m : (ℓ : Loc nD τ sig) → Buf (Elt F) ℓ) (c : Dev nD) :
    finalContents condOps preI bodyI postI 8 m c (Proc.devRef .tc main_arg0) = m ((c.tc : Thread nD τ).loc main_arg0) :=
  final_kept m c _ (by decide +kernel) (by decide +kernel) (by decide +kernel) (by decide +kernel) (by decide +kernel)

theorem final_arg1 (m : (ℓ : Loc nD τ sig) → Buf (Elt F) ℓ) (c : Dev nD) :
    finalContents condOps preI bodyI postI 8 m c (Proc.devRef .tc main_arg1) = m ((c.tc : Thread nD τ).loc main_arg1) :=
  final_kept m c _ (by decide +kernel) (by decide +kernel) (by decide +kernel) (by decide +kernel) (by decide +kernel)

/-- The reference runs, its arguments end unchanged and, declaring no semaphore, it leaves every counter at zero. -/
theorem frame_reference (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c main_arg0 rfl).trans (final_arg0 m c), (h c main_arg1 rfl).trans (final_arg1 m c)⟩,
    sem_eq_zero_of_no_sems (by decide) r.2⟩) (run_fold m ρ)

end Reference

/-- The named constant: the literal 0.05 stands for one twentieth. -/
theorem preserves : Cert.preserves_Kernel_KernelIdeal :=
  IdealRules.named_const.statement Cert.KernelIdeal.κ "twentieth" .f32 0x3D4CCCCD#32 ((20⁻¹ : ℝ) : EReal) rfl

end Cert.Proof

end
-- ==== Proof.Round.lean ====
/- The mathematics of one round, on the extended reals and away from both programs: the first pixel of greatest score,
   every pixel's similarity to it, the similarity-weighted mean of the features, and the scores of the next round. The
   kernel expands the squared distance and divides once by the similarities' sum; the reference subtracts and divides
   each similarity; on finite features the two agree. -/
module

public import Idealize.ShloMosaic.PureOps.Ideal
public import Idealize.ShloMosaic.Lib.Pointwise

@[expose] public section

noncomputable section

namespace Cert.Round

open Idealize.ShloMosaic

variable {n d : ℕ}

/-- `q` is the least index at which `s` is greatest. -/
def IsFirst (s : Fin n → EReal) (q : Fin n) : Prop := (∀ p, s p ≤ s q) ∧ ∀ p, s p = s q → q ≤ p

theorem exists_isFirst [NeZero n] (s : Fin n → EReal) : ∃ q, IsFirst s q := by
  obtain ⟨a, -, ha⟩ := Finset.exists_max_image Finset.univ s ⟨0, Finset.mem_univ _⟩
  obtain ⟨q, hq, hmin⟩ := Finset.exists_min_image (Finset.univ.filter fun p => s p = s a) id ⟨a, by simp⟩
  simp only [Finset.mem_filter, Finset.mem_univ, true_and] at hq hmin
  exact ⟨q, fun p => hq ▸ ha p (Finset.mem_univ _), fun p hp => hmin p (hp.trans hq)⟩

/-- The least index at which `s` is greatest. -/
def first [NeZero n] (s : Fin n → EReal) : Fin n := (exists_isFirst s).choose

theorem first_spec [NeZero n] (s : Fin n → EReal) : IsFirst s (first s) := (exists_isFirst s).choose_spec

theorem IsFirst.eq_first [NeZero n] {s : Fin n → EReal} {q : Fin n} (h : IsFirst s q) : q = first s := by
  have h' := first_spec s
  have e : s q = s (first s) := le_antisymm (h'.1 _) (h.1 _)
  exact le_antisymm (h.2 _ e.symm) (h'.2 _ e)

/-- The squared distance of pixel `p` to pixel `q`. -/
def dist (x : Fin d → Fin n → EReal) (q p : Fin n) : EReal := ∑ c, (x c p - x c q) * (x c p - x c q)

/-- The similarity of pixel `p` to pixel `q`. -/
def sim (x : Fin d → Fin n → EReal) (q p : Fin n) : EReal := Ideal.exp (Ideal.div (-Ideal.sqrt (dist x q p)) ((20 : ℝ) : EReal))

/-- The mean of the features weighted by the similarities to pixel `q`. -/
def vec (x : Fin d → Fin n → EReal) (q : Fin n) (c : Fin d) : EReal :=
  ∑ p, x c p * Ideal.div (sim x q p) (∑ r, sim x q r)

/-- The scores after a round that picked pixel `q`. -/
def next (x : Fin d → Fin n → EReal) (q : Fin n) (s : Fin n → EReal) (p : Fin n) : EReal := (1 - sim x q p) * s p

/-- The scores before round `k`. -/
def score [NeZero n] (x : Fin d → Fin n → EReal) (s : Fin n → EReal) : ℕ → Fin n → EReal
  | 0 => s
  | k + 1 => next x (first (score x s k)) (score x s k)

/-! ## Finite features -/

/-- Features that are all real numbers. -/
def Finite (x : Fin d → Fin n → EReal) : Prop := ∃ a : Fin d → Fin n → ℝ, x = fun c p => ((a c p : ℝ) : EReal)

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A row contracted with the indicator of `q` is its element at `q`. -/
theorem sum_mul_indicator (f : Fin n → EReal) (q : Fin n) : ∑ p, f p * (if p = q then 1 else 0) = f q := by
  rw [Finset.sum_eq_single q (fun p _ h => by rw [if_neg h, mul_zero]) (fun h => absurd (Finset.mem_univ _) h), if_pos rfl, mul_one]

/-- The distance of a pixel to itself is zero. -/
theorem dist_self {x : Fin d → Fin n → EReal} (hx : Finite x) (q : Fin n) : dist x q q = 0 := by
  obtain ⟨a, rfl⟩ := hx
  unfold dist
  refine Finset.sum_eq_zero fun c _ => ?_
  rw [← EReal.coe_sub, sub_self, EReal.coe_zero, mul_zero]

/-- The squared distance expanded, as the kernel computes it. -/
theorem dist_expand {x : Fin d → Fin n → EReal} (hx : Finite x) (q p : Fin n) :
    max ((∑ c, x c p * x c p) - 2 * (∑ c, x c q * x c p) + ∑ c, x c q * x c q) 0 = dist x q p := by
  obtain ⟨a, rfl⟩ := hx
  unfold dist
  have h2 : (2 : EReal) = ((2 : ℝ) : EReal) := rfl
  simp only [← EReal.coe_mul, ← EReal.coe_sub, ← coe_sum, h2, ← EReal.coe_add]
  have e : (∑ c, a c p * a c p) - 2 * (∑ c, a c q * a c p) + ∑ c, a c q * a c q = ∑ c, (a c p - a c q) * (a c p - a c q) := by
    rw [Finset.mul_sum, ← Finset.sum_sub_distrib, ← Finset.sum_add_distrib]
    exact Finset.sum_congr rfl fun c _ => by ring
  rw [e]
  refine max_eq_left ?_
  rw [← EReal.coe_zero, EReal.coe_le_coe_iff]
  exact Finset.sum_nonneg fun c _ => mul_self_nonneg _

/-- The distances are real numbers that are not negative. -/
theorem dist_real {x : Fin d → Fin n → EReal} (hx : Finite x) (q p : Fin n) : ∃ r : ℝ, 0 ≤ r ∧ dist x q p = (r : EReal) := by
  obtain ⟨a, rfl⟩ := hx
  refine ⟨∑ c, (a c p - a c q) * (a c p - a c q), Finset.sum_nonneg fun c _ => mul_self_nonneg _, ?_⟩
  unfold dist
  simp only [← EReal.coe_mul, ← EReal.coe_sub, ← coe_sum]

/-- A negated real root times a twentieth is the negated root over twenty. -/
theorem div_twenty (y : ℝ) : (0 - (y : EReal)) * ((1 / 20 : ℝ) : EReal) = Ideal.div (-(y : EReal)) ((20 : ℝ) : EReal) := by
  have h : ((20 : ℝ) : EReal) ≠ 0 := by
    rw [← EReal.coe_zero, Ne, EReal.coe_eq_coe_iff]; norm_num
  unfold Ideal.div
  rw [if_neg h, zero_sub, ← EReal.coe_inv, one_div]

/-- The similarities are positive real numbers. -/
theorem sim_real {x : Fin d → Fin n → EReal} (hx : Finite x) (q p : Fin n) : ∃ r : ℝ, 0 < r ∧ sim x q p = (r : EReal) := by
  obtain ⟨r, hr, e⟩ := dist_real hx q p
  refine ⟨Real.exp (-(Real.sqrt r) * (20 : ℝ)⁻¹), Real.exp_pos _, ?_⟩
  unfold sim
  rw [e, show Ideal.sqrt (r : EReal) = ((Real.sqrt r : ℝ) : EReal) from if_neg (not_lt.mpr hr), ← div_twenty, zero_sub, ← EReal.coe_neg,
    ← EReal.coe_mul, one_div]
  rfl

/-- The kernel's similarity: the expanded distance, zero at the picked pixel, its root negated and scaled. -/
theorem sim_expand {x : Fin d → Fin n → EReal} (hx : Finite x) (q p : Fin n) :
    Ideal.exp ((0 - Ideal.sqrt (if p = q then 0 else
      max ((∑ c, x c p * x c p) - 2 * (∑ c, x c q * x c p) + ∑ c, x c q * x c q) 0)) * ((1 / 20 : ℝ) : EReal)) = sim x q p := by
  have e : (if p = q then 0 else max ((∑ c, x c p * x c p) - 2 * (∑ c, x c q * x c p) + ∑ c, x c q * x c q) 0) = dist x q p := by
    split
    · next h => rw [h, dist_self hx]
    · exact dist_expand hx q p
  obtain ⟨r, hr, er⟩ := dist_real hx q p
  unfold sim
  rw [e, er, show Ideal.sqrt (r : EReal) = ((Real.sqrt r : ℝ) : EReal) from if_neg (not_lt.mpr hr), div_twenty]

/-- The kernel divides the weighted sum once. -/
theorem vec_divide_once [NeZero n] {x : Fin d → Fin n → EReal} (hx : Finite x) (q : Fin n) (c : Fin d) :
    Ideal.div (∑ p, x c p * sim x q p) (∑ p, sim x q p) = vec x q c := by
  choose f hf e using sim_real hx q
  obtain ⟨a, rfl⟩ := hx
  unfold vec
  simp only [e, ← EReal.coe_mul, ← coe_sum]
  have pos : 0 < ∑ p, f p := Finset.sum_pos (fun p _ => hf p) ⟨0, Finset.mem_univ _⟩
  have ne : ((∑ p, f p : ℝ) : EReal) ≠ 0 := by
    rw [← EReal.coe_zero, Ne, EReal.coe_eq_coe_iff]; exact pos.ne'
  simp only [Ideal.div, if_neg ne, ← EReal.coe_inv, ← EReal.coe_mul, ← coe_sum]
  rw [Finset.sum_mul]
  simp only [mul_assoc]

/-! ## Folds that find the first maximum -/

/-- A fold of `max` from the bottom over a family that attains its bound `M`. -/
theorem fold_max_eq {ι : Type} [Fintype ι] (f : ι → EReal) (M : EReal) (hle : ∀ i, f i ≤ M) (hex : ∃ i, f i = M) :
    Finset.univ.fold max ⊥ f = M := by
  refine le_antisymm ((Finset.fold_max_le M).mpr ⟨bot_le, fun i _ => hle i⟩) ?_
  obtain ⟨i, rfl⟩ := hex
  exact (Finset.le_fold_max _).mpr (.inr ⟨i, Finset.mem_univ _, le_rfl⟩)

/-- A fold of the signed minimum over a family of words that attains its bound `w`. -/
theorem fold_minsi_eq {ι : Type} [Fintype ι] (f : ι → BitVec 32) (b w : BitVec 32) (hb : w.toInt ≤ b.toInt)
    (hle : ∀ i, w.toInt ≤ (f i).toInt) (hex : ∃ i, f i = w) : Finset.univ.fold IntOp.minsi b f = w := by
  have hm : ∀ a b : BitVec 32, (IntOp.minsi a b).toInt = min a.toInt b.toInt := fun a b => by
    unfold IntOp.minsi
    simp only [BitVec.slt, decide_eq_true_eq]
    split <;> omega
  apply BitVec.eq_of_toInt_eq
  rw [← Finset.fold_hom (op' := min) (m := BitVec.toInt) (fun a b => (hm a b))]
  refine le_antisymm ?_ ((Finset.le_fold_min _).mpr ⟨hb, fun i _ => hle i⟩)
  obtain ⟨i, rfl⟩ := hex
  exact (Finset.fold_min_le _).mpr (.inr ⟨i, Finset.mem_univ _, le_rfl⟩)

theorem toInt_ofNat {k : ℕ} (h : k ≤ 16384) : (BitVec.ofNat 32 k).toInt = k := by
  rw [BitVec.toInt_eq_toNat_of_lt] <;> simp only [BitVec.toNat_ofNat] <;> omega

/-! ## The constants -/

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

theorem ofBits_two : Ideal.ofBits .f32 0x40000000#32 = 2 := by
  rw [show (2 : EReal) = ((2 : ℝ) : EReal) from rfl]
  simp [Ideal.ofBits, Ideal.ieee, -EReal.coe_mul]; norm_num

theorem ofBits_twenty : Ideal.ofBits .f32 0x41A00000#32 = ((20 : ℝ) : EReal) := by
  simp [Ideal.ofBits, Ideal.ieee, -EReal.coe_mul]; norm_num

end Cert.Round
end
-- ==== Proof.Finite.lean ====
/- What the precondition says: every entry of the features is a real number. -/
module

public import proofs.«01_k».proof.Defs
public import proofs.«01_k».proof.Proof.Round
public import Idealize.ShloMosaic.Lib.ReduceAll
public import Idealize.ShloMosaic.Lib.Pointwise

@[expose] public section

noncomputable section

namespace Cert.Proof

open Idealize.ShloMosaic

theorem facts_finite : Cert.Pre_finite.Facts where
  bcast_S_S16x64x128x128 := by decide
  reducesTo_S16x64x128x128_S_d0_1_2_3 := by decide
  h_S_ := by decide

/-- An extended real whose absolute value is below `⊤` is a real number. -/
theorem real_of_abs_lt (a : EReal) (h : max a (-a) < ⊤) : ∃ r : ℝ, a = (r : EReal) := by
  induction a with
  | bot => simp at h
  | top => simp at h
  | coe r => exact ⟨r, rfl⟩

/-- Where the precondition holds every entry is a real number. -/
theorem real_of_pre (x : FVec Ideal Cert.Pre_finite.S16x64x128x128 .f32) (k : IVec Cert.Pre_finite.S_ 32)
    (h : (letI := facts_finite; Cert.Pre_finite.fn (F := Ideal) x k) = fun _ => 1#1) (i : Cert.Pre_finite.S16x64x128x128.Idx) : ∃ r : ℝ, x i = (r : EReal) := by
  letI := facts_finite
  haveI : Subsingleton Cert.Pre_finite.S_.Idx := ⟨fun a b => funext fun q => q.elim0⟩
  have e := Host.reduce_andi_all _ _ _ _ (fun q => q.elim0) (congrFun h (fun q => q.elim0)) i
  apply real_of_abs_lt
  have e2 : Ideal.cmp .olt (max (x i) (-(x i))) (Ideal.ofBits .f32 0x7F800000#32) = 1#1 := e
  rw [Round.ofBits_top] at e2
  by_contra hn
  have e3 : BitVec.ofBool (decide (max (x i) (-(x i)) < ⊤)) = 1#1 := e2
  rw [decide_eq_false hn] at e3
  exact absurd e3 (by decide)

end Cert.Proof
end
-- ==== Proof.KerRound.lean ====
module

public import proofs.«01_k».proof.Proof.Gen.KernelIdeal.Skeleton
public import proofs.«01_k».proof.Proof.Round

@[expose] public section

set_option maxRecDepth 16384

noncomputable section

namespace Cert.KerRound

open Idealize.ShloMosaic Cert.KernelIdeal Cert.KernelIdeal.Gen Cert.Round

variable {F : FTy → Type} [FloatOps F] [Named F]

/-- The pixel numbers 0 … 16383 along the lanes. -/
abbrev lanes : IVec S1x16384 32 := iota .tc S1x16384 32 [1] iota_S1x16384_d1_w32

/-- The greatest score. -/
def top (s : FVec F S1x16384 .f32) : F .f32 :=
  extractAt ![0, 0, 0] (shapeCast S1x1x1 (multiReduction .maximumf [1, 2] S1 (shapeCast S1x1x16384 s shapeCasts_S1x16384_S1x1x16384)
    0xFF800000#32 reduces_S1x1x16384_S1 (.inl rfl) rfl) shapeCasts_S1_S1x1x1) inpos_S1x1x1_p0_0_0

/-- The least pixel number whose score is the greatest, as a word. -/
def pick (s : FVec F S1x16384 .f32) : BitVec 32 :=
  extractAt ![0, 0, 0] (shapeCast S1x1x1 (multiReductionI .minsi [1, 2] S1 (shapeCast S1x1x16384
    (select (cmpf .oeq s (broadcast S1x16384 (top s))) lanes (broadcast S1x16384 16384#32)) shapeCasts_S1x16384_S1x1x16384)
    2147483647#32 reduces_S1x1x16384_S1 rfl) shapeCasts_S1_S1x1x1) inpos_S1x1x1_p0_0_0

/-- The row that is one at the pixel `w` and zero at the others. -/
def onehot (w : BitVec 32) : FVec F S1x16384 .f32 :=
  sitofp .f32 (extui 32 (cmpi .eq lanes (broadcast S1x16384 w)) natLt_1_32)

/-- The features contracted with that row: the picked pixel's features. -/
def raw (x : Vec F S1x64x16384 .f32) (w : BitVec 32) : FVec F S64x1 .f32 :=
  matmul dot_S64x16384_S1x16384_S64x1_1_1_0_0_n_n none (k0_pay1 x) (onehot w) (constant S64x1 .f32 0x00000000#32)

/-- The picked pixel's squared length. -/
def rawSq (x : Vec F S1x64x16384 .f32) (w : BitVec 32) : F .f32 :=
  extractAt ![0, 0, 0] (shapeCast S1x1x1 (multiReduction .add [1, 2] S1 (shapeCast S1x64x1 (mulf (raw x w) (raw x w)) shapeCasts_S64x1_S1x64x1)
    0x00000000#32 reduces_S1x64x1_S1 (.inl rfl) rfl) shapeCasts_S1_S1x1x1) inpos_S1x1x1_p0_0_0

/-- Every pixel's inner product with the picked pixel. -/
def inner (x : Vec F S1x64x16384 .f32) (w : BitVec 32) : FVec F S1x16384 .f32 :=
  matmul dot_S1x64_S64x16384_S1x16384_1_0_0_1_n_n none (transpose S1x64 [1, 0] (raw x w) transposes_S64x1_p1_0_S1x64) (k0_pay1 x)
    (constant S1x16384 .f32 0x00000000#32)

/-- Every pixel's similarity to the pixel `w`. -/
def simOf (x : Vec F S1x64x16384 .f32) (w : BitVec 32) : FVec F S1x16384 .f32 :=
  exp (mulf (subf (broadcast S1x16384 (Scalar.ofBits .f32 0x00000000#32))
    (sqrt (select (cmpi .eq lanes (broadcast S1x16384 w)) (broadcast S1x16384 (Scalar.ofBits .f32 0x00000000#32))
      (maximumf (addf (subf (k0_pay2 x) (mulf (broadcast S1x16384 (Scalar.ofBits .f32 0x40000000#32)) (inner x w)))
        (broadcast S1x16384 (rawSq x w))) (broadcast S1x16384 (Scalar.ofBits .f32 0x00000000#32))))))
    (broadcast S1x16384 (Named.named κ "twentieth" 0x3D4CCCCD#32)))

/-- The similarities one round computes from a batch's features `x` and its scores `s`. -/
def sim (x : Vec F S1x64x16384 .f32) (s : FVec F S1x16384 .f32) : FVec F S1x16384 .f32 := simOf x (pick s)

/-- The feature vector one round stores, given the round's similarities. -/
def vecOf (x : Vec F S1x64x16384 .f32) (z : FVec F S1x16384 .f32) : FVec F S1x1x64 .f32 :=
  k0_pay14 (extractAt ![0, 0, 0] (shapeCast S1x1x1 (multiReduction .add [1, 2] S1 (shapeCast S1x1x16384 z shapeCasts_S1x16384_S1x1x16384)
      0x00000000#32 reduces_S1x1x16384_S1 (.inl rfl) rfl) shapeCasts_S1_S1x1x1) inpos_S1x1x1_p0_0_0)
    (matmul dot_S64x16384_S1x16384_S64x1_1_1_0_0_n_n none (k0_pay1 x) z (constant S64x1 .f32 0x00000000#32))

theorem pay11_eq (x : Vec F S1x64x16384 .f32) (s : FVec F S1x16384 .f32) :
    k0_pay11 lanes (k0_pay1 x) (k0_pay2 x) s = sim x s := rfl

theorem pay7_eq (x : Vec F S1x64x16384 .f32) (s : FVec F S1x16384 .f32) :
    k0_pay7 (extractAt ![0, 0, 0] (k0_pay17 lanes s) inpos_S1x1x1_p0_0_0) (k0_pay18 lanes (k0_pay4 x) (k0_pay5 x) s) (k0_pay19 (F := F))
      = sim x s := rfl

theorem pay14_eq (x : Vec F S1x64x16384 .f32) (s : FVec F S1x16384 .f32) :
    k0_pay14 (k0_pay12 lanes (k0_pay1 x) (k0_pay2 x) s) (k0_pay13 lanes (k0_pay1 x) (k0_pay2 x) s) = vecOf x (sim x s) := rfl

theorem pay8_eq (x : Vec F S1x64x16384 .f32) (s : FVec F S1x16384 .f32) :
    k0_pay8 x (extractAt ![0, 0, 0] (k0_pay17 lanes s) inpos_S1x1x1_p0_0_0) (k0_pay18 lanes (k0_pay4 x) (k0_pay5 x) s) (k0_pay19 (F := F))
      = vecOf x (sim x s) := rfl

section Ideal

/-- The greatest score is the first best pixel's. -/
theorem top_at (s : FVec Ideal S1x16384 .f32) : top s = s (ix2 0 (first fun p => s (ix2 0 p))) := by
  pointwise [top]
  have h := first_spec fun p => s (ix2 0 p)
  rw [ofBits_bot]
  exact fold_max_eq _ _ (fun i => h.1 i.2) ⟨⟨0, _⟩, rfl⟩

/-- The picked word is the first best pixel's number. -/
theorem pick_at (s : FVec Ideal S1x16384 .f32) : pick s = BitVec.ofNat 32 (first fun p => s (ix2 0 p)).val := by
  have ht := top_at s
  have h := first_spec fun p => s (ix2 0 p)
  unfold pick
  generalize top s = t at ht
  generalize (first fun p => s (ix2 0 p)) = q at ht h
  pointwise
  have lt : ∀ p : Fin 16384, (BitVec.ofNat 32 p.val).toInt = p.val := fun p => toInt_ofNat p.isLt.le
  refine fold_minsi_eq _ _ _ ?_ (fun i => ?_) ⟨⟨0, q⟩, if_pos ht.symm⟩
  · rw [lt, show (2147483647#32).toInt = 2147483647 by decide]
    have := q.isLt
    omega
  · split
    · next e =>
      rw [lt, lt]
      exact_mod_cast h.2 i.2 (e.trans ht)
    · rw [lt, show (16384#32).toInt = 16384 by decide]
      exact_mod_cast q.isLt.le

/-- Two pixel numbers are the same word only if they are the same pixel. -/
theorem word_eq_iff (p q : Fin 16384) : BitVec.ofNat 32 p.val = BitVec.ofNat 32 q.val ↔ p = q := by
  refine ⟨fun h => Fin.ext ?_, fun h => h ▸ rfl⟩
  have := congrArg BitVec.toInt h
  rw [toInt_ofNat p.isLt.le, toInt_ofNat q.isLt.le] at this
  exact_mod_cast this

/-- The comparison of two pixel numbers as a bit. -/
theorem cmpi_word (p q : Fin 16384) :
    IntOp.cmpi .eq (BitVec.ofNat 32 p.val) (BitVec.ofNat 32 q.val) = if p = q then 1#1 else 0#1 := by
  by_cases h : p = q
  · rw [if_pos h, h, IntOp.cmpi_eq_self]
  · rw [if_neg h]
    have : BitVec.ofNat 32 p.val ≠ BitVec.ofNat 32 q.val := fun e => h ((word_eq_iff p q).mp e)
    show BitVec.ofBool (BitVec.ofNat 32 p.val == BitVec.ofNat 32 q.val) = 0#1
    rw [beq_eq_false_iff_ne.mpr this]
    rfl

theorem onehot_at (q p : Fin 16384) : onehot (F := Ideal) (BitVec.ofNat 32 q.val) (ix2 0 p) = if p = q then 1 else 0 := by
  pointwise [onehot]
  rw [cmpi_word]
  split
  · show (((BitVec.setWidth 32 (1#1)).toInt : ℝ) : EReal) = 1
    norm_num [show (BitVec.setWidth 32 (1#1)).toInt = 1 by decide]
  · show (((BitVec.setWidth 32 (0#1)).toInt : ℝ) : EReal) = 0
    norm_num [show (BitVec.setWidth 32 (0#1)).toInt = 0 by decide]

theorem raw_at (x : Vec Ideal S1x64x16384 .f32) (w : BitVec 32) (c : Fin 64) :
    raw x w (ix2 c 0) = ∑ p : Fin 16384, x (ix3 0 c p) * onehot (F := Ideal) w (ix2 0 p) := by
  pointwise [raw, k0_pay1]

theorem rawSq_at (x : Vec Ideal S1x64x16384 .f32) (w : BitVec 32) :
    rawSq x w = ∑ c : Fin 64, raw x w (ix2 c 0) * raw x w (ix2 c 0) := by
  pointwise [rawSq]
  simp

theorem inner_at (x : Vec Ideal S1x64x16384 .f32) (w : BitVec 32) (p : Fin 16384) :
    inner x w (ix2 0 p) = ∑ c : Fin 64, raw x w (ix2 c 0) * x (ix3 0 c p) := by
  pointwise [inner, k0_pay1]

theorem pay2_at (x : Vec Ideal S1x64x16384 .f32) (p : Fin 16384) :
    k0_pay2 x (ix2 0 p) = ∑ c : Fin 64, x (ix3 0 c p) * x (ix3 0 c p) := by
  pointwise [k0_pay2, k0_pay1]

/-- The features of a batch's block by channel and pixel. -/
abbrev feat (x : Vec Ideal S1x64x16384 .f32) (c : Fin 64) (p : Fin 16384) : EReal := x (ix3 0 c p)

/-- The contraction with the one-hot row picks the pixel's features. -/
theorem raw_pick (x : Vec Ideal S1x64x16384 .f32) (q : Fin 16384) (c : Fin 64) :
    raw x (BitVec.ofNat 32 q.val) (ix2 c 0) = feat x c q := by
  rw [raw_at]
  simp only [onehot_at]
  exact sum_mul_indicator (feat x c) q

/-- On finite features the kernel's similarities to pixel `q` are the plain ones. -/
theorem simOf_at (x : Vec Ideal S1x64x16384 .f32) (hx : Finite (feat x)) (q p : Fin 16384) :
    simOf x (BitVec.ofNat 32 q.val) (ix2 0 p) = Round.sim (feat x) q p := by
  rw [← sim_expand hx]
  pointwise [simOf]
  rw [pay2_at, inner_at, rawSq_at, cmpi_word, ofBits_two, IdealRules.named_const.ideal_named_scalar _ _ _ _ rfl]
  simp only [raw_pick, one_div]
  by_cases h : p = q
  · simp only [if_pos h, show ∀ a b : EReal, Scalar.select (1#1) a b = a from fun _ _ => rfl]
  · simp only [if_neg h, show ∀ a b : EReal, Scalar.select (0#1) a b = b from fun _ _ => rfl]

theorem vecOf_div (x : Vec Ideal S1x64x16384 .f32) (z : FVec Ideal S1x16384 .f32) (c : Fin 64) :
    vecOf x z (ix3 0 0 c) = Ideal.div (∑ p : Fin 16384, x (ix3 0 c p) * z (ix2 0 p)) (∑ p : Fin 16384, z (ix2 0 p)) := by
  pointwise [vecOf, k0_pay14, k0_pay1]
  simp

/-- The similarities of a round. -/
theorem sim_at (x : Vec Ideal S1x64x16384 .f32) (hx : Finite (feat x)) (s : FVec Ideal S1x16384 .f32) (p : Fin 16384) :
    sim x s (ix2 0 p) = Round.sim (feat x) (first fun p => s (ix2 0 p)) p := by
  rw [sim, pick_at, simOf_at x hx]

/-- The feature vector a round stores. -/
theorem vec_at (x : Vec Ideal S1x64x16384 .f32) (hx : Finite (feat x)) (s : FVec Ideal S1x16384 .f32) (c : Fin 64) :
    vecOf x (sim x s) (ix3 0 0 c) = Round.vec (feat x) (first fun p => s (ix2 0 p)) c := by
  rw [vecOf_div]
  simp only [sim_at x hx]
  exact vec_divide_once hx _ c

/-- The scores a round leaves. -/
theorem next_at (x : Vec Ideal S1x64x16384 .f32) (hx : Finite (feat x)) (s : FVec Ideal S1x16384 .f32) (p : Fin 16384) :
    k0_pay16 s (sim x s) (ix2 0 p) = Round.next (feat x) (first fun p => s (ix2 0 p)) (fun p => s (ix2 0 p)) p := by
  unfold Round.next
  rw [← sim_at x hx]
  generalize sim x s = z
  pointwise [k0_pay16]

end Ideal

end Cert.KerRound
end
-- ==== Proof.KerTrip.lean ====
/- One trip of the kernel's loop of rounds: what it carries on and what it stores, per batch of the block. -/
module

public import proofs.«01_k».proof.Proof.Gen.KernelIdeal.Frame
public import proofs.«01_k».proof.Proof.KerRound

@[expose] public section

set_option maxRecDepth 16384

noncomputable section

namespace Cert.KerTrip

open Idealize.ShloMosaic Idealize.ShloMosaic.TcCoe Cert.KernelIdeal Cert.KernelIdeal.Gen Cert.Round Cert.KerRound

section Pieces

variable {F : FTy → Type} [FloatOps F] [Named F]
variable (𝒱 : Variants) (c : Dev nD) (bd : Option 𝒱.V) (i : grid0.Coords)
  (arg1 : Memref sig .tc .vmem S2x64x16384 .f32) (harg1 : arg1.IsWhole) (arg2 : Memref sig .tc .vmem S2x1x16384 .f32) (harg2 : arg2.IsWhole)
  (arg3 : Memref sig .tc .vmem S2x8x64 .f32) (harg3 : arg3.IsWhole) (arg4 : Memref sig .tc .vmem S2x8x16384 .f32) (harg4 : arg4.IsWhole)
  (v1 v8 : Vec F S1x64x16384 .f32)

/-- The scores a trip carries on. -/
theorem carried (k : Fin k0_t1_loop.trips) (acc : FVec F S1x16384 .f32 × FVec F S1x16384 .f32) :
    tripR_k0_t1 𝒱 c bd i arg1 harg1 arg2 harg2 arg3 harg3 arg4 harg4 lanes v1 v8 k acc
      = (k0_pay16 acc.1 (sim v1 acc.1), k0_pay16 acc.2 (sim v8 acc.2)) := by
  unfold tripR_k0_t1 trip_k0_t1
  rfl

/-- The feature vectors a trip stores, one row per batch. -/
theorem vecs_stored (k : Fin k0_t1_loop.trips) (acc : FVec F S1x16384 .f32 × FVec F S1x16384 .f32) :
    (tripL_k0_t1 𝒱 c bd i arg1 harg1 arg2 harg2 arg3 harg3 arg4 harg4 lanes v1 v8 k acc).1
      = [⟨Rect.unit (s := S2x8x64) (k0_off3 k) S1x1x64.size (k0_off3_inb k), vecOf v8 (sim v8 acc.2)⟩,
         ⟨Rect.unit (s := S2x8x64) (k0_off1 k) S1x1x64.size (k0_off1_inb k), vecOf v1 (sim v1 acc.1)⟩] := by
  unfold tripL_k0_t1 trip_k0_t1
  rfl

/-- The similarities a trip stores, one row per batch. -/
theorem sims_stored (k : Fin k0_t1_loop.trips) (acc : FVec F S1x16384 .f32 × FVec F S1x16384 .f32) :
    (tripL_k0_t1 𝒱 c bd i arg1 harg1 arg2 harg2 arg3 harg3 arg4 harg4 lanes v1 v8 k acc).2
      = [⟨Rect.unit (s := S2x8x16384) (k0_off4 k) S1x1x16384.size (k0_off4_inb k), k0_pay15 (sim v8 acc.2)⟩,
         ⟨Rect.unit (s := S2x8x16384) (k0_off2 k) S1x1x16384.size (k0_off2_inb k), k0_pay15 (sim v1 acc.1)⟩] := by
  unfold tripL_k0_t1 trip_k0_t1
  rfl

end Pieces

section Ideal

/-- A row's rectangle places its entry `n` at batch `b`, round `k`. -/
theorem row_emb {n : ℕ} (b : Fin 2) (k : Fin 8) {off : Fin 3 → ℕ} (ho : off = ![b.val, k.val, 0])
    (inb : ∀ a, off a + (⟨3, ![1, 1, n]⟩ : Shape).size a ≤ (⟨3, ![2, 8, n]⟩ : Shape).size a) (p : Fin n) :
    (Rect.unit (s := ⟨3, ![2, 8, n]⟩) off (⟨3, ![1, 1, n]⟩ : Shape).size inb).emb (ix3 0 0 p) = ix3 b k p := by
  subst ho
  funext a
  refine Fin.ext ?_
  fin_cases a
  · show b.val + 1 * 0 = b.val
    omega
  · show k.val + 1 * 0 = k.val
    omega
  · show 0 + 1 * p.val = p.val
    omega

/-- A stored row holds `G` where its rectangle lies, if each of its entries does. -/
theorem row_holds {n : ℕ} (b : Fin 2) (k : Fin 8) {off : Fin 3 → ℕ} (ho : off = ![b.val, k.val, 0])
    (inb : ∀ a, off a + (⟨3, ![1, 1, n]⟩ : Shape).size a ≤ (⟨3, ![2, 8, n]⟩ : Shape).size a) (w : (⟨3, ![1, 1, n]⟩ : Shape).Idx → EReal)
    (G : (⟨3, ![2, 8, n]⟩ : Shape).Idx → EReal) (h : ∀ p, w (ix3 0 0 p) = G (ix3 b k p)) (j : (⟨3, ![1, 1, n]⟩ : Shape).Idx) :
    w j = G ((Rect.unit (s := ⟨3, ![2, 8, n]⟩) off (⟨3, ![1, 1, n]⟩ : Shape).size inb).emb j) := by
  obtain ⟨p, rfl⟩ : ∃ p, j = ix3 0 0 p := ⟨j 2, by
    funext a
    fin_cases a
    · exact Subsingleton.elim (α := Fin 1) _ _
    · exact Subsingleton.elim (α := Fin 1) _ _
    · rfl⟩
  rw [row_emb b k ho]
  exact h p

/-- The feature vectors of all rounds of a block's two batches. -/
def vecs (x : Fin 2 → Fin 64 → Fin 16384 → EReal) (s : Fin 2 → Fin 16384 → EReal) (y : S2x8x64.Idx) : EReal :=
  Round.vec (x (y 0)) (first (score (x (y 0)) (s (y 0)) (y 1).val)) (y 2)

/-- The similarities of all rounds of a block's two batches. -/
def sims (x : Fin 2 → Fin 64 → Fin 16384 → EReal) (s : Fin 2 → Fin 16384 → EReal) (y : S2x8x16384.Idx) : EReal :=
  Round.sim (x (y 0)) (first (score (x (y 0)) (s (y 0)) (y 1).val)) (y 2)

theorem pay15_at (z : FVec Ideal S1x16384 .f32) (p : Fin 16384) : k0_pay15 z (ix3 0 0 p) = z (ix2 0 p) := by
  pointwise [k0_pay15]

variable (𝒱 : Variants) (c : Dev nD) (bd : Option 𝒱.V) (i : grid0.Coords)
  (arg1 : Memref sig .tc .vmem S2x64x16384 .f32) (harg1 : arg1.IsWhole) (arg2 : Memref sig .tc .vmem S2x1x16384 .f32) (harg2 : arg2.IsWhole)
  (arg3 : Memref sig .tc .vmem S2x8x64 .f32) (harg3 : arg3.IsWhole) (arg4 : Memref sig .tc .vmem S2x8x16384 .f32) (harg4 : arg4.IsWhole)
  (v1 v8 : Vec Ideal S1x64x16384 .f32)

/-- After `k` trips the carried scores are those before round `k`, and every row stored so far holds its round's values. -/
theorem trips_at (init : FVec Ideal S1x16384 .f32 × FVec Ideal S1x16384 .f32) (x : Fin 2 → Fin 64 → Fin 16384 → EReal)
    (s : Fin 2 → Fin 16384 → EReal) (hx0 : feat v1 = x 0) (hx1 : feat v8 = x 1) (hf : ∀ b, Finite (x b))
    (hs0 : ∀ p, init.1 (ix2 0 p) = s 0 p) (hs1 : ∀ p, init.2 (ix2 0 p) = s 1 p) (k : ℕ) (hk : k ≤ k0_t1_loop.trips) :
    ((∀ p, (st_k0_t1 𝒱 c bd i arg1 harg1 arg2 harg2 arg3 harg3 arg4 harg4 lanes v1 v8 init k).1.1 (ix2 0 p) = score (x 0) (s 0) k p)
      ∧ ∀ p, (st_k0_t1 𝒱 c bd i arg1 harg1 arg2 harg2 arg3 harg3 arg4 harg4 lanes v1 v8 init k).1.2 (ix2 0 p) = score (x 1) (s 1) k p)
    ∧ (∀ e ∈ (st_k0_t1 𝒱 c bd i arg1 harg1 arg2 harg2 arg3 harg3 arg4 harg4 lanes v1 v8 init k).2.1, ∀ j, e.2 j = vecs x s (e.1.emb j))
    ∧ ∀ e ∈ (st_k0_t1 𝒱 c bd i arg1 harg1 arg2 harg2 arg3 harg3 arg4 harg4 lanes v1 v8 init k).2.2, ∀ j, e.2 j = sims x s (e.1.emb j) := by
  induction k with
  | zero => exact ⟨⟨hs0, hs1⟩, fun e he => absurd he List.not_mem_nil, fun e he => absurd he List.not_mem_nil⟩
  | succ k ih =>
    obtain ⟨⟨h0, h1⟩, hv, hz⟩ := ih (Nat.le_of_succ_le hk)
    have h8 : k < 8 := Nat.lt_of_lt_of_le hk k0_t1_abs.2.1
    rw [st_k0_t1_succ 𝒱 c bd i arg1 harg1 arg2 harg2 arg3 harg3 arg4 harg4 lanes v1 v8 init ⟨k, hk⟩, carried, vecs_stored, sims_stored]
    generalize st_k0_t1 𝒱 c bd i arg1 harg1 arg2 harg2 arg3 harg3 arg4 harg4 lanes v1 v8 init k = st at h0 h1 hv hz
    have e0 : (fun p => st.1.1 (ix2 0 p)) = score (x 0) (s 0) k := funext h0
    have e1 : (fun p => st.1.2 (ix2 0 p)) = score (x 1) (s 1) k := funext h1
    have f0 : Finite (feat v1) := hx0 ▸ hf 0
    have f1 : Finite (feat v8) := hx1 ▸ hf 1
    have vec0 : ∀ p, vecOf v1 (KerRound.sim v1 st.1.1) (ix3 0 0 p) = vecs x s (ix3 0 ⟨k, h8⟩ p) := fun p => by
      rw [vec_at v1 f0, e0, hx0]
      rfl
    have vec1 : ∀ p, vecOf v8 (KerRound.sim v8 st.1.2) (ix3 0 0 p) = vecs x s (ix3 1 ⟨k, h8⟩ p) := fun p => by
      rw [vec_at v8 f1, e1, hx1]
      rfl
    have sim0 : ∀ p, k0_pay15 (KerRound.sim v1 st.1.1) (ix3 0 0 p) = sims x s (ix3 0 ⟨k, h8⟩ p) := fun p => by
      rw [pay15_at, sim_at v1 f0, e0, hx0]
      rfl
    have sim1 : ∀ p, k0_pay15 (KerRound.sim v8 st.1.2) (ix3 0 0 p) = sims x s (ix3 1 ⟨k, h8⟩ p) := fun p => by
      rw [pay15_at, sim_at v8 f1, e1, hx1]
      rfl
    have next0 : ∀ p, k0_pay16 st.1.1 (KerRound.sim v1 st.1.1) (ix2 0 p) = score (x 0) (s 0) (k + 1) p := fun p => by
      rw [next_at v1 f0, e0, hx0]
      rfl
    have next1 : ∀ p, k0_pay16 st.1.2 (KerRound.sim v8 st.1.2) (ix2 0 p) = score (x 1) (s 1) (k + 1) p := fun p => by
      rw [next_at v8 f1, e1, hx1]
      rfl
    clear h0 h1 e0 e1 f0 f1 hx0 hx1 hf hs0 hs1 ih
    generalize vecOf v1 (KerRound.sim v1 st.1.1) = y0 at vec0
    generalize vecOf v8 (KerRound.sim v8 st.1.2) = y1 at vec1
    generalize k0_pay15 (KerRound.sim v1 st.1.1) = z0 at sim0
    generalize k0_pay15 (KerRound.sim v8 st.1.2) = z1 at sim1
    generalize k0_pay16 st.1.1 (KerRound.sim v1 st.1.1) = n0 at next0
    generalize k0_pay16 st.1.2 (KerRound.sim v8 st.1.2) = n1 at next1
    generalize vecs x s = G at vec0 vec1 hv
    generalize sims x s = H at sim0 sim1 hz
    refine ⟨⟨next0, next1⟩, fun e he => ?_, fun e he => ?_⟩
    · rcases List.mem_append.mp he with he | he
      · rcases List.mem_cons.mp he with rfl | he
        · exact row_holds (n := 64) 1 ⟨k, h8⟩ (k0_off3_eq ⟨k, hk⟩) (k0_off3_inb ⟨k, hk⟩) y1 G vec1
        · obtain rfl := List.mem_singleton.mp he
          exact row_holds (n := 64) 0 ⟨k, h8⟩ (k0_off1_eq ⟨k, hk⟩) (k0_off1_inb ⟨k, hk⟩) y0 G vec0
      · exact hv e he
    · rcases List.mem_append.mp he with he | he
      · rcases List.mem_cons.mp he with rfl | he
        · exact row_holds (n := 16384) 1 ⟨k, h8⟩ (k0_off4_eq ⟨k, hk⟩) (k0_off4_inb ⟨k, hk⟩) z1 H sim1
        · obtain rfl := List.mem_singleton.mp he
          exact row_holds (n := 16384) 0 ⟨k, h8⟩ (k0_off2_eq ⟨k, hk⟩) (k0_off2_inb ⟨k, hk⟩) z0 H sim0
      · exact hz e he

/-- A batch's slab of a block's features. -/
theorem slab_feat (x0 : Vec Ideal S2x64x16384 .f32) (b : Fin 2) {off : Fin 3 → ℕ} (ho : off = ![b.val, 0, 0])
    (inb : ∀ a, off a + S1x64x16384.size a ≤ S2x64x16384.size a) :
    feat (View.readAt (Elt Ideal) arg1.view (Rect.unit (s := S2x64x16384) off S1x64x16384.size inb).toLoadRect (harg1.unread x0))
      = fun c p => x0 (ix3 b c p) := by
  subst ho
  funext c p
  show arg1.view.read (Elt Ideal) (harg1.unread x0) _ = _
  rw [harg1.read_unread]
  congr 1
  funext a
  refine Fin.ext ?_
  fin_cases a
  · show b.val + 1 * 0 = b.val
    omega
  · show 0 + 1 * c.val = c.val
    omega
  · show 0 + 1 * p.val = p.val
    omega

/-- A batch's row of a block's scores. -/
theorem row_score (x1 : Vec Ideal S2x1x16384 .f32) (b : Fin 2) {off : Fin 3 → ℕ} (ho : off = ![b.val, 0, 0])
    (inb : ∀ a, off a + S1x1x16384.size a ≤ S2x1x16384.size a) (p : Fin 16384) :
    View.readAt (Elt Ideal) arg2.view (Rect.unit (s := S2x1x16384) off S1x1x16384.size inb).toLoadRect (harg2.unread x1) (ix3 0 0 p)
      = x1 (ix3 b 0 p) := by
  subst ho
  show arg2.view.read (Elt Ideal) (harg2.unread x1) _ = _
  rw [harg2.read_unread]
  congr 1
  funext a
  refine Fin.ext ?_
  fin_cases a
  · show b.val + 1 * 0 = b.val
    omega
  · rfl
  · show 0 + 1 * p.val = p.val
    omega

theorem pay3_at (v : Vec Ideal S1x1x16384 .f32) (p : Fin 16384) : k0_pay3 v (ix2 0 p) = v (ix3 0 0 p) := by
  pointwise [k0_pay3]

theorem pay6_at (v : Vec Ideal S1x1x16384 .f32) (p : Fin 16384) : k0_pay6 v (ix2 0 p) = v (ix3 0 0 p) := by
  pointwise [k0_pay6]

/-- Every piece that the body's run stores holds its rounds' values. -/
theorem run_at (x0 : Vec Ideal S2x64x16384 .f32) (x1 : Vec Ideal S2x1x16384 .f32)
    (hf : ∀ b : Fin 2, Finite fun (c : Fin 64) (p : Fin 16384) => x0 (ix3 b c p)) :
    (∀ e ∈ (kernelRun0_A c i arg1 harg1 arg2 harg2 arg3 harg3 arg4 harg4 x0 x1).1, ∀ j,
      e.2 j = vecs (fun b c p => x0 (ix3 b c p)) (fun b p => x1 (ix3 b 0 p)) (e.1.emb j))
    ∧ ∀ e ∈ (kernelRun0_A c i arg1 harg1 arg2 harg2 arg3 harg3 arg4 harg4 x0 x1).2.1, ∀ j,
      e.2 j = sims (fun b c p => x0 (ix3 b c p)) (fun b p => x1 (ix3 b 0 p)) (e.1.emb j) := by
  refine (trips_at Variants.none c none i arg1 harg1 arg2 harg2 arg3 harg3 arg4 harg4
    (View.readAt (Elt Ideal) arg1.view (Rect.unit (s := S2x64x16384) ![0, 0, 0] S1x64x16384.size inb_S2x64x16384_S1x64x16384_0_0_0).toLoadRect (harg1.unread x0))
    (View.readAt (Elt Ideal) arg1.view (Rect.unit (s := S2x64x16384) ![1, 0, 0] S1x64x16384.size inb_S2x64x16384_S1x64x16384_1_0_0).toLoadRect (harg1.unread x0))
    (k0_pay3 (View.readAt (Elt Ideal) arg2.view (Rect.unit (s := S2x1x16384) ![0, 0, 0] S1x1x16384.size inb_S2x1x16384_S1x1x16384_0_0_0).toLoadRect (harg2.unread x1)),
     k0_pay6 (View.readAt (Elt Ideal) arg2.view (Rect.unit (s := S2x1x16384) ![1, 0, 0] S1x1x16384.size inb_S2x1x16384_S1x1x16384_1_0_0).toLoadRect (harg2.unread x1)))
    (fun b c p => x0 (ix3 b c p)) (fun b p => x1 (ix3 b 0 p)) (slab_feat arg1 harg1 x0 0 rfl _) (slab_feat arg1 harg1 x0 1 rfl _) hf
    (fun p => (pay3_at _ p).trans (row_score arg2 harg2 x1 0 rfl _ p)) (fun p => (pay6_at _ p).trans (row_score arg2 harg2 x1 1 rfl _ p))
    k0_t1_loop.trips le_rfl).2

/-- The feature vectors a grid point leaves in its block. -/
theorem out_vecs (x0 : Vec Ideal S2x64x16384 .f32) (x1 : Vec Ideal S2x1x16384 .f32)
    (hf : ∀ b : Fin 2, Finite fun (c : Fin 64) (p : Fin 16384) => x0 (ix3 b c p)) (y : S2x8x64.Idx) :
    out0_A_2 c i arg1 harg1 arg2 harg2 arg3 harg3 arg4 harg4 x0 x1 y = vecs (fun b c p => x0 (ix3 b c p)) (fun b p => x1 (ix3 b 0 p)) y :=
  View.read_writes_apply_of_pieces _ _ _ _ (run_at c i arg1 harg1 arg2 harg2 arg3 harg3 arg4 harg4 x0 x1 hf).1 y
    (cover0_A_2 c i arg1 harg1 arg2 harg2 arg3 harg3 arg4 harg4 x0 x1 y)

/-- The similarities a grid point leaves in its block. -/
theorem out_sims (x0 : Vec Ideal S2x64x16384 .f32) (x1 : Vec Ideal S2x1x16384 .f32)
    (hf : ∀ b : Fin 2, Finite fun (c : Fin 64) (p : Fin 16384) => x0 (ix3 b c p)) (y : S2x8x16384.Idx) :
    out0_A_3 c i arg1 harg1 arg2 harg2 arg3 harg3 arg4 harg4 x0 x1 y = sims (fun b c p => x0 (ix3 b c p)) (fun b p => x1 (ix3 b 0 p)) y :=
  View.read_writes_apply_of_pieces _ _ _ _ (run_at c i arg1 harg1 arg2 harg2 arg3 harg3 arg4 harg4 x0 x1 hf).2 y
    (cover0_A_3 c i arg1 harg1 arg2 harg2 arg3 harg3 arg4 harg4 x0 x1 y)

end Ideal

end Cert.KerTrip
end
-- ==== Proof.KerValue.lean ====
/- What the kernel's two staged results hold after its run, array by array: every batch's rounds. -/
module

public import proofs.«01_k».proof.Proof.Gen.KernelIdeal.Value
public import proofs.«01_k».proof.Proof.KerTrip
public import Idealize.ShloMosaic.Lib.Pipeline.ValueKit

@[expose] public section

set_option maxRecDepth 16384

noncomputable section

namespace Cert.KerValue

open Idealize.ShloMosaic Idealize.ShloMosaic.TcCoe Cert.KernelIdeal Cert.KernelIdeal.Gen Cert.Round

variable (m : (ℓ : Loc nD τ sig) → Buf (Elt Ideal) ℓ) (c : Dev nD)

/-- The features that the region finds, by batch, channel and pixel. -/
def feats (b : Fin 16) (d : Fin 64) (p : Fin 16384) : EReal := (V m c (Pipeline.arrRef spec0 0) : S16x64x16384.Idx → EReal) (ix3 b d p)

/-- The first scores that the region finds, by batch and pixel. -/
def scores (b : Fin 16) (p : Fin 16384) : EReal := (V m c (Pipeline.arrRef spec0 1) : S16x1x16384.Idx → EReal) (ix3 b 0 p)

/-- The batch that is member `b` of grid point `t`'s block. -/
def batch (t : Fin cfg0.N) (b : Fin 2) : Fin 16 := ⟨2 * t.val + b.val, by have := t.isLt; have := b.isLt; have : cfg0.N = 8 := rfl; omega⟩

theorem idx : ∀ t : Fin cfg0.N, win0_0.index t = ![t.val, 0, 0] ∧ win0_1.index t = ![t.val, 0, 0] ∧ win0_2.index t = ![t.val, 0, 0]
    ∧ win0_3.index t = ![t.val, 0, 0] := by
  decide +kernel

/-- A block of a rank-3 array in the first window's shape, read at a member. -/
theorem read_feat (A : S16x64x16384.Idx → EReal) (t : Fin cfg0.N) (b : Fin 2) (d : Fin 64) (p : Fin 16384) :
    (((cfg0.win 0).blk t).view.read (Elt Ideal) A : S2x64x16384.Idx → EReal) (ix3 b d p) = A (ix3 (batch t b) d p) := by
  unfold batch
  blk_ext [(idx t).1]

theorem read_score (A : S16x1x16384.Idx → EReal) (t : Fin cfg0.N) (b : Fin 2) (p : Fin 16384) :
    (((cfg0.win 1).blk t).view.read (Elt Ideal) A : S2x1x16384.Idx → EReal) (ix3 b 0 p) = A (ix3 (batch t b) 0 p) := by
  unfold batch
  blk_ext [(idx t).2.1]

theorem emb_vecs (t : Fin cfg0.N) (b : Fin 2) (k : Fin 8) (d : Fin 64) :
    (((cfg0.win 2).blk t).view.emb (ix3 b k d : S2x8x64.Idx) : S16x8x64.Idx) = ix3 (batch t b) k d := by
  unfold batch
  blk_ext [(idx t).2.2.1]

theorem emb_sims (t : Fin cfg0.N) (b : Fin 2) (k : Fin 8) (p : Fin 16384) :
    (((cfg0.win 3).blk t).view.emb (ix3 b k p : S2x8x16384.Idx) : S16x8x16384.Idx) = ix3 (batch t b) k p := by
  unfold batch
  blk_ext [(idx t).2.2.2]

/-- The first result's entry at a batch, a round and a channel. -/
def vecsAll (y : S16x8x64.Idx) : EReal :=
  Round.vec (feats m c (y 0)) (first (score (feats m c (y 0)) (scores m c (y 0)) (y 1).val)) (y 2)

/-- The second result's entry at a batch, a round and a pixel. -/
def simsAll (y : S16x8x16384.Idx) : EReal :=
  Round.sim (feats m c (y 0)) (first (score (feats m c (y 0)) (scores m c (y 0)) (y 1).val)) (y 2)

theorem block_feat (t : Fin cfg0.N) (b : Fin 2) (d : Fin 64) (p : Fin 16384) :
    (iblk m c 0 t : S2x64x16384.Idx → EReal) (ix3 b d p) = feats m c (batch t b) d p :=
  read_feat (V m c (Pipeline.arrRef spec0 0)) t b d p

theorem block_score (t : Fin cfg0.N) (b : Fin 2) (p : Fin 16384) :
    (iblk m c 1 t : S2x1x16384.Idx → EReal) (ix3 b 0 p) = scores m c (batch t b) p :=
  read_score (V m c (Pipeline.arrRef spec0 1)) t b p

theorem blocks_feat (t : Fin cfg0.N) :
    (fun (b : Fin 2) (d : Fin 64) (p : Fin 16384) => (iblk m c 0 t : S2x64x16384.Idx → EReal) (ix3 b d p)) = fun b => feats m c (batch t b) :=
  funext fun b => funext fun d => funext fun p => block_feat m c t b d p

theorem blocks_score (t : Fin cfg0.N) :
    (fun (b : Fin 2) (p : Fin 16384) => (iblk m c 1 t : S2x1x16384.Idx → EReal) (ix3 b 0 p)) = fun b => scores m c (batch t b) :=
  funext fun b => funext fun p => block_score m c t b p

theorem point_vecs (hf : ∀ b, Finite (feats m c b)) (t : Fin cfg0.N) (b : Fin 2) (k : Fin 8) (d : Fin 64) :
    ((outsAt0 m c t).1 : S2x8x64.Idx → EReal) (ix3 b k d) = vecsAll m c (ix3 (batch t b) k d) := by
  refine (KerTrip.out_vecs c (grid0.coords t) (ms0_0 t) (hs0_0 t) (ms0_1 t) (hs0_1 t) (ms0_2 t) (hs0_2 t) (ms0_3 t) (hs0_3 t) (iblk m c 0 t) (iblk m c 1 t)
    (fun b => ?_) (ix3 b k d)).trans ?_
  · rw [show (fun (d : Fin 64) (p : Fin 16384) => (iblk m c 0 t : S2x64x16384.Idx → EReal) (ix3 b d p)) = feats m c (batch t b) from
      congrFun (blocks_feat m c t) b]
    exact hf _
  · rw [blocks_feat, blocks_score]
    rfl

theorem point_sims (hf : ∀ b, Finite (feats m c b)) (t : Fin cfg0.N) (b : Fin 2) (k : Fin 8) (p : Fin 16384) :
    ((outsAt0 m c t).2 : S2x8x16384.Idx → EReal) (ix3 b k p) = simsAll m c (ix3 (batch t b) k p) := by
  refine (KerTrip.out_sims c (grid0.coords t) (ms0_0 t) (hs0_0 t) (ms0_1 t) (hs0_1 t) (ms0_2 t) (hs0_2 t) (ms0_3 t) (hs0_3 t) (iblk m c 0 t) (iblk m c 1 t)
    (fun b => ?_) (ix3 b k p)).trans ?_
  · rw [show (fun (d : Fin 64) (p : Fin 16384) => (iblk m c 0 t : S2x64x16384.Idx → EReal) (ix3 b d p)) = feats m c (batch t b) from
      congrFun (blocks_feat m c t) b]
    exact hf _
  · rw [blocks_feat, blocks_score]
    rfl

theorem point_vecs' (hf : ∀ b, Finite (feats m c b)) (t : Fin cfg0.N) (y : S2x8x64.Idx) :
    ((outsAt0 m c t).1 : S2x8x64.Idx → EReal) y = vecsAll m c (((cfg0.win 2).blk t).view.emb y) := by
  have e : y = (ix3 (y 0) (y 1) (y 2) : S2x8x64.Idx) := by
    funext a
    fin_cases a <;> rfl
  rw [e]
  exact (point_vecs m c hf t _ _ _).trans (congrArg (vecsAll m c) (emb_vecs t _ _ _).symm)

theorem point_sims' (hf : ∀ b, Finite (feats m c b)) (t : Fin cfg0.N) (y : S2x8x16384.Idx) :
    ((outsAt0 m c t).2 : S2x8x16384.Idx → EReal) y = simsAll m c (((cfg0.win 3).blk t).view.emb y) := by
  have e : y = (ix3 (y 0) (y 1) (y 2) : S2x8x16384.Idx) := by
    funext a
    fin_cases a <;> rfl
  rw [e]
  exact (point_sims m c hf t _ _ _).trans (congrArg (simsAll m c) (emb_sims t _ _ _).symm)

/-- The kernel's first result. -/
theorem arr_vecs (hf : ∀ b, Finite (feats m c b)) : (dats m 0 c).arrAt 2 cfg0.N = vecsAll m c := by
  refine (dats m 0 c).arrAt_eq_of_covers 2 (vecsAll m c) (by decide +kernel) fun t hf' y => ?_
  rw [after0_2]
  exact point_vecs' m c hf t y

/-- The kernel's second result. -/
theorem arr_sims (hf : ∀ b, Finite (feats m c b)) : (dats m 0 c).arrAt 3 cfg0.N = simsAll m c := by
  refine (dats m 0 c).arrAt_eq_of_covers 3 (simsAll m c) (by decide +kernel) fun t hf' y => ?_
  rw [after0_3]
  exact point_sims' m c hf t y

end Cert.KerValue
end
-- ==== Proof.Score.lean ====
/- The score that the eight rounds start from is drawn by the same operations in both programs. The two lists are
   walked side by side: after each pair of operations the buffers written so far hold the same contents. -/
module

public import proofs.«01_k».proof.Proof.Gen.KernelIdeal.Launch
public import proofs.«01_k».proof.Proof.RefRun

@[expose] public section

set_option maxRecDepth 100000

noncomputable section

namespace Cert.Score

open Idealize.ShloMosaic Idealize.ShloMosaic.StableHlo

/-! ## Two lists of operations side by side -/

section Walk

variable {τ τ' : Topo} {sig sig' : RefSig} {Val : EltTy → Type}

/-- The HBM buffers numbered from `l` up to `n` (not `n` itself) hold in the first program what the buffers
    numbered one higher hold in the second. -/
def Same (l n : ℕ) (V : Valuation τ sig Val) (V' : Valuation τ' sig' Val) : Prop :=
  ∀ (T : BufTy) (x : TRef sig T) (x' : TRef sig' T), x.ref.space = .hbm → x'.ref.space = .hbm →
    l ≤ x.ref.idx.val → x.ref.idx.val < n → x'.ref.idx.val = x.ref.idx.val + 1 →
    x.ofBuf (V (Proc.devRef .tc x.ref)) = x'.ofBuf (V' (Proc.devRef .tc x'.ref))

/-- Running the two lists carries `Same` from `n` to `N`. -/
def Walk (l n N : ℕ) (ops : List (HloOp τ sig Val)) (ops' : List (HloOp τ' sig' Val)) : Prop :=
  ∀ V V', Same l n V V' → Same l N (after ops V) (after ops' V')

theorem Walk.nil {l n : ℕ} : Walk l n n ([] : List (HloOp τ sig Val)) ([] : List (HloOp τ' sig' Val)) := fun _ _ h => h

/-- The operands of a pair of operations are paired buffers. -/
structure Pair (l n : ℕ) {T : BufTy} (x : TRef sig T) (x' : TRef sig' T) : Prop where
  hbm : x.ref.space = .hbm
  hbm' : x'.ref.space = .hbm
  low : l ≤ x.ref.idx.val
  high : x.ref.idx.val < n
  next : x'.ref.idx.val = x.ref.idx.val + 1

theorem ref_ext {κ : Kind} {r s : Ref sig κ} (hs : r.space = s.space) (hi : r.idx.val = s.idx.val) : r = s := by
  obtain ⟨a, i, p⟩ := r
  obtain ⟨b, j, q⟩ := s
  cases hs
  cases Fin.ext hi
  rfl

/-- One pair of operations, each writing the next buffer with the same contents. -/
theorem Same.step {l n : ℕ} {V : Valuation τ sig Val} {V' : Valuation τ' sig' Val} (h : Same l n V V')
    {T : BufTy} {y : TRef sig T} {y' : TRef sig' T} (hy : Pair l (n + 1) y y') (hn : y.ref.idx.val = n)
    {op : HloOp τ sig Val} {op' : HloOp τ' sig' Val} (hw : op.writes = {Proc.devRef .tc y.ref})
    (hw' : op'.writes = {Proc.devRef .tc y'.ref})
    (he : y.ofBuf (op.result V (Proc.devRef .tc y.ref)) = y'.ofBuf (op'.result V' (Proc.devRef .tc y'.ref))) :
    Same l (n + 1) (op.result V) (op'.result V') := by
  intro U x x' hx hx' hl hu hnx
  rcases Nat.lt_or_ge x.ref.idx.val n with hlt | hge
  · rw [result_of_writes_ne op V y.ref x.ref hw (fun e => by rw [e, hn] at hlt; exact Nat.lt_irrefl _ hlt),
      result_of_writes_ne op' V' y'.ref x'.ref hw' (fun e => by
        rw [e, hy.next, hn] at hnx; exact absurd hlt (by omega))]
    exact h U x x' hx hx' hl hlt hnx
  · have e : x.ref = y.ref := ref_ext (hx.trans hy.hbm.symm) (by omega)
    have e' : x'.ref = y'.ref := ref_ext (hx'.trans hy.hbm'.symm) (by rw [hnx, hy.next, e])
    obtain ⟨r, t, d, u⟩ := x
    obtain ⟨r', t', d', u'⟩ := x'
    obtain ⟨s, ty, sd, su⟩ := y
    obtain ⟨s', ty', sd', su'⟩ := y'
    cases e
    cases e'
    subst ty
    cases t
    exact he

variable {l n N : ℕ} {Ta Tb Tc Ty : BufTy} {ops : List (HloOp τ sig Val)} {ops' : List (HloOp τ' sig' Val)}

theorem Same.at {V : Valuation τ sig Val} {V' : Valuation τ' sig' Val} (h : Same l n V V') {T : BufTy} {x : TRef sig T}
    {x' : TRef sig' T} (hx : Pair l n x x') :
    x.ofBuf (V (Proc.devRef .tc x.ref)) = x'.ofBuf (V' (Proc.devRef .tc x'.ref)) :=
  h T x x' hx.hbm hx.hbm' hx.low hx.high hx.next

theorem Walk.nullary {y : TRef sig Ty} {y' : TRef sig' Ty} {v : Ty.Contents Val} (hy : Pair l (n + 1) y y')
    (hn : y.ref.idx.val = n) (h : Walk l (y.ref.idx.val + 1) N ops ops') :
    Walk l n N (TRef.nullary y v :: ops) (TRef.nullary y' v :: ops') := fun V V' hV =>
  h _ _ (hn ▸ hV.step hy hn rfl rfl (by
    rw [TRef.nullary, TRef.nullary, nullary_result, nullary_result]; simp))

theorem Walk.unary {a : TRef sig Ta} {a' : TRef sig' Ta} {y : TRef sig Ty} {y' : TRef sig' Ty}
    {f : Ta.Contents Val → Ty.Contents Val} (ha : Pair l n a a') (hy : Pair l (n + 1) y y')
    (hn : y.ref.idx.val = n) (h : Walk l (y.ref.idx.val + 1) N ops ops') :
    Walk l n N (TRef.unary a y f :: ops) (TRef.unary a' y' f :: ops') := fun V V' hV =>
  h _ _ (hn ▸ hV.step hy hn rfl rfl (by
    rw [TRef.unary, TRef.unary, unary_result, unary_result, hV.at ha]; simp))

theorem Walk.binary {a : TRef sig Ta} {a' : TRef sig' Ta} {b : TRef sig Tb} {b' : TRef sig' Tb} {y : TRef sig Ty}
    {y' : TRef sig' Ty} {f : Ta.Contents Val → Tb.Contents Val → Ty.Contents Val} (ha : Pair l n a a') (hb : Pair l n b b')
    (hy : Pair l (n + 1) y y') (hn : y.ref.idx.val = n) (h : Walk l (y.ref.idx.val + 1) N ops ops') :
    Walk l n N (TRef.binary a b y f :: ops) (TRef.binary a' b' y' f :: ops') := fun V V' hV =>
  h _ _ (hn ▸ hV.step hy hn rfl rfl (by
    rw [TRef.binary, TRef.binary, binary_result, binary_result, hV.at ha, hV.at hb]; simp))

/-- What a reshape leaves, read at the values' types. -/
theorem reshape_ofBuf (a : TRef sig Ta) (y : TRef sig Ty) (he : Ta.elt = Ty.elt) (hs : Ta.shape.ShapeCasts Ty.shape)
    (V : Valuation τ sig Val) :
    y.ofBuf ((TRef.reshape (τ := τ) a y he hs).result V (Proc.devRef .tc y.ref))
      = fun i => he ▸ shapeCast Ty.shape (a.ofBuf (V (Proc.devRef .tc a.ref))) hs i := by
  obtain ⟨r, t, d, u⟩ := a
  obtain ⟨s, ty, sd, su⟩ := y
  subst t
  subst ty
  rw [TRef.reshape, reshape_result]
  rfl

theorem Walk.reshape {a : TRef sig Ta} {a' : TRef sig' Ta} {y : TRef sig Ty} {y' : TRef sig' Ty}
    {he : Ta.elt = Ty.elt} {hs : Ta.shape.ShapeCasts Ty.shape} (ha : Pair l n a a') (hy : Pair l (n + 1) y y')
    (hn : y.ref.idx.val = n) (h : Walk l (y.ref.idx.val + 1) N ops ops') :
    Walk l n N (TRef.reshape a y he hs :: ops) (TRef.reshape a' y' he hs :: ops') := fun V V' hV =>
  h _ _ (hn ▸ hV.step hy hn rfl rfl (by rw [reshape_ofBuf, reshape_ofBuf, hV.at ha]))

end Walk

/-! ## The two programs' lists -/

variable {F : FTy → Type} [FloatOps F] [Named F]

set_option maxHeartbeats 4000000 in  -- 262 pairs of operations in one proof
/-- The drawing of the score, 262 operations in the same order in both programs. -/
theorem uniform_walk : Walk 12 15 277 (Cert.KernelIdeal.Gen.hostOps0_1 (F := F)) (Cert.ReferenceIdeal.Run.uniformOps (F := F)) := by
  unfold Cert.KernelIdeal.Gen.hostOps0_1 Cert.ReferenceIdeal.Run.uniformOps
  repeat' first
    | (with_reducible refine Walk.unary ?_ ?_ ?_ ?_) <;> [exact ⟨rfl, rfl, by decide, by decide, rfl⟩; exact ⟨rfl, rfl, by decide, by decide, rfl⟩; rfl; skip]
    | (with_reducible refine Walk.binary ?_ ?_ ?_ ?_ ?_) <;> [exact ⟨rfl, rfl, by decide, by decide, rfl⟩; exact ⟨rfl, rfl, by decide, by decide, rfl⟩; exact ⟨rfl, rfl, by decide, by decide, rfl⟩; rfl; skip]
    | (with_reducible refine Walk.nullary ?_ ?_ ?_) <;> [exact ⟨rfl, rfl, by decide, by decide, rfl⟩; rfl; skip]
    | (with_reducible refine Walk.reshape ?_ ?_ ?_ ?_) <;> [exact ⟨rfl, rfl, by decide, by decide, rfl⟩; exact ⟨rfl, rfl, by decide, by decide, rfl⟩; rfl; skip]
  exact Walk.nil

end Cert.Score

end
-- ==== Proof.Entry.lean ====
/- What both programs compute before their rounds, compared: the features laid out by batch, channel and pixel, and the
   first scores, drawn by the same operations. -/
module

public import proofs.«01_k».proof.Proof.Score
public import proofs.«01_k».proof.Proof.RefRun
public import proofs.«01_k».proof.Proof.Gen.KernelIdeal.Frame
public import Idealize.ShloMosaic.Lib.Pointwise

@[expose] public section

set_option maxRecDepth 16384

noncomputable section

namespace Cert.Entry

open Idealize.ShloMosaic Idealize.ShloMosaic.TcCoe Idealize.ShloMosaic.StableHlo Idealize.ShloMosaic.Tactic Cert.Score

theorem Same.cons {τ τ' : Topo} {sig sig' : RefSig} {Val : EltTy → Type} {l n : ℕ} {V : Valuation τ sig Val} {V' : Valuation τ' sig' Val} (h : Same l n V V')
    {T : BufTy} {y : TRef sig T} {y' : TRef sig' T} (hy : Pair l (n + 1) y y') (hn : y.ref.idx.val = n)
    (he : y.ofBuf (V (Proc.devRef .tc y.ref)) = y'.ofBuf (V' (Proc.devRef .tc y'.ref))) : Same l (n + 1) V V' := by
  intro U x x' hx hx' hl hu hnx
  rcases Nat.lt_or_ge x.ref.idx.val n with hlt | hge
  · exact h U x x' hx hx' hl hlt hnx
  · have e : x.ref = y.ref := ref_ext (hx.trans hy.hbm.symm) (by omega)
    have e' : x'.ref = y'.ref := ref_ext (hx'.trans hy.hbm'.symm) (by rw [hnx, hy.next, e])
    obtain ⟨r, t, d, u⟩ := x
    obtain ⟨r', t', d', u'⟩ := x'
    obtain ⟨s, ty, sd, su⟩ := y
    obtain ⟨s', ty', sd', su'⟩ := y'
    cases e
    cases e'
    subst ty
    cases t
    exact he

open Cert.KernelIdeal.Gen Cert.ReferenceIdeal.Run

/-- The seed and the two ends of the drawing's range are the same constants in both programs. -/
theorem first_same (V : Valuation Cert.KernelIdeal.τ Cert.KernelIdeal.sig (Elt Ideal)) (V' : Valuation Cert.ReferenceIdeal.τ Cert.ReferenceIdeal.sig (Elt Ideal)) :
    Same 12 15 (after hostOps0 V) (after entryOps V') := by
  have h0 : Same 12 12 (after hostOps0 V) (after entryOps V') := fun _ _ _ _ _ hl hu _ => absurd hl (by omega)
  have h1 := Same.cons h0 (y := .of Cert.KernelIdeal.main_v7) (y' := (.of Cert.ReferenceIdeal.main_v8 : TRef _ ⟨Cert.KernelIdeal.S2, .i32⟩))
    ⟨rfl, rfl, by decide, by decide, rfl⟩ rfl (by
      show after hostOps0 V (Proc.devRef .tc Cert.KernelIdeal.main_v7) = after entryOps V' (Proc.devRef .tc Cert.ReferenceIdeal.main_v8)
      after_reads_simp
      rfl)
  have h2 := Same.cons h1 (y := .of Cert.KernelIdeal.main_cst) (y' := (.of Cert.ReferenceIdeal.main_cst : TRef _ ⟨Cert.KernelIdeal.S_, .f32⟩))
    ⟨rfl, rfl, by decide, by decide, rfl⟩ rfl (by
      show after hostOps0 V (Proc.devRef .tc Cert.KernelIdeal.main_cst) = after entryOps V' (Proc.devRef .tc Cert.ReferenceIdeal.main_cst)
      after_reads_simp)
  exact Same.cons h2 (y := .of Cert.KernelIdeal.main_cst_2) (y' := (.of Cert.ReferenceIdeal.main_cst_2 : TRef _ ⟨Cert.KernelIdeal.S_, .f32⟩))
    ⟨rfl, rfl, by decide, by decide, rfl⟩ rfl (by
      show after hostOps0 V (Proc.devRef .tc Cert.KernelIdeal.main_cst_2) = after entryOps V' (Proc.devRef .tc Cert.ReferenceIdeal.main_cst_2)
      after_reads_simp)

/-- The scores drawn, by batch and pixel. -/
def drawn (V' : Valuation Cert.ReferenceIdeal.τ Cert.ReferenceIdeal.sig (Elt Ideal)) : Cert.ReferenceIdeal.S16x16384.Idx → EReal :=
  after uniformOps (after entryOps V') (Proc.devRef .tc Cert.ReferenceIdeal.main_v9)

theorem drawn_kernel (V : Valuation Cert.KernelIdeal.τ Cert.KernelIdeal.sig (Elt Ideal)) (V' : Valuation Cert.ReferenceIdeal.τ Cert.ReferenceIdeal.sig (Elt Ideal)) :
    (after hostOps0_1 (after hostOps0 V) (Proc.devRef .tc Cert.KernelIdeal.main_v8) : Cert.ReferenceIdeal.S16x16384.Idx → EReal) = drawn V' :=
  (uniform_walk _ _ (first_same V V')).at (x := (.of Cert.KernelIdeal.main_v8 : TRef _ ⟨Cert.ReferenceIdeal.S16x16384, .f32⟩))
    (x' := (.of Cert.ReferenceIdeal.main_v9 : TRef _ ⟨Cert.ReferenceIdeal.S16x16384, .f32⟩)) ⟨rfl, rfl, by decide, by decide, rfl⟩

section Kernel

variable (m : (ℓ : Loc Cert.KernelIdeal.nD Cert.KernelIdeal.τ Cert.KernelIdeal.sig) → Buf (Elt Ideal) ℓ) (c : Dev Cert.KernelIdeal.nD)

theorem V_eq (b : Ref Cert.KernelIdeal.sig .tc) :
    V m c b = after hostOps0_2 (after hostOps0_1 (after hostOps0 fun b => m (c, b))) (Proc.devRef .tc b) := by
  unfold V
  rw [← afterL_eq_after_flatten]
  simp only [afterL_cons, afterL_nil]

/-- The features as the kernel's region finds them: the argument with its two pixel axes flattened. -/
theorem kernel_feats : (V m c Cert.KernelIdeal.main_v0 : Cert.KernelIdeal.S16x64x16384.Idx → EReal)
    = shapeCast Cert.KernelIdeal.S16x64x16384 (m ((c.tc : Thread Cert.KernelIdeal.nD Cert.KernelIdeal.τ).loc Cert.KernelIdeal.main_arg0) : Cert.KernelIdeal.S16x64x128x128.Idx → EReal)
        Cert.KernelIdeal.Facts₀.shapeCasts_S16x64x128x128_S16x64x16384 := by
  rw [V_eq]
  after_reads_simp
  rfl

/-- The first scores as the kernel's region finds them: those drawn, with a middle axis of one. -/
theorem kernel_scores (V' : Valuation Cert.ReferenceIdeal.τ Cert.ReferenceIdeal.sig (Elt Ideal)) :
    (V m c Cert.KernelIdeal.main_v9 : Cert.KernelIdeal.S16x1x16384.Idx → EReal)
    = shapeCast Cert.KernelIdeal.S16x1x16384 (drawn V') Cert.KernelIdeal.Facts₀.shapeCasts_S16x16384_S16x1x16384 := by
  rw [V_eq, ← drawn_kernel (fun b => m (c, b)) V']
  generalize after hostOps0_1 (after hostOps0 fun b => m (c, b)) = W
  after_reads_simp
  rfl

/-- The kernel's third result: zeros. -/
theorem kernel_zeros : (V m c Cert.KernelIdeal.main_v10 : Cert.KernelIdeal.S16x1x128x128.Idx → EReal) = fun _ => Ideal.ofBits .f32 0x00000000#32 := by
  rw [V_eq]
  generalize after hostOps0_1 (after hostOps0 fun b => m (c, b)) = W
  after_reads_simp
  rfl

end Kernel

section Reference

variable (m' : (ℓ : Loc Cert.ReferenceIdeal.nD Cert.ReferenceIdeal.τ Cert.ReferenceIdeal.sig) → Buf (Elt Ideal) ℓ) (c : Dev Cert.ReferenceIdeal.nD)

theorem entry_eq (b : Ref Cert.ReferenceIdeal.sig .tc) :
    entryContents preI m' c (Proc.devRef .tc b) = after startOps (after uniformOps (after entryOps (launchContents m' c))) (Proc.devRef .tc b) := by
  rfl

theorem reference_feats : (entryContents preI m' c (Proc.devRef .tc Cert.ReferenceIdeal.main_v12_0) : Cert.ReferenceIdeal.S16x16384x64.Idx → EReal)
    = shapeCast Cert.ReferenceIdeal.S16x16384x64 (transpose Cert.ReferenceIdeal.S16x128x128x64 [0, 2, 3, 1]
        (m' ((c.tc : Thread Cert.ReferenceIdeal.nD Cert.ReferenceIdeal.τ).loc Cert.ReferenceIdeal.main_arg0) : Cert.ReferenceIdeal.S16x64x128x128.Idx → EReal)
        Cert.ReferenceIdeal.Facts₀.transposes_S16x64x128x128_S16x128x128x64_0_2_3_1) Cert.ReferenceIdeal.Facts₀.shapeCasts_S16x128x128x64_S16x16384x64 := by
  rw [entry_eq]
  after_reads_simp
  rfl

theorem reference_scores : (entryContents preI m' c (Proc.devRef .tc Cert.ReferenceIdeal.main_v12_2) : Cert.ReferenceIdeal.S16x16384.Idx → EReal)
    = drawn (launchContents m' c) := by
  rw [entry_eq]
  unfold drawn
  generalize after uniformOps (after entryOps (launchContents m' c)) = W
  after_reads_simp
  rfl

/-- The reference's third result: zeros. -/
theorem reference_zeros (V : Valuation Cert.ReferenceIdeal.τ Cert.ReferenceIdeal.sig (Elt Ideal)) :
    (after postOps V (Proc.devRef .tc Cert.ReferenceIdeal.main_v16) : Cert.ReferenceIdeal.S16x1x128x128.Idx → EReal) = fun _ => Ideal.ofBits .f32 0x00000000#32 := by
  after_reads_simp
  rfl

end Reference

/-! ## Entry by entry -/

/-- Both layouts of the features hold the same at a batch, a channel and a pixel. -/
theorem layouts (x : Cert.KernelIdeal.S16x64x128x128.Idx → EReal) (b : Fin 16) (d : Fin 64) (p : Fin 16384)
    (h : Cert.KernelIdeal.S16x64x128x128.ShapeCasts Cert.KernelIdeal.S16x64x16384)
    (h1 : Cert.ReferenceIdeal.S16x64x128x128.Transposes [0, 2, 3, 1] Cert.ReferenceIdeal.S16x128x128x64)
    (h2 : Cert.ReferenceIdeal.S16x128x128x64.ShapeCasts Cert.ReferenceIdeal.S16x16384x64) :
    shapeCast Cert.ReferenceIdeal.S16x16384x64 (transpose Cert.ReferenceIdeal.S16x128x128x64 [0, 2, 3, 1] x h1) h2 (ix3 b p d)
      = shapeCast Cert.KernelIdeal.S16x64x16384 x h (ix3 b d p) := by
  have hp := p.isLt
  have hk := shapeCast_apply x h (ix3 b d p) (ix4 b d ⟨p.val / 128, by omega⟩ ⟨p.val % 128, by omega⟩) (by
    rw [Shape.rowMajor_val_three, Shape.rowMajor_val_four]
    dsimp [ix3, ix4]
    omega)
  have hr := shapeCast_apply (transpose Cert.ReferenceIdeal.S16x128x128x64 [0, 2, 3, 1] x h1) h2 (ix3 b p d)
    (ix4 b ⟨p.val / 128, by omega⟩ ⟨p.val % 128, by omega⟩ d) (by
    rw [Shape.rowMajor_val_three, Shape.rowMajor_val_four]
    dsimp [ix3, ix4]
    omega)
  rw [hk, hr]
  exact transpose_apply _ x h1 _ _ fun a => by fin_cases a <;> rfl

theorem scores_layout (x : Cert.ReferenceIdeal.S16x16384.Idx → EReal) (b : Fin 16) (p : Fin 16384)
    (h : Cert.KernelIdeal.S16x16384.ShapeCasts Cert.KernelIdeal.S16x1x16384) :
    shapeCast Cert.KernelIdeal.S16x1x16384 x h (ix3 b 0 p) = x (ix2 b p) :=
  shapeCast_apply x h (ix3 b 0 p) (ix2 b p) (by
    rw [Shape.rowMajor_val_three, Shape.rowMajor_val_two]
    dsimp [ix3, ix2]
    omega)

end Cert.Entry
end
-- ==== Proof.RefPick.lean ====
/- One round of the reference, first half: the position of a batch's greatest score, and the features gathered there. -/
module

public import proofs.«01_k».proof.Proof.Round
public import proofs.«01_k».proof.Proof.Gen.ReferenceIdeal
public import Idealize.ShloMosaic.Lib.Pointwise
public import Idealize.ShloMosaic.Lib.ReduceAll
public import Idealize.ShloMosaic.Lib.Pipeline.Value

@[expose] public section

set_option maxRecDepth 16384

noncomputable section

namespace Cert.RefPick

open Idealize.ShloMosaic Cert.ReferenceIdeal Cert.ReferenceIdeal.Gen Cert.Round

/-! ## The position of the greatest score -/

/-- The comparison that the reduction folds, by cases. -/
theorem reducer_eq (v w : EReal) (i j : BitVec 32) :
    reducer_argmax_f32_i32 (F := Ideal) (v, i) (w, j) = if w < v then (v, i) else if v < w then (w, j) else (w, if i.toInt < j.toInt then i else j) := by
  unfold reducer_argmax_f32_i32
  rcases lt_trichotomy v w with h | h | h
  · simp [Ideal.cmpf_def, Ideal.cmp, Scalar.select, IntOp.ori, IntOp.andi, h, h.not_gt, h.ne]
  · subst h
    by_cases hi : i.toInt < j.toInt <;>
      simp [Ideal.cmpf_def, Ideal.cmp, Scalar.select, IntOp.ori, IntOp.andi, IntOp.cmpi, BitVec.slt, hi]
  · simp [Ideal.cmpf_def, Ideal.cmp, Scalar.select, IntOp.ori, IntOp.andi, h, h.not_gt, h.ne']

/-- The pair that the fold carries for position `q`. -/
def tag (q : Fin 16384) : BitVec 32 := BitVec.ofNat 32 q.val

theorem tag_lt (q p : Fin 16384) : (tag q).toInt < (tag p).toInt ↔ q < p := by
  unfold tag
  rw [toInt_ofNat q.isLt.le, toInt_ofNat p.isLt.le, Fin.lt_def]
  omega

theorem tag_inj {q p : Fin 16384} (h : tag q = tag p) : q = p := by
  have := congrArg BitVec.toInt h
  unfold tag at this
  rw [toInt_ofNat q.isLt.le, toInt_ofNat p.isLt.le] at this
  exact Fin.ext (by omega)

/-- Folding over any list of tagged scores: the outcome is at least as great as each, and the first of its equals. -/
theorem fold_best (s : Fin 16384 → EReal) : ∀ (L : List (EReal × BitVec 32)), (∀ e ∈ L, ∃ p, e = (s p, tag p)) →
    ∀ (v : EReal) (q : Fin 16384), (v = s q ∨ v = ⊥ ∧ q = 0) → ∃ (v' : EReal) (q' : Fin 16384),
      L.foldl (reducer_argmax_f32_i32 (F := Ideal)) (v, tag q) = (v', tag q') ∧ (v' = s q' ∨ v' = ⊥ ∧ q' = 0)
      ∧ (v ≤ v' ∧ (v = v' → q' ≤ q)) ∧ ∀ p, (s p, tag p) ∈ L → s p ≤ v' ∧ (s p = v' → q' ≤ p)
  | [], _, v, q, h => ⟨v, q, rfl, h, ⟨le_rfl, fun _ => le_rfl⟩, fun _ hp => absurd hp List.not_mem_nil⟩
  | e :: L, hL, v, q, h => by
    obtain ⟨p, rfl⟩ := hL e List.mem_cons_self
    -- one step: the new pair, at least as great as both and the first of its equals
    obtain ⟨v1, q1, hs, h1, ha, hb⟩ : ∃ (v1 : EReal) (q1 : Fin 16384), reducer_argmax_f32_i32 (F := Ideal) (v, tag q) (s p, tag p) = (v1, tag q1)
        ∧ (v1 = s q1 ∨ v1 = ⊥ ∧ q1 = 0) ∧ (v ≤ v1 ∧ (v = v1 → q1 ≤ q)) ∧ (s p ≤ v1 ∧ (s p = v1 → q1 ≤ p)) := by
      rw [reducer_eq]
      rcases lt_trichotomy v (s p) with hv | hv | hv
      · exact ⟨s p, p, by rw [if_neg hv.not_gt, if_pos hv], .inl rfl, ⟨hv.le, fun e => absurd e hv.ne⟩, le_rfl, fun _ => le_rfl⟩
      · rcases lt_or_ge q p with hq | hq
        · exact ⟨s p, q, by rw [if_neg hv.not_gt, if_neg hv.not_lt, if_pos ((tag_lt q p).2 hq)], hv ▸ h, ⟨hv.le, fun _ => le_rfl⟩, le_rfl,
            fun _ => hq.le⟩
        · exact ⟨s p, p, by rw [if_neg hv.not_gt, if_neg hv.not_lt, if_neg (fun h => absurd ((tag_lt q p).1 h) hq.not_gt)], .inl rfl,
            ⟨hv.le, fun _ => hq⟩, le_rfl, fun _ => le_rfl⟩
      · exact ⟨v, q, by rw [if_pos hv], h, ⟨le_rfl, fun _ => le_rfl⟩, hv.le, fun e => absurd e hv.ne⟩
    obtain ⟨v', q', hf, h', hc, hd⟩ := fold_best s L (fun e he => hL e (List.mem_cons_of_mem _ he)) v1 q1 h1
    refine ⟨v', q', by rw [List.foldl_cons, hs, hf], h', ?_, fun r hr => ?_⟩
    · exact ⟨ha.1.trans hc.1, fun e => (hc.2 (le_antisymm hc.1 (e ▸ ha.1))).trans (ha.2 (le_antisymm ha.1 (e ▸ hc.1)))⟩
    · rcases List.mem_cons.mp hr with hr | hr
      · obtain rfl := tag_inj (congrArg Prod.snd hr)
        exact ⟨hb.1.trans hc.1, fun e => (hc.2 (le_antisymm hc.1 (e ▸ hb.1))).trans (hb.2 (le_antisymm hb.1 (e ▸ hc.1)))⟩
      · exact hd r hr

/-- The reference's index of the greatest score, by batch. -/
def best (s : FVec Ideal S16x16384 .f32) : IVec S16 32 := fun j =>
  (Host.argReduce (reducer_argmax_f32_i32 (F := Ideal)) s (iotaInDim S16x16384 32 1) (constant S_ .f32 0xFF800000#32) (constantI S_ 32 0#32)
    reducesTo_S16x16384_S16_d1 h_S_ j).2

/-- It is the first best position. -/
theorem best_at (s : FVec Ideal S16x16384 .f32) (b : Fin 16) : best s (ix1 b) = tag (first fun p => s (ix2 b p)) := by
  unfold best
  rw [Ideal.argReduce_eq_reduce2, Host.reduce2_eq_foldl_fiber]
  have hdrop : ∀ k : S16x16384.Idx, reducesTo_S16x16384_S16_d1.drop k = (ix1 (k 0) : S16.Idx) := fun k => by
    funext a
    fin_cases a
    rfl
  have hk : ∀ k : S16x16384.Idx, k = (ix2 (k 0) (k 1) : S16x16384.Idx) := fun k => by
    funext a
    fin_cases a <;> rfl
  obtain ⟨v, q, hf, h, -, hd⟩ := fold_best (fun p => s (ix2 b p)) (Host.argReduceFiber s (iotaInDim S16x16384 32 1) reducesTo_S16x16384_S16_d1 (ix1 b))
    (fun e he => by
      unfold Host.argReduceFiber at he
      obtain ⟨n, hn, rfl⟩ := List.mem_map.mp he
      have hb := of_decide_eq_true (List.mem_filter.mp hn).2
      generalize S16x16384.rowMajor.symm n = k at hb
      rw [hdrop] at hb
      have hb0 : k 0 = b := congrFun hb 0
      refine ⟨k 1, ?_⟩
      rw [hk k, hb0]
      rfl) ⊥ 0 (.inr ⟨rfl, rfl⟩)
  have hall : ∀ p : Fin 16384, (s (ix2 b p), tag p) ∈ Host.argReduceFiber s (iotaInDim S16x16384 32 1) reducesTo_S16x16384_S16_d1 (ix1 b) := fun p => by
    unfold Host.argReduceFiber
    refine List.mem_map.mpr ⟨S16x16384.rowMajor (ix2 b p), List.mem_filter.mpr ⟨List.mem_finRange _, ?_⟩, ?_⟩
    · rw [Equiv.symm_apply_apply]
      exact decide_eq_true (hdrop _)
    · rw [Equiv.symm_apply_apply]
      rfl
  have hv : v = s (ix2 b q) := h.elim id fun h => by
    obtain ⟨rfl, rfl⟩ := h
    exact (le_bot_iff.mp (hd 0 (hall 0)).1).symm
  have hq : IsFirst (fun p => s (ix2 b p)) q := ⟨fun p => (hd p (hall p)).1.trans_eq hv, fun p e => (hd p (hall p)).2 (e.trans hv.symm)⟩
  have hinit : ((constant S_ .f32 0xFF800000#32 : FVec Ideal S_ .f32) (Shape.Idx.first h_S_), (constantI S_ 32 0#32) (Shape.Idx.first h_S_)) = ((⊥ : EReal), tag 0) :=
    Prod.ext ofBits_bot rfl
  rw [hinit, hf, ← hq.eq_first]

/-! ## The features gathered there -/

/-- The indices with a negative one counted from the end. -/
def wrapped (i : IVec S16x1x1 32) : IVec S16x1x1 32 :=
  select (cmpi .slt i (broadcastInDim S16x1x1 ![] bcast_S_S16x1x1 (constantI S_ 32 0#32)))
    (addi i (broadcastInDim S16x1x1 ![] bcast_S_S16x1x1 (constantI S_ 32 16384#32))) i

/-- Whether each index is in range. -/
def inside (i : IVec S16x1x1 32) : IVec S16x1 1 :=
  Host.reduce IntOp.andi (andi (cmpi .sge i (broadcastInDim S16x1x1 ![] bcast_S_S16x1x1 (constantI S_ 32 0#32)))
    (cmpi .sle i (broadcastInDim S16x1x1 ![0, 1, 2] bcast_S1x1x1_S16x1x1_0_1_2 (broadcastInDim S1x1x1 ![2] bcast_S1_S1x1x1_2 (constantI S1 32 16383#32)))))
    (constantI S_ 1 1#1) reducesTo_S16x1x1_S16x1_d2 h_S_

/-- The features gathered, one position a batch. -/
def picked (x : FVec Ideal S16x16384x64 .f32) (i : IVec S16x1x1 32) : FVec Ideal S16x1x64 .f32 :=
  select (broadcastInDim S16x1x64 ![0, 1] bcast_S16x1_S16x1x64_0_1 (inside i))
    (Host.gather gather_S16x16384x64_S16x1x1_S16x1x64_2_1_0_0_1_2_1164 x i)
    (broadcastInDim S16x1x64 ![] bcast_S_S16x1x64 (constant S_ .f32 0x7FC00000#32))

/-- The indices are tags of positions. -/
def Tags (q : Fin 16 → Fin 16384) (i : IVec S16x1x1 32) : Prop := ∀ j, i j = tag (q (j 0))

theorem wrapped_tags {q : Fin 16 → Fin 16384} {i : IVec S16x1x1 32} (h : Tags q i) : wrapped i = i := by
  funext j
  have ht : (i j).toInt = (q (j 0)).val := by rw [h j]; exact toInt_ofNat (q (j 0)).isLt.le
  show Scalar.select (IntOp.cmpi .slt (i j) 0#32) _ (i j) = i j
  have : IntOp.cmpi .slt (i j) 0#32 = 0#1 := by
    have hn : ¬ ((q (j 0)).val : ℤ) < 0 := by omega
    simp only [IntOp.cmpi, BitVec.slt, ht, BitVec.toInt_zero, decide_eq_false hn]
    rfl
  rw [this]
  rfl

theorem inside_tags {q : Fin 16 → Fin 16384} {i : IVec S16x1x1 32} (h : Tags q i) (j : S16x1.Idx) : inside i j = 1#1 := by
  refine Host.reduce_andi_one _ _ _ _ j rfl fun k => ?_
  have ht : (i k).toInt = (q (k 0)).val := by rw [h k]; exact toInt_ofNat (q (k 0)).isLt.le
  have hq := (q (k 0)).isLt
  show IntOp.andi (IntOp.cmpi .sge (i k) 0#32) (IntOp.cmpi .sle (i k) 16383#32) = 1#1
  have h0 : IntOp.cmpi .sge (i k) 0#32 = 1#1 := by
    simp [IntOp.cmpi, BitVec.sle, ht]
  have h1 : IntOp.cmpi .sle (i k) 16383#32 = 1#1 := by
    have hn : ((q (k 0)).val : ℤ) ≤ (16383#32 : BitVec 32).toInt := by
      rw [show (16383#32 : BitVec 32).toInt = 16383 from rfl]
      omega
    simp only [IntOp.cmpi, BitVec.sle, ht, decide_eq_true hn]
    rfl
  rw [h0, h1]
  rfl

/-- The gather read at a batch and a channel. -/
theorem gather_at (x : FVec Ideal S16x16384x64 .f32) (i : IVec S16x1x1 32) (b : Fin 16) (d : Fin 64) :
    Host.gather gather_S16x16384x64_S16x1x1_S16x1x64_2_1_0_0_1_2_1164 x i (ix3 b 0 d)
      = x (ix3 b ⟨min (i (ix3 b 0 0)).toInt.toNat (16384 - 1), by omega⟩ d) := by
  unfold Host.gather
  congr 1
  funext a
  refine Fin.ext ?_
  show gather_S16x16384x64_S16x1x1_S16x1x64_2_1_0_0_1_2_1164.start (ix3 b 0 d) i a
    + gather_S16x16384x64_S16x1x1_S16x1x64_2_1_0_0_1_2_1164.batchCoord (ix3 b 0 d) a
    + gather_S16x16384x64_S16x1x1_S16x1x64_2_1_0_0_1_2_1164.offCoord (ix3 b 0 d) a = _
  fin_cases a
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    exact dif_pos (List.mem_singleton.mpr rfl)
  · rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    have hsi : gather_S16x16384x64_S16x1x1_S16x1x64_2_1_0_0_1_2_1164.siIdx (ix3 b 0 d)
        ⟨List.idxOf (1 : Fin 3) gather_S16x16384x64_S16x1x1_S16x1x64_2_1_0_0_1_2_1164.startIndexMap,
        List.idxOf_lt_length_iff.2 (List.mem_singleton.mpr rfl)⟩ = ix3 b 0 0 := by
      funext e
      refine Fin.ext ?_
      fin_cases e <;> rfl
    exact congrArg (fun k => min (i k).toInt.toNat (16384 - 1)) hsi
  · rw [GatherDims.batchCoord_eq_zero _ _ _ (by decide)]
    unfold GatherDims.start GatherDims.offCoord
    rw [dif_neg (by decide), dif_pos (by decide)]
    simp only [Nat.zero_add]
    rfl

/-- The features picked are those at the tagged positions. -/
theorem picked_at {q : Fin 16 → Fin 16384} (x : FVec Ideal S16x16384x64 .f32) {i : IVec S16x1x1 32} (h : Tags q i) (b : Fin 16) (d : Fin 64) :
    picked x (wrapped i) (ix3 b 0 d) = x (ix3 b (q b) d) := by
  rw [wrapped_tags h]
  show Scalar.select (broadcastInDim S16x1x64 ![0, 1] bcast_S16x1_S16x1x64_0_1 (inside i) (ix3 b 0 d)) _ _ = _
  have h1 : broadcastInDim S16x1x64 ![0, 1] bcast_S16x1_S16x1x64_0_1 (inside i) (ix3 b 0 d) = 1#1 := inside_tags h _
  rw [h1, gather_at]
  show x _ = _
  have hi : min (i (ix3 b 0 0)).toInt.toNat (16384 - 1) = (q b).val := by
    have ht : (i (ix3 b 0 0)).toInt = (q b).val := by rw [h]; exact toInt_ofNat (q b).isLt.le
    have := (q b).isLt
    omega
  exact congrArg (fun p => x (ix3 b p d)) (Fin.ext hi)

/-- The index of the greatest score, with two axes of one after the batch's, tags the first best position. -/
theorem best_tags (s : FVec Ideal S16x16384 .f32) :
    Tags (fun b => first fun p => s (ix2 b p)) (broadcastInDim S16x1x1 ![0, 1] bcast_S16x1_S16x1x1_0_1 (broadcastInDim S16x1 ![0] bcast_S16_S16x1_0 (best s))) := fun j => by
  refine Eq.trans ?_ (best_at s (j 0))
  exact (broadcastInDim_apply _ _ _ _ (ix2 (j 0) 0) (fun a => by fin_cases a <;> rfl)).trans
    (broadcastInDim_apply _ _ _ _ (ix1 (j 0)) (fun a => by fin_cases a; rfl))

end Cert.RefPick
end
-- ==== Proof.RefRound.lean ====
/- One round of the reference, second half: the similarities to the features picked, the mean they weigh, the next scores. -/
module

public import proofs.«01_k».proof.Proof.RefPick

@[expose] public section

set_option maxRecDepth 16384

noncomputable section

namespace Cert.RefRound

open Idealize.ShloMosaic Cert.ReferenceIdeal Cert.ReferenceIdeal.Gen Cert.Round

/-- The distances of every pixel's features to those picked. -/
def dists (x : FVec Ideal S16x16384x64 .f32) (r : FVec Ideal S16x1x64 .f32) : FVec Ideal S16x16384 .f32 :=
  Host.reduceAdd (mulf (subf x (broadcastInDim S16x16384x64 ![0, 1, 2] bcast_S16x1x64_S16x16384x64_0_1_2 r))
    (subf x (broadcastInDim S16x16384x64 ![0, 1, 2] bcast_S16x1x64_S16x16384x64_0_1_2 r))) (constant S_ .f32 0x00000000#32) reducesTo_S16x16384x64_S16x16384_d2 h_S_

/-- The similarities. -/
def sims (D : FVec Ideal S16x16384 .f32) : FVec Ideal S16x16384 .f32 :=
  Host.exp (Host.divf (Host.negf (Host.sqrt D)) (broadcastInDim S16x16384 ![] bcast_S_S16x16384 (constant S_ .f32 0x41A00000#32)))

/-- The similarities over their sum. -/
def weights (s : FVec Ideal S16x16384 .f32) : FVec Ideal S16x16384 .f32 :=
  Host.divf s (broadcastInDim S16x16384 ![0, 1] bcast_S16x1_S16x16384_0_1 (broadcastInDim S16x1 ![0] bcast_S16_S16x1_0
    (Host.reduceAdd s (constant S_ .f32 0x00000000#32) reducesTo_S16x16384_S16_d1 h_S_)))

/-- The weighted mean of the features. -/
def means (x : FVec Ideal S16x16384x64 .f32) (w : FVec Ideal S16x16384 .f32) : FVec Ideal S16x64 .f32 :=
  Host.reduceAdd (mulf x (broadcastInDim S16x16384x64 ![0, 1, 2] bcast_S16x16384x1_S16x16384x64_0_1_2
    (broadcastInDim S16x16384x1 ![0, 1] bcast_S16x16384_S16x16384x1_0_1 w))) (constant S_ .f32 0x00000000#32) reducesTo_S16x16384x64_S16x64_d1 h_S_

/-- The next scores. -/
def nexts (sm s : FVec Ideal S16x16384 .f32) : FVec Ideal S16x16384 .f32 :=
  mulf (subf (broadcastInDim S16x16384 ![] bcast_S_S16x16384 (constant S_ .f32 0x3F800000#32)) sm) s

theorem dists_at (x : FVec Ideal S16x16384x64 .f32) (r : FVec Ideal S16x1x64 .f32) (b : Fin 16) (p : Fin 16384) :
    dists x r (ix2 b p) = ∑ d : Fin 64, (x (ix3 b p d) - r (ix3 b 0 d)) * (x (ix3 b p d) - r (ix3 b 0 d)) := by
  pointwise [dists]

theorem sims_at (D : FVec Ideal S16x16384 .f32) (b : Fin 16) (p : Fin 16384) :
    sims D (ix2 b p) = Ideal.exp (Ideal.div (-Ideal.sqrt (D (ix2 b p))) ((20 : ℝ) : EReal)) := by
  pointwise [sims]
  rw [ofBits_twenty]

theorem weights_at (s : FVec Ideal S16x16384 .f32) (b : Fin 16) (p : Fin 16384) :
    weights s (ix2 b p) = Ideal.div (s (ix2 b p)) (∑ r : Fin 16384, s (ix2 b r)) := by
  pointwise [weights]

theorem means_at (x : FVec Ideal S16x16384x64 .f32) (w : FVec Ideal S16x16384 .f32) (b : Fin 16) (d : Fin 64) :
    means x w (ix2 b d) = ∑ p : Fin 16384, x (ix3 b p d) * w (ix2 b p) := by
  pointwise [means]

theorem nexts_at (sm s : FVec Ideal S16x16384 .f32) (b : Fin 16) (p : Fin 16384) :
    nexts sm s (ix2 b p) = (1 - sm (ix2 b p)) * s (ix2 b p) := by
  pointwise [nexts]

/-- A batch's features by channel and pixel. -/
def feat (x : FVec Ideal S16x16384x64 .f32) (b : Fin 16) (d : Fin 64) (p : Fin 16384) : EReal := x (ix3 b p d)

variable {x : FVec Ideal S16x16384x64 .f32} {r : FVec Ideal S16x1x64 .f32} {q : Fin 16 → Fin 16384}

theorem sim_at (h : ∀ b d, r (ix3 b 0 d) = x (ix3 b (q b) d)) (b : Fin 16) (p : Fin 16384) :
    sims (dists x r) (ix2 b p) = Round.sim (feat x b) (q b) p := by
  rw [sims_at, dists_at]
  simp only [h]
  rfl

theorem vec_at (h : ∀ b d, r (ix3 b 0 d) = x (ix3 b (q b) d)) (b : Fin 16) (d : Fin 64) :
    means x (weights (sims (dists x r))) (ix2 b d) = Round.vec (feat x b) (q b) d := by
  rw [means_at]
  simp only [weights_at, sim_at h]
  rfl

theorem next_at (h : ∀ b d, r (ix3 b 0 d) = x (ix3 b (q b) d)) (s : FVec Ideal S16x16384 .f32) (b : Fin 16) (p : Fin 16384) :
    nexts (sims (dists x r)) s (ix2 b p) = Round.next (feat x b) (q b) (fun p => s (ix2 b p)) p := by
  rw [nexts_at, sim_at h]
  rfl

end Cert.RefRound
end
-- ==== Proof.RefTrip.lean ====
/- One trip of the reference's loop, read off its operations: what it leaves in each carried buffer. -/
module

public import proofs.«01_k».proof.Proof.RefRound
public import proofs.«01_k».proof.Proof.RefRun

@[expose] public section

set_option maxRecDepth 100000

noncomputable section

namespace Cert.RefTrip

open Idealize.ShloMosaic Idealize.ShloMosaic.StableHlo Idealize.ShloMosaic.Tactic
open Cert.ReferenceIdeal Cert.ReferenceIdeal.Gen Cert.ReferenceIdeal.Run Cert.Round Cert.RefPick Cert.RefRound

abbrev Vals := Valuation τ sig (Elt Ideal)

/-- The features carried. -/
def X (V : Vals) : FVec Ideal S16x16384x64 .f32 := V (Proc.devRef .tc main_v12_0)
/-- The scores carried. -/
def S (V : Vals) : FVec Ideal S16x16384 .f32 := V (Proc.devRef .tc main_v12_2)
/-- The features picked. -/
def R (V : Vals) : FVec Ideal S16x1x64 .f32 :=
  picked (X V) (wrapped (broadcastInDim S16x1x1 ![0, 1] bcast_S16x1_S16x1x1_0_1 (broadcastInDim S16x1 ![0] bcast_S16_S16x1_0 (best (S V)))))

/-! ## The stretches one by one -/

theorem argmax_read (V : Vals) : (after argmaxOps V (Proc.devRef .tc main_while0b_v17) : IVec S16 32) = best (S V) := by
  after_reads_simp
  rfl

theorem index_read (V : Vals) : (after indexOps V (Proc.devRef .tc main_while0b_v19) : IVec S16x1x1 32)
    = broadcastInDim S16x1x1 ![0, 1] bcast_S16x1_S16x1x1_0_1 (broadcastInDim S16x1 ![0] bcast_S16_S16x1_0 (V (Proc.devRef .tc main_while0b_v17))) := by
  after_reads_simp

theorem gather_read (V : Vals) : (after gatherOps V (Proc.devRef .tc main_while0b_v20) : FVec Ideal S16x1x64 .f32)
    = picked (X V) (wrapped (V (Proc.devRef .tc main_while0b_v19))) := by
  after_reads_simp
  rfl

theorem round_sim (V : Vals) : (after roundOps V (Proc.devRef .tc main_while0b_v29) : FVec Ideal S16x16384 .f32)
    = sims (dists (X V) (V (Proc.devRef .tc main_while0b_v20))) := by
  after_reads_simp
  rfl

theorem round_vec (V : Vals) : (after roundOps V (Proc.devRef .tc main_while0b_v37) : FVec Ideal S16x64 .f32)
    = means (X V) (weights (sims (dists (X V) (V (Proc.devRef .tc main_while0b_v20))))) := by
  after_reads_simp
  rfl

theorem round_next (V : Vals) : (after roundOps V (Proc.devRef .tc main_while0b_v40) : FVec Ideal S16x16384 .f32)
    = nexts (sims (dists (X V) (V (Proc.devRef .tc main_while0b_v20)))) (S V) := by
  after_reads_simp
  rfl

/-- Where the round's row goes. -/
def at_ (V : Vals) : Fin 3 → Int := fun k => (![(V (Proc.devRef .tc main_v12_1) : IVec S_ 32), constantI S_ 32 0#32, constantI S_ 32 0#32] k (Shape.Idx.first h_S_)).toInt

theorem vec_stored (V : Vals) : (after storeVecOps V (Proc.devRef .tc main_while0b_v41) : FVec Ideal S8x16x64 .f32)
    = Host.dynamicUpdateSlice (V (Proc.devRef .tc main_v12_3) : FVec Ideal S8x16x64 .f32)
        (broadcastInDim S1x16x64 ![1, 2] bcast_S16x64_S1x16x64_1_2 (V (Proc.devRef .tc main_while0b_v37) : FVec Ideal S16x64 .f32)) (at_ V) updateFits_S8x16x64_S1x16x64 := by
  after_reads_simp [binaryIndexed_result_read, indexContents_tref_cons, indexContents_tref_empty, TRef.ofBuf_toBuf]
  rfl

theorem sim_stored (V : Vals) : (after storeSimOps V (Proc.devRef .tc main_while0b_v42) : FVec Ideal S8x16x16384 .f32)
    = Host.dynamicUpdateSlice (V (Proc.devRef .tc main_v12_4) : FVec Ideal S8x16x16384 .f32)
        (broadcastInDim S1x16x16384 ![1, 2] bcast_S16x16384_S1x16x16384_1_2 (V (Proc.devRef .tc main_while0b_v29) : FVec Ideal S16x16384 .f32)) (at_ V) updateFits_S8x16x16384_S1x16x16384 := by
  after_reads_simp [binaryIndexed_result_read, indexContents_tref_cons, indexContents_tref_empty, TRef.ofBuf_toBuf]
  rfl

theorem step_score (V : Vals) : after stepOps V (Proc.devRef .tc main_v12_2) = V (Proc.devRef .tc main_while0b_v40) := by
  after_reads_simp
  rfl
theorem step_vec (V : Vals) : after stepOps V (Proc.devRef .tc main_v12_3) = V (Proc.devRef .tc main_while0b_v41) := by
  after_reads_simp
  rfl
theorem step_sim (V : Vals) : after stepOps V (Proc.devRef .tc main_v12_4) = V (Proc.devRef .tc main_while0b_v42) := by
  after_reads_simp
  rfl

/-! ## A row stored -/

/-- An array of eight rows with one replaced, read at an index. -/
theorem update_at {n : ℕ} {α : Type} (x : (⟨3, ![8, 16, n]⟩ : Shape).Idx → α) (u : (⟨3, ![1, 16, n]⟩ : Shape).Idx → α) (start : Fin 3 → Int)
    (h : (⟨3, ![8, 16, n]⟩ : Shape).Slices (fun _ => 0) ⟨3, ![1, 16, n]⟩) (k : ℕ) (hk : k < 8) (h0 : start 0 = k) (h1 : start 1 = 0) (h2 : start 2 = 0)
    (j : Fin 8) (b : Fin 16) (c : Fin n) :
    Host.dynamicUpdateSlice x u start h (ix3 j b c) = if j.val = k then u (ix3 0 b c) else x (ix3 j b c) := by
  have e0 : Host.clampedStart ⟨3, ![8, 16, n]⟩ ⟨3, ![1, 16, n]⟩ h.1 start (0 : Fin 3) = k := Host.clampedStart_of_le h.1 start (0 : Fin 3) k h0 (by show k + 1 ≤ 8; omega)
  have e1 : Host.clampedStart ⟨3, ![8, 16, n]⟩ ⟨3, ![1, 16, n]⟩ h.1 start (1 : Fin 3) = 0 := Host.clampedStart_of_le h.1 start (1 : Fin 3) 0 h1 (by show 0 + 16 ≤ 16; omega)
  have e2 : Host.clampedStart ⟨3, ![8, 16, n]⟩ ⟨3, ![1, 16, n]⟩ h.1 start (2 : Fin 3) = 0 := Host.clampedStart_of_le h.1 start (2 : Fin 3) 0 h2 (by show 0 + n ≤ n; omega)
  rw [Host.dynamicUpdateSlice_apply]
  have hb := b.isLt
  have hc := c.isLt
  by_cases hj : j.val = k
  · rw [if_pos hj]
    refine (dif_pos fun a => ?_).trans (congrArg u (funext fun a => Fin.ext ?_))
    · match a with
      | ⟨0, _⟩ =>
        show Host.clampedStart ⟨3, ![8, 16, n]⟩ ⟨3, ![1, 16, n]⟩ h.1 start (0 : Fin 3) ≤ j.val ∧ j.val < Host.clampedStart ⟨3, ![8, 16, n]⟩ ⟨3, ![1, 16, n]⟩ h.1 start (0 : Fin 3) + 1
        omega
      | ⟨1, _⟩ =>
        show Host.clampedStart ⟨3, ![8, 16, n]⟩ ⟨3, ![1, 16, n]⟩ h.1 start (1 : Fin 3) ≤ b.val ∧ b.val < Host.clampedStart ⟨3, ![8, 16, n]⟩ ⟨3, ![1, 16, n]⟩ h.1 start (1 : Fin 3) + 16
        omega
      | ⟨2, _⟩ =>
        show Host.clampedStart ⟨3, ![8, 16, n]⟩ ⟨3, ![1, 16, n]⟩ h.1 start (2 : Fin 3) ≤ c.val ∧ c.val < Host.clampedStart ⟨3, ![8, 16, n]⟩ ⟨3, ![1, 16, n]⟩ h.1 start (2 : Fin 3) + n
        omega
    · match a with
      | ⟨0, _⟩ =>
        show j.val - Host.clampedStart ⟨3, ![8, 16, n]⟩ ⟨3, ![1, 16, n]⟩ h.1 start (0 : Fin 3) = 0
        omega
      | ⟨1, _⟩ =>
        show b.val - Host.clampedStart ⟨3, ![8, 16, n]⟩ ⟨3, ![1, 16, n]⟩ h.1 start (1 : Fin 3) = b.val
        omega
      | ⟨2, _⟩ =>
        show c.val - Host.clampedStart ⟨3, ![8, 16, n]⟩ ⟨3, ![1, 16, n]⟩ h.1 start (2 : Fin 3) = c.val
        omega
  · rw [if_neg hj]
    refine dif_neg fun hin => ?_
    have h3 : Host.clampedStart ⟨3, ![8, 16, n]⟩ ⟨3, ![1, 16, n]⟩ h.1 start (0 : Fin 3) ≤ j.val ∧ j.val < Host.clampedStart ⟨3, ![8, 16, n]⟩ ⟨3, ![1, 16, n]⟩ h.1 start (0 : Fin 3) + 1 := hin (0 : Fin 3)
    omega

end Cert.RefTrip
end
-- ==== Proof.RefLoop.lean ====
/- The reference's eight trips: after `k` of them the scores are those of round `k`, and the first `k` rows of the two
   results hold the rounds' vectors and similarities. -/
module

public import proofs.«01_k».proof.Proof.RefTrip
public import proofs.«01_k».proof.Proof.Frames

@[expose] public section

set_option maxRecDepth 100000

noncomputable section

namespace Cert.RefTrip

open Idealize.ShloMosaic Idealize.ShloMosaic.StableHlo Idealize.ShloMosaic.Tactic
open Cert.ReferenceIdeal Cert.ReferenceIdeal.Gen Cert.ReferenceIdeal.Run Cert.Round Cert.RefPick Cert.RefRound

/-! ## One trip -/

/-- The buffers once the features are picked. -/
def gathered (V : Vals) : Vals := after gatherOps (after indexOps (after argmaxOps V))

/-- What the stretches up to there leave alone. -/
theorem gathered_kept (V : Vals) (b : Ref sig .tc) (h : b ∉ argmaxOps_W) (h1 : b ∉ indexOps_W) (h2 : b ∉ gatherOps_W) :
    gathered V (Proc.devRef .tc b) = V (Proc.devRef .tc b) := by
  unfold gathered
  rw [after_of_writes_sub gatherOps _ gatherOps_writes h2, after_of_writes_sub indexOps _ indexOps_writes h1, after_of_writes_sub argmaxOps _ argmaxOps_writes h]

theorem gathered_X (V : Vals) : X (gathered V) = X V := gathered_kept V main_v12_0 (by decide +kernel) (by decide +kernel) (by decide +kernel)
theorem gathered_S (V : Vals) : S (gathered V) = S V := gathered_kept V main_v12_2 (by decide +kernel) (by decide +kernel) (by decide +kernel)

theorem gathered_R (V : Vals) : (gathered V (Proc.devRef .tc main_while0b_v20) : FVec Ideal S16x1x64 .f32) = R V := by
  unfold gathered R
  rw [gather_read, index_read, argmax_read]
  have hx : X (after indexOps (after argmaxOps V)) = X V := by
    unfold X
    rw [after_of_writes_sub indexOps _ indexOps_writes (by decide +kernel), after_of_writes_sub argmaxOps _ argmaxOps_writes (by decide +kernel)]
  rw [hx]

/-- The similarities of the trip. -/
def simT (V : Vals) : FVec Ideal S16x16384 .f32 := sims (dists (X V) (R V))

theorem round_kept (V : Vals) (b : Ref sig .tc) (h : b ∉ roundOps_W) : after roundOps V (Proc.devRef .tc b) = V (Proc.devRef .tc b) :=
  after_of_writes_sub roundOps _ roundOps_writes h
theorem vec_kept (V : Vals) (b : Ref sig .tc) (h : b ∉ storeVecOps_W) : after storeVecOps V (Proc.devRef .tc b) = V (Proc.devRef .tc b) :=
  after_of_writes_sub storeVecOps _ storeVecOps_writes h
theorem sim_kept (V : Vals) (b : Ref sig .tc) (h : b ∉ storeSimOps_W) : after storeSimOps V (Proc.devRef .tc b) = V (Proc.devRef .tc b) :=
  after_of_writes_sub storeSimOps _ storeSimOps_writes h

/-- The trip's own buffers after the condition and the body. -/
def trip (V : Vals) : Vals := after stepOps (after storeSimOps (after storeVecOps (after roundOps (gathered (after condOps V)))))

theorem cond_kept (V : Vals) (b : Ref sig .tc) (h : b ∉ condOps_W) : after condOps V (Proc.devRef .tc b) = V (Proc.devRef .tc b) :=
  after_of_writes_sub condOps _ condOps_writes h

theorem cond_X (V : Vals) : X (after condOps V) = X V := cond_kept V main_v12_0 (by decide +kernel)
theorem cond_S (V : Vals) : S (after condOps V) = S V := cond_kept V main_v12_2 (by decide +kernel)
theorem cond_R (V : Vals) : R (after condOps V) = R V := by
  unfold R
  rw [cond_X, cond_S]

theorem trip_score (V : Vals) : S (trip V) = nexts (simT V) (S V) := by
  show trip V (Proc.devRef .tc main_v12_2) = _
  unfold trip
  rw [step_score, sim_kept _ _ (by decide +kernel), vec_kept _ _ (by decide +kernel), round_next, gathered_X, gathered_R, gathered_S, cond_X, cond_S, cond_R]
  rfl

theorem trip_feat (V : Vals) : X (trip V) = X V := by
  show trip V (Proc.devRef .tc main_v12_0) = _
  unfold trip
  rw [after_of_writes_sub stepOps _ stepOps_writes (by decide +kernel), sim_kept _ _ (by decide +kernel), vec_kept _ _ (by decide +kernel), round_kept _ _ (by decide +kernel),
    gathered_kept _ _ (by decide +kernel) (by decide +kernel) (by decide +kernel)]
  exact cond_X V

/-- The counter, where the row goes. -/
def ctr (V : Vals) : Int := ((V (Proc.devRef .tc main_v12_1) : IVec S_ 32) (Shape.Idx.first h_S_)).toInt

/-- The vectors stored so far. -/
def vecs (V : Vals) : FVec Ideal S8x16x64 .f32 := V (Proc.devRef .tc main_v12_3)
/-- The similarities stored so far. -/
def rows (V : Vals) : FVec Ideal S8x16x16384 .f32 := V (Proc.devRef .tc main_v12_4)

theorem at_zero (V : Vals) : at_ V (0 : Fin 3) = ctr V := rfl

/-- The counter is what it was until the step. -/
theorem ctr_kept (V : Vals) : ctr (after roundOps (gathered (after condOps V))) = ctr V := by
  unfold ctr
  rw [round_kept _ _ (by decide +kernel), gathered_kept _ _ (by decide +kernel) (by decide +kernel) (by decide +kernel), cond_kept _ _ (by decide +kernel)]

theorem trip_vecs (V : Vals) (k : ℕ) (hk : k < 8) (hc : ctr V = k) (j : Fin 8) (b : Fin 16) (d : Fin 64) :
    vecs (trip V) (ix3 j b d) = if j.val = k then means (X V) (weights (simT V)) (ix2 b d) else vecs V (ix3 j b d) := by
  have h : vecs (trip V) = Host.dynamicUpdateSlice (vecs V) (broadcastInDim S1x16x64 ![1, 2] bcast_S16x64_S1x16x64_1_2 (means (X V) (weights (simT V))))
      (at_ (after roundOps (gathered (after condOps V)))) updateFits_S8x16x64_S1x16x64 := by
    show trip V (Proc.devRef .tc main_v12_3) = _
    unfold trip
    rw [step_vec, sim_kept _ _ (by decide +kernel), vec_stored, round_vec, gathered_X, gathered_R, cond_X, cond_R, round_kept _ _ (by decide +kernel),
      gathered_kept _ _ (by decide +kernel) (by decide +kernel) (by decide +kernel), cond_kept _ _ (by decide +kernel)]
    rfl
  rw [h]
  refine (update_at _ _ _ updateFits_S8x16x64_S1x16x64 k hk ((at_zero _).trans ((ctr_kept V).trans hc)) rfl rfl j b d).trans ?_
  congr 1
  exact broadcastInDim_apply _ _ _ _ (ix2 b d) fun a => by fin_cases a <;> rfl

theorem trip_rows (V : Vals) (k : ℕ) (hk : k < 8) (hc : ctr V = k) (j : Fin 8) (b : Fin 16) (p : Fin 16384) :
    rows (trip V) (ix3 j b p) = if j.val = k then simT V (ix2 b p) else rows V (ix3 j b p) := by
  have h : rows (trip V) = Host.dynamicUpdateSlice (rows V) (broadcastInDim S1x16x16384 ![1, 2] bcast_S16x16384_S1x16x16384_1_2 (simT V))
      (at_ (after storeVecOps (after roundOps (gathered (after condOps V))))) updateFits_S8x16x16384_S1x16x16384 := by
    show trip V (Proc.devRef .tc main_v12_4) = _
    unfold trip
    rw [step_sim, sim_stored, vec_kept _ main_while0b_v29 (by decide +kernel), vec_kept _ main_v12_4 (by decide +kernel), round_sim, gathered_X, gathered_R, cond_X, cond_R,
      round_kept _ main_v12_4 (by decide +kernel),
      gathered_kept _ _ (by decide +kernel) (by decide +kernel) (by decide +kernel), cond_kept _ _ (by decide +kernel)]
    rfl
  have hv : ctr (after storeVecOps (after roundOps (gathered (after condOps V)))) = ctr V := by
    refine Eq.trans ?_ (ctr_kept V)
    unfold ctr
    rw [vec_kept _ _ (by decide +kernel)]
  rw [h]
  refine (update_at _ _ _ updateFits_S8x16x16384_S1x16x16384 k hk ((at_zero _).trans (hv.trans hc)) rfl rfl j b p).trans ?_
  congr 1
  exact broadcastInDim_apply _ _ _ _ (ix2 b p) fun a => by fin_cases a <;> rfl

/-! ## The trip at an index -/

/-- The best position of a batch. -/
def pos (V : Vals) (b : Fin 16) : Fin 16384 := first fun p => S V (ix2 b p)

theorem R_at (V : Vals) (b : Fin 16) (d : Fin 64) : R V (ix3 b 0 d) = X V (ix3 b (pos V b) d) := picked_at (X V) (best_tags (S V)) b d

theorem trip_score_at (V : Vals) (b : Fin 16) (p : Fin 16384) :
    S (trip V) (ix2 b p) = Round.next (feat (X V) b) (pos V b) (fun p => S V (ix2 b p)) p := by
  rw [trip_score]
  exact next_at (R_at V) (S V) b p

/-! ## All trips -/

variable (m : (ℓ : Loc nD τ sig) → Buf (Elt Ideal) ℓ) (c : Dev nD)

/-- The features and the scores before the first trip. -/
def x0 (b : Fin 16) (d : Fin 64) (p : Fin 16384) : EReal := feat (X (entryContents preI m c)) b d p
def s0 (b : Fin 16) (p : Fin 16384) : EReal := S (entryContents preI m c) (ix2 b p)

theorem atK_trip (k : ℕ) : atK m (k + 1) c = trip (atK m k c) := by
  rw [show atK m (k + 1) c = afterL bodyI (after condOps (atK m k c)) from rfl]
  simp only [afterL_cons, afterL_nil]
  rfl

theorem atK_feat (k : ℕ) : X (atK m k c) = X (entryContents preI m c) := by
  induction k with
  | zero => rfl
  | succ k ih => rw [atK_trip, trip_feat, ih]

theorem atK_score (b : Fin 16) : ∀ k, (fun p => S (atK m k c) (ix2 b p)) = Round.score (x0 m c b) (s0 m c b) k
  | 0 => rfl
  | k + 1 => by
    have ih := atK_score b k
    funext p
    rw [atK_trip, trip_score_at]
    unfold pos
    rw [ih, atK_feat]
    rfl

theorem atK_pos (b : Fin 16) (k : ℕ) : pos (atK m k c) b = first (Round.score (x0 m c b) (s0 m c b) k) := by
  unfold pos
  rw [atK_score]

theorem atK_count (k : ℕ) (hk : k ≤ 8) : ctr (atK m k c) = k := by
  unfold ctr
  rw [atK_ctr]
  interval_cases k <;> rfl

theorem atK_vecs (b : Fin 16) (d : Fin 64) : ∀ k, k ≤ 8 → ∀ j : Fin 8, j.val < k →
    vecs (atK m k c) (ix3 j b d) = Round.vec (x0 m c b) (first (Round.score (x0 m c b) (s0 m c b) j.val)) d
  | 0, _, _, hj => absurd hj (Nat.not_lt_zero _)
  | k + 1, hk, j, hj => by
    rw [atK_trip, trip_vecs _ k (by omega) (atK_count m c k (by omega))]
    split
    · rename_i e
      rw [e, ← atK_pos]
      refine (vec_at (R_at (atK m k c)) b d).trans ?_
      rw [atK_feat]
      rfl
    · exact atK_vecs b d k (by omega) j (by omega)

theorem atK_rows (b : Fin 16) (p : Fin 16384) : ∀ k, k ≤ 8 → ∀ j : Fin 8, j.val < k →
    rows (atK m k c) (ix3 j b p) = Round.sim (x0 m c b) (first (Round.score (x0 m c b) (s0 m c b) j.val)) p
  | 0, _, _, hj => absurd hj (Nat.not_lt_zero _)
  | k + 1, hk, j, hj => by
    rw [atK_trip, trip_rows _ k (by omega) (atK_count m c k (by omega))]
    split
    · rename_i e
      rw [e, ← atK_pos]
      refine (sim_at (R_at (atK m k c)) b p).trans ?_
      rw [atK_feat]
      rfl
    · exact atK_rows b p k (by omega) j (by omega)

/-! ## The results -/

theorem post_vecs (V : Vals) (b : Fin 16) (j : Fin 8) (d : Fin 64) :
    (after postOps (after condOps V) (Proc.devRef .tc main_v13) : FVec Ideal S16x8x64 .f32) (ix3 b j d) = vecs V (ix3 j b d) := by
  have h : (after postOps (after condOps V) (Proc.devRef .tc main_v13) : FVec Ideal S16x8x64 .f32)
      = transpose S16x8x64 [1, 0, 2] (vecs V) transposes_S8x16x64_S16x8x64_1_0_2 := by
    after_reads_simp
    rfl
  rw [h]
  exact transpose_apply _ _ _ _ (ix3 j b d) fun a => by fin_cases a <;> rfl

theorem post_rows (V : Vals) (b : Fin 16) (j : Fin 8) (p : Fin 16384) :
    (after postOps (after condOps V) (Proc.devRef .tc main_v14) : FVec Ideal S16x8x16384 .f32) (ix3 b j p) = rows V (ix3 j b p) := by
  have h : (after postOps (after condOps V) (Proc.devRef .tc main_v14) : FVec Ideal S16x8x16384 .f32)
      = transpose S16x8x16384 [1, 0, 2] (rows V) transposes_S8x16x16384_S16x8x16384_1_0_2 := by
    after_reads_simp
    rfl
  rw [h]
  exact transpose_apply _ _ _ _ (ix3 j b p) fun a => by fin_cases a <;> rfl

/-- The reference's first result at an index. -/
theorem final_vecs (b : Fin 16) (j : Fin 8) (d : Fin 64) :
    (finalContents condOps preI bodyI postI 8 m c (Proc.devRef .tc main_v13) : FVec Ideal S16x8x64 .f32) (ix3 b j d)
      = Round.vec (x0 m c b) (first (Round.score (x0 m c b) (s0 m c b) j.val)) d :=
  (post_vecs (atK m 8 c) b j d).trans (atK_vecs m c b d 8 le_rfl j j.isLt)

/-- The reference's second result at an index. -/
theorem final_rows (b : Fin 16) (j : Fin 8) (p : Fin 16384) :
    (finalContents condOps preI bodyI postI 8 m c (Proc.devRef .tc main_v14) : FVec Ideal S16x8x16384 .f32) (ix3 b j p)
      = Round.sim (x0 m c b) (first (Round.score (x0 m c b) (s0 m c b) j.val)) p :=
  (post_rows (atK m 8 c) b j p).trans (atK_rows m c b p 8 le_rfl j j.isLt)

end Cert.RefTrip
end
-- ==== Proof.Algebraic.lean ====
/- The claim that the kernel and the reference, as functions of extended reals, have equal results: both are the rounds
   of Round.lean on the same features and the same first scores. -/
module

public import proofs.«01_k».proof.Defs
public import proofs.«01_k».proof.Proof.Gen.KernelIdeal.Value
public import proofs.«01_k».proof.Proof.KerValue
public import proofs.«01_k».proof.Proof.Entry
public import proofs.«01_k».proof.Proof.RefLoop
public import proofs.«01_k».proof.Proof.Finite

@[expose] public section

set_option maxRecDepth 100000

noncomputable section

namespace Cert.Proof

open Idealize.ShloMosaic Idealize.ShloMosaic.StableHlo Idealize.SL.Sem
open Cert.KernelIdeal.Gen

/-! ## The two inputs are one -/

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The features handed to the kernel. -/
abbrev given : Cert.KernelIdeal.S16x64x128x128.Idx → EReal := m ((c.tc : Thread Cert.KernelIdeal.nD Cert.KernelIdeal.τ).loc Cert.KernelIdeal.main_arg0)

theorem feats_given (b : Fin 16) (d : Fin 64) (p : Fin 16384) :
    KerValue.feats m c b d p = shapeCast Cert.KernelIdeal.S16x64x16384 (given m c) Cert.KernelIdeal.Facts₀.shapeCasts_S16x64x128x128_S16x64x16384 (ix3 b d p) :=
  congrFun (Entry.kernel_feats m c) (ix3 b d p)

theorem feats_same (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) (b : Fin 16) :
    RefTrip.x0 m' c b = KerValue.feats m c b := by
  funext d p
  refine Eq.trans ?_ (feats_given m c b d p).symm
  refine (congrFun (Entry.reference_feats m' c) (ix3 b p d)).trans ?_
  refine (Entry.layouts _ b d p Cert.KernelIdeal.Facts₀.shapeCasts_S16x64x128x128_S16x64x16384 _ _).trans ?_
  exact congrArg (fun z : Cert.KernelIdeal.S16x64x128x128.Idx → EReal => shapeCast Cert.KernelIdeal.S16x64x16384 z Cert.KernelIdeal.Facts₀.shapeCasts_S16x64x128x128_S16x64x16384 (ix3 b d p)) h

theorem scores_same (b : Fin 16) : RefTrip.s0 m' c b = KerValue.scores m c b := by
  funext p
  refine (congrFun (Entry.reference_scores m' c) (ix2 b p)).trans ?_
  refine Eq.trans ?_ (congrFun (Entry.kernel_scores m c (launchContents m' c)) (ix3 b 0 p)).symm
  exact (Entry.scores_layout _ b p Cert.KernelIdeal.Facts₀.shapeCasts_S16x16384_S16x1x16384).symm

/-- Under the precondition the features are real numbers. -/
theorem feats_finite (h : Cert.Pre_KernelIdeal_finite (hPre_finite := facts_finite) m) (b : Fin 16) : Round.Finite (KerValue.feats m c b) := by
  choose a ha using real_of_pre (given m c) _ (h c)
  refine ⟨fun d p => shapeCast Cert.KernelIdeal.S16x64x16384 a Cert.KernelIdeal.Facts₀.shapeCasts_S16x64x128x128_S16x64x16384 (ix3 b d p), ?_⟩
  funext d p
  rw [feats_given]
  exact ha _

/-! ## The results -/

theorem vecs_same (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    (finalContents Cert.ReferenceIdeal.Run.condOps Cert.ReferenceIdeal.Run.preI Cert.ReferenceIdeal.Run.bodyI Cert.ReferenceIdeal.Run.postI 8 m' c
      (Proc.devRef .tc Cert.ReferenceIdeal.main_v13) : Cert.KernelIdeal.S16x8x64.Idx → EReal) = KerValue.vecsAll m c := by
  funext y
  obtain ⟨b, j, q, rfl⟩ : ∃ (b : Fin 16) (j : Fin 8) (q : Fin 64), y = ix3 b j q := ⟨y 0, y 1, y 2, by funext a; fin_cases a <;> rfl⟩
  refine (RefTrip.final_vecs m' c b j q).trans ?_
  rw [feats_same m m' c h, scores_same m m' c]
  rfl

theorem sims_same (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    (finalContents Cert.ReferenceIdeal.Run.condOps Cert.ReferenceIdeal.Run.preI Cert.ReferenceIdeal.Run.bodyI Cert.ReferenceIdeal.Run.postI 8 m' c
      (Proc.devRef .tc Cert.ReferenceIdeal.main_v14) : Cert.KernelIdeal.S16x8x16384.Idx → EReal) = KerValue.simsAll m c := by
  funext y
  obtain ⟨b, j, q, rfl⟩ : ∃ (b : Fin 16) (j : Fin 8) (q : Fin 16384), y = ix3 b j q := ⟨y 0, y 1, y 2, by funext a; fin_cases a <;> rfl⟩
  refine (RefTrip.final_rows m' c b j q).trans ?_
  rw [feats_same m m' c h, scores_same m m' c]
  rfl

theorem algebraic : Cert.algebraic_KernelIdeal_ReferenceIdeal_pre_finite (hPre_finite := facts_finite) := by
  intro m g m' g' hpre hargs
  refine ⟨fun c => KerValue.vecsAll m c, fun c => KerValue.simsAll m c, fun _ _ => Ideal.ofBits .f32 0x00000000#32, ?_, ?_⟩
  · refine (θ_run Cert.KernelIdeal.defs _ _).mono (fun r h c => ⟨?_, ?_, ?_, ?_, ?_⟩) (run_main m g)
    · exact (Cert.KernelIdeal.Value.post2 m r h c).trans (KerValue.arr_vecs m c (feats_finite m c hpre))
    · exact (Cert.KernelIdeal.Value.post3 m r h c).trans (KerValue.arr_sims m c (feats_finite m c hpre))
    · exact ((h c).2 Cert.KernelIdeal.main_v10 (Pipeline.mem_restRefs_of Cert.KernelIdeal.main_v10 (by decide) (by decide))).trans (Entry.kernel_zeros m c)
    · exact Cert.KernelIdeal.Value.kept_main_arg0 m r h c
    · exact Cert.KernelIdeal.Value.kept_main_arg1 m r h c
  · refine (θ_run Cert.ReferenceIdeal.defs _ _).mono (fun r h c => ⟨?_, ?_, ?_, ?_, ?_⟩) (Cert.ReferenceIdeal.Run.run_fold m' g')
    · exact (h c Cert.ReferenceIdeal.main_v13 rfl).trans (vecs_same m m' c (hargs c).1)
    · exact (h c Cert.ReferenceIdeal.main_v14 rfl).trans (sims_same m m' c (hargs c).1)
    · exact (h c Cert.ReferenceIdeal.main_v16 rfl).trans (Entry.reference_zeros _)
    · exact (h c Cert.ReferenceIdeal.main_arg0 rfl).trans (final_arg0 m' c)
    · exact (h c Cert.ReferenceIdeal.main_arg1 rfl).trans (final_arg1 m' c)

end Cert.Proof
end
-- ==== Proof.lean ====
module

public import proofs.«01_k».proof.Defs
public import proofs.«01_k».proof.Proof.Gen.KernelIdeal.Value
public import proofs.«01_k».proof.Proof.Frames
public import proofs.«01_k».proof.Proof.Finite
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, facts_finite,
    fun m ρ _ => Cert.Kernel.Gen.frame m ρ, fun m ρ _ => Cert.KernelIdeal.Gen.frame m ρ, fun m ρ _ => Cert.KernelIdeal.Gen.frame m ρ,
    fun m ρ _ => frame_reference m ρ, fun m ρ _ => frame_reference m ρ, preserves, algebraic⟩

end Cert.Proof

end
